-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_qk [hPre_finite_qk : Cert.Pre_finite_qk.Facts] (m : (ℓ : Loc Cert.GqaIdeal.nD Cert.GqaIdeal.τ Cert.GqaIdeal.sig) → Buf (Elt Ideal) ℓ) : Prop :=
  ∀ c : Dev Cert.GqaIdeal.nD,
    (Cert.Pre_finite_qk.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).1 = (fun _ => 1#1)
    ∧ (Cert.Pre_finite_qk.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_qk [hPre_finite_qk : Cert.Pre_finite_qk.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_qk.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).1 = (fun _ => 1#1)
    ∧ (Cert.Pre_finite_qk.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17)) (m ((c.tc : Thread Cert.MixIdeal.nD Cert.MixIdeal.τ).loc Cert.MixIdeal.main_arg18))).1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17)) (m ((c.tc : Thread Cert.MixIdeal.nD Cert.MixIdeal.τ).loc Cert.MixIdeal.main_arg18))).2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17)) (m ((c.tc : Thread Cert.MixIdeal.nD Cert.MixIdeal.τ).loc Cert.MixIdeal.main_arg18))).2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17)) (m ((c.tc : Thread Cert.MixIdeal.nD Cert.MixIdeal.τ).loc Cert.MixIdeal.main_arg18))).2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17)) (m ((c.tc : Thread Cert.MixIdeal.nD Cert.MixIdeal.τ).loc Cert.MixIdeal.main_arg18))).2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17)) (m ((c.tc : Thread Cert.MixRefIdeal.nD Cert.MixRefIdeal.τ).loc Cert.MixRefIdeal.main_arg18))).1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17)) (m ((c.tc : Thread Cert.MixRefIdeal.nD Cert.MixRefIdeal.τ).loc Cert.MixRefIdeal.main_arg18))).2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17)) (m ((c.tc : Thread Cert.MixRefIdeal.nD Cert.MixRefIdeal.τ).loc Cert.MixRefIdeal.main_arg18))).2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17)) (m ((c.tc : Thread Cert.MixRefIdeal.nD Cert.MixRefIdeal.τ).loc Cert.MixRefIdeal.main_arg18))).2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17)) (m ((c.tc : Thread Cert.MixRefIdeal.nD Cert.MixRefIdeal.τ).loc Cert.MixRefIdeal.main_arg18))).2.2.2.2 = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3))).1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3))).2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3))).1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3))).2 = (fun _ => 1#1)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_qk [hGqaIdeal : Cert.GqaIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_qk m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_qk [hGqaRefIdeal : Cert.GqaRefIdeal.Facts] [hPre_finite_qk : Cert.Pre_finite_qk.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_qk m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17)
      ∧ r.2.mem ((c.tc : Thread Cert.Mix.nD Cert.Mix.τ).loc Cert.Mix.main_arg18) = m ((c.tc : Thread Cert.Mix.nD Cert.Mix.τ).loc Cert.Mix.main_arg18))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17)
      ∧ r.2.mem ((c.tc : Thread Cert.MixRefIdeal.nD Cert.MixRefIdeal.τ).loc Cert.MixRefIdeal.main_arg18) = m ((c.tc : Thread Cert.MixRefIdeal.nD Cert.MixRefIdeal.τ).loc Cert.MixRefIdeal.main_arg18))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17)
      ∧ r.2.mem ((c.tc : Thread Cert.MixRefIdeal.nD Cert.MixRefIdeal.τ).loc Cert.MixRefIdeal.main_arg18) = m ((c.tc : Thread Cert.MixRefIdeal.nD Cert.MixRefIdeal.τ).loc Cert.MixRefIdeal.main_arg18))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Gqa_GqaIdeal : Prop :=
  True

def algebraic_GqaIdeal_GqaRefIdeal_pre_finite_qk [hGqaIdeal : Cert.GqaIdeal.Facts] [hGqaRefIdeal : Cert.GqaRefIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_qk m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v14)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v14) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v19) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v63) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)
      ∧ m' ((c.tc : Thread Cert.MixRefIdeal.nD Cert.MixRefIdeal.τ).loc Cert.MixRefIdeal.main_arg18) = m ((c.tc : Thread Cert.MixIdeal.nD Cert.MixIdeal.τ).loc Cert.MixIdeal.main_arg18)) →
    ∃ (v0 : (c : Dev Cert.MixIdeal.nD) → Buf (Elt Ideal) ((c.tc : Thread Cert.MixIdeal.nD Cert.MixIdeal.τ).loc Cert.MixIdeal.main_v27)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v27) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
          ∧ r.2.mem ((c.tc : Thread Cert.MixIdeal.nD Cert.MixIdeal.τ).loc Cert.MixIdeal.main_arg18) = m ((c.tc : Thread Cert.MixIdeal.nD Cert.MixIdeal.τ).loc Cert.MixIdeal.main_arg18))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v124) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17)
          ∧ r.2.mem ((c.tc : Thread Cert.MixRefIdeal.nD Cert.MixRefIdeal.τ).loc Cert.MixRefIdeal.main_arg18) = m' ((c.tc : Thread Cert.MixRefIdeal.nD Cert.MixRefIdeal.τ).loc Cert.MixRefIdeal.main_arg18))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v2_0)) (v1 : (c : Dev Cert.MemkvIdeal.nD) → Buf (Elt Ideal) ((c.tc : Thread Cert.MemkvIdeal.nD Cert.MemkvIdeal.τ).loc Cert.MemkvIdeal.main_v2_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v2_0) = v0 c
          ∧ r.2.mem ((c.tc : Thread Cert.MemkvIdeal.nD Cert.MemkvIdeal.τ).loc Cert.MemkvIdeal.main_v2_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v1) = v0 c
          ∧ r.2.mem ((c.tc : Thread Cert.MemkvRefIdeal.nD Cert.MemkvRefIdeal.τ).loc Cert.MemkvRefIdeal.main_v3) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Proj_ProjIdeal : Prop :=
  True

def algebraic_ProjIdeal_ProjRefIdeal_pre_finite_proj [hProjIdeal : Cert.ProjIdeal.Facts] [hProjRefIdeal : Cert.ProjRefIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_proj m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v93_0)) (v1 : (c : Dev Cert.ProjIdeal.nD) → Buf (Elt Ideal) ((c.tc : Thread Cert.ProjIdeal.nD Cert.ProjIdeal.τ).loc Cert.ProjIdeal.main_v93_1)) (v2 : (c : Dev Cert.ProjIdeal.nD) → Buf (Elt Ideal) ((c.tc : Thread Cert.ProjIdeal.nD Cert.ProjIdeal.τ).loc Cert.ProjIdeal.main_v93_2)) (v3 : (c : Dev Cert.ProjIdeal.nD) → Buf (Elt Ideal) ((c.tc : Thread Cert.ProjIdeal.nD Cert.ProjIdeal.τ).loc Cert.ProjIdeal.main_v93_3)) (v4 : (c : Dev Cert.ProjIdeal.nD) → Buf (Elt Ideal) ((c.tc : Thread Cert.ProjIdeal.nD Cert.ProjIdeal.τ).loc Cert.ProjIdeal.main_v93_4)) (v5 : (c : Dev Cert.ProjIdeal.nD) → Buf (Elt Ideal) ((c.tc : Thread Cert.ProjIdeal.nD Cert.ProjIdeal.τ).loc Cert.ProjIdeal.main_v93_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v93_0) = v0 c
          ∧ r.2.mem ((c.tc : Thread Cert.ProjIdeal.nD Cert.ProjIdeal.τ).loc Cert.ProjIdeal.main_v93_1) = v1 c
          ∧ r.2.mem ((c.tc : Thread Cert.ProjIdeal.nD Cert.ProjIdeal.τ).loc Cert.ProjIdeal.main_v93_2) = v2 c
          ∧ r.2.mem ((c.tc : Thread Cert.ProjIdeal.nD Cert.ProjIdeal.τ).loc Cert.ProjIdeal.main_v93_3) = v3 c
          ∧ r.2.mem ((c.tc : Thread Cert.ProjIdeal.nD Cert.ProjIdeal.τ).loc Cert.ProjIdeal.main_v93_4) = v4 c
          ∧ r.2.mem ((c.tc : Thread Cert.ProjIdeal.nD Cert.ProjIdeal.τ).loc Cert.ProjIdeal.main_v93_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v265) = v0 c
          ∧ r.2.mem ((c.tc : Thread Cert.ProjRefIdeal.nD Cert.ProjRefIdeal.τ).loc Cert.ProjRefIdeal.main_v267) = v1 c
          ∧ r.2.mem ((c.tc : Thread Cert.ProjRefIdeal.nD Cert.ProjRefIdeal.τ).loc Cert.ProjRefIdeal.main_v268) = v2 c
          ∧ r.2.mem ((c.tc : Thread Cert.ProjRefIdeal.nD Cert.ProjRefIdeal.τ).loc Cert.ProjRefIdeal.main_v270) = v3 c
          ∧ r.2.mem ((c.tc : Thread Cert.ProjRefIdeal.nD Cert.ProjRefIdeal.τ).loc Cert.ProjRefIdeal.main_v272) = v4 c
          ∧ r.2.mem ((c.tc : Thread Cert.ProjRefIdeal.nD Cert.ProjRefIdeal.τ).loc Cert.ProjRefIdeal.main_v273) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hGqa : Cert.Gqa.Facts) (hGqaIdeal : Cert.GqaIdeal.Facts) (hGqaRefIdeal : Cert.GqaRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hMemkv : Cert.Memkv.Facts) (hMemkvIdeal : Cert.MemkvIdeal.Facts) (hMemkvRefIdeal : Cert.MemkvRefIdeal.Facts) (hProj : Cert.Proj.Facts) (hProjIdeal : Cert.ProjIdeal.Facts) (hProjRefIdeal : Cert.ProjRefIdeal.Facts) (hPre_finite_qk : Cert.Pre_finite_qk.Facts) (hPre_finite_mix : Cert.Pre_finite_mix.Facts) (hPre_finite_proj : Cert.Pre_finite_proj.Facts),
    quiescent_Gqa (hGqa := hGqa)
    ∧ quiescent_GqaIdeal (hGqaIdeal := hGqaIdeal)
    ∧ quiescent_GqaIdeal_pre_finite_qk (hGqaIdeal := hGqaIdeal) (hPre_finite_qk := hPre_finite_qk)
    ∧ quiescent_GqaRefIdeal (hGqaRefIdeal := hGqaRefIdeal)
    ∧ quiescent_GqaRefIdeal_pre_finite_qk (hGqaRefIdeal := hGqaRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ preserves_Gqa_GqaIdeal
    ∧ algebraic_GqaIdeal_GqaRefIdeal_pre_finite_qk (hGqaIdeal := hGqaIdeal) (hGqaRefIdeal := hGqaRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Memkv_MemkvIdeal
    ∧ algebraic_MemkvIdeal_MemkvRefIdeal (hMemkvIdeal := hMemkvIdeal) (hMemkvRefIdeal := hMemkvRefIdeal)
    ∧ preserves_Proj_ProjIdeal
    ∧ algebraic_ProjIdeal_ProjRefIdeal_pre_finite_proj (hProjIdeal := hProjIdeal) (hProjRefIdeal := hProjRefIdeal) (hPre_finite_proj := hPre_finite_proj)
-- ==== Pre_finite_mix.lean ====
abbrev S8x8192x1024 : Shape := ⟨3, ![8, 8192, 1024]⟩
abbrev S8x8192x8x64 : Shape := ⟨4, ![8, 8192, 8, 64]⟩
abbrev S8x8192x8 : Shape := ⟨3, ![8, 8192, 8]⟩
abbrev S8x8192x512 : Shape := ⟨3, ![8, 8192, 512]⟩
abbrev S8x256x1024 : Shape := ⟨3, ![8, 256, 1024]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S8x8192x8 : S_.BroadcastsInDim S8x8192x8 (![] : Fin 0 → Fin S8x8192x8.rank)
  bcast_S_S8x256x1024 : S_.BroadcastsInDim S8x256x1024 (![] : Fin 0 → Fin S8x256x1024.rank)
  bcast_S_S1024x1024 : S_.BroadcastsInDim S1024x1024 (![] : Fin 0 → Fin S1024x1024.rank)

variable [Facts]

def fn_part1 {F : FTy → Type} [FloatOps F] (main_arg8 : FVec F S8x256x1024 .f32) (main_arg15 : FVec F S1024x1024 .f32) (main_v4 : IVec S8x8192x8 1) (main_v9 : IVec S8x8192x8 1) (main_v14 : IVec S8x8192x8 1) (main_v16 : IVec S8x256x1024 1) : IVec S8x8192x8 1 × IVec S8x8192x8 1 × IVec S8x8192x8 1 × IVec S8x256x1024 1 × IVec S1024x1024 1 :=
  let main_cst_6 : FVec F S_ .f32 := constant S_ .f32 0x7F800000#32
  let main_v17 : FVec F S8x256x1024 .f32 := broadcastInDim S8x256x1024 ![] bcast_S_S8x256x1024 main_cst_6
  let main_v18 : IVec S8x256x1024 1 := cmpf .olt main_arg8 main_v17
  let main_v19 : IVec S8x256x1024 1 := andi main_v16 main_v18
  let main_cst_7 : FVec F S_ .f32 := constant S_ .f32 0xFF800000#32
  let main_v20 : FVec F S1024x1024 .f32 := broadcastInDim S1024x1024 ![] bcast_S_S1024x1024 main_cst_7
  let main_v21 : IVec S1024x1024 1 := cmpf .ogt main_arg15 main_v20
  let main_cst_8 : FVec F S_ .f32 := constant S_ .f32 0x7F800000#32
  let main_v22 : FVec F S1024x1024 .f32 := broadcastInDim S1024x1024 ![] bcast_S_S1024x1024 main_cst_8
  let main_v23 : IVec S1024x1024 1 := cmpf .olt main_arg15 main_v22
  let main_v24 : IVec S1024x1024 1 := andi main_v21 main_v23
  (main_v4, main_v9, main_v14, main_v19, main_v24)

def fn {F : FTy → Type} [FloatOps F] (main_arg0 : FVec F S8x8192x1024 .f32) (main_arg1 : FVec F S8x8192x8x64 .f32) (main_arg2 : FVec F S8x8192x8x64 .f32) (main_arg3 : FVec F S8x8192x8x64 .f32) (main_arg4 : FVec F S8x8192x8 .f32) (main_arg5 : FVec F S8x8192x8 .f32) (main_arg6 : FVec F S8x8192x8 .f32) (main_arg7 : FVec F S8x8192x512 .f32) (main_arg8 : FVec F S8x256x1024 .f32) (main_arg9 : FVec F S8x256x1024 .f32) (main_arg10 : FVec F S512 .f32) (main_arg11 : FVec F S512 .f32) (main_arg12 : FVec F S1024x1024 .f32) (main_arg13 : FVec F S1024 .f32) (main_arg14 : FVec F S1024 .f32) (main_arg15 : FVec F S1024x1024 .f32) (main_arg16 : FVec F S1024x1024 .f32) (main_arg17 : FVec F S1024 .f32) (main_arg18 : FVec F S1024 .f32) : IVec S8x8192x8 1 × IVec S8x8192x8 1 × IVec S8x8192x8 1 × IVec S8x256x1024 1 × IVec S1024x1024 1 :=
  let main_cst : FVec F S_ .f32 := constant S_ .f32 0xFF800000#32
  let main_v0 : FVec F S8x8192x8 .f32 := broadcastInDim S8x8192x8 ![] bcast_S_S8x8192x8 main_cst
  let main_v1 : IVec S8x8192x8 1 := cmpf .ogt main_arg4 main_v0
  let main_cst_0 : FVec F S_ .f32 := constant S_ .f32 0x7F800000#32
  let main_v2 : FVec F S8x8192x8 .f32 := broadcastInDim S8x8192x8 ![] bcast_S_S8x8192x8 main_cst_0
  let main_v3 : IVec S8x8192x8 1 := cmpf .olt main_arg4 main_v2
  let main_v4 : IVec S8x8192x8 1 := andi main_v1 main_v3
  let main_cst_1 : FVec F S_ .f32 := constant S_ .f32 0xFF800000#32
  let main_v5 : FVec F S8x8192x8 .f32 := broadcastInDim S8x8192x8 ![] bcast_S_S8x8192x8 main_cst_1
  let main_v6 : IVec S8x8192x8 1 := cmpf .ogt main_arg5 main_v5
  let main_cst_2 : FVec F S_ .f32 := constant S_ .f32 0x7F800000#32
  let main_v7 : FVec F S8x8192x8 .f32 := broadcastInDim S8x8192x8 ![] bcast_S_S8x8192x8 main_cst_2
  let main_v8 : IVec S8x8192x8 1 := cmpf .olt main_arg5 main_v7
  let main_v9 : IVec S8x8192x8 1 := andi main_v6 main_v8
  let main_cst_3 : FVec F S_ .f32 := constant S_ .f32 0xFF800000#32
  let main_v10 : FVec F S8x8192x8 .f32 := broadcastInDim S8x8192x8 ![] bcast_S_S8x8192x8 main_cst_3
  let main_v11 : IVec S8x8192x8 1 := cmpf .ogt main_arg6 main_v10
  let main_cst_4 : FVec F S_ .f32 := constant S_ .f32 0x7F800000#32
  let main_v12 : FVec F S8x8192x8 .f32 := broadcastInDim S8x8192x8 ![] bcast_S_S8x8192x8 main_cst_4
  let main_v13 : IVec S8x8192x8 1 := cmpf .olt main_arg6 main_v12
  let main_v14 : IVec S8x8192x8 1 := andi main_v11 main_v13
  let main_cst_5 : FVec F S_ .f32 := constant S_ .f32 0xFF800000#32
  let main_v15 : FVec F S8x256x1024 .f32 := broadcastInDim S8x256x1024 ![] bcast_S_S8x256x1024 main_cst_5
  let main_v16 : IVec S8x256x1024 1 := cmpf .ogt main_arg8 main_v15
  fn_part1 (F := F) main_arg8 main_arg15 main_v4 main_v9 main_v14 main_v16
-- ==== Pre_finite_proj.lean ====
abbrev S8x8192x1024 : Shape := ⟨3, ![8, 8192, 1024]⟩
abbrev S1024x2304 : Shape := ⟨2, ![1024, 2304]⟩
abbrev S64 : Shape := ⟨1, ![64]⟩
abbrev S1024x640 : Shape := ⟨2, ![1024, 640]⟩
abbrev S_ : Shape := ⟨0, ![]⟩

class Facts : Prop where
  slices_S1024x2304_S1024x640_0_1536 : S1024x2304.Slices ![0, 1536] S1024x640
  bcast_S_S8x8192x1024 : S_.BroadcastsInDim S8x8192x1024 (![] : Fin 0 → Fin S8x8192x1024.rank)
  bcast_S_S1024x640 : S_.BroadcastsInDim S1024x640 (![] : Fin 0 → Fin S1024x640.rank)

variable [Facts]

def fn {F : FTy → Type} [FloatOps F] (main_arg0 : FVec F S8x8192x1024 .f32) (main_arg1 : FVec F S1024x2304 .f32) (main_arg2 : FVec F S64 .f32) (main_arg3 : FVec F S64 .f32) : IVec S8x8192x1024 1 × IVec S1024x640 1 :=
  let main_v0 : FVec F S1024x640 .f32 := (extractStridedSlice S1024x640 ![0, 1536] · slices_S1024x2304_S1024x640_0_1536) main_arg1
  let main_cst : FVec F S_ .f32 := constant S_ .f32 0xFF800000#32
  let main_v1 : FVec F S8x8192x1024 .f32 := broadcastInDim S8x8192x1024 ![] bcast_S_S8x8192x1024 main_cst
  let main_v2 : IVec S8x8192x1024 1 := cmpf .ogt main_arg0 main_v1
  let main_cst_0 : FVec F S_ .f32 := constant S_ .f32 0x7F800000#32
  let main_v3 : FVec F S8x8192x1024 .f32 := broadcastInDim S8x8192x1024 ![] bcast_S_S8x8192x1024 main_cst_0
  let main_v4 : IVec S8x8192x1024 1 := cmpf .olt main_arg0 main_v3
  let main_v5 : IVec S8x8192x1024 1 := andi main_v2 main_v4
  let main_cst_1 : FVec F S_ .f32 := constant S_ .f32 0xFF800000#32
  let main_v6 : FVec F S1024x640 .f32 := broadcastInDim S1024x640 ![] bcast_S_S1024x640 main_cst_1
  let main_v7 : IVec S1024x640 1 := cmpf .ogt main_v0 main_v6
  let main_cst_2 : FVec F S_ .f32 := constant S_ .f32 0x7F800000#32
  let main_v8 : FVec F S1024x640 .f32 := broadcastInDim S1024x640 ![] bcast_S_S1024x640 main_cst_2
  let main_v9 : IVec S1024x640 1 := cmpf .olt main_v0 main_v8
  let main_v10 : IVec S1024x640 1 := andi main_v7 main_v9
  (main_v5, main_v10)
-- ==== Pre_finite_qk.lean ====
abbrev S8x8192x8x64 : Shape := ⟨4, ![8, 8192, 8, 64]⟩
abbrev S8x8192x2x64 : Shape := ⟨4, ![8, 8192, 2, 64]⟩
abbrev S_ : Shape := ⟨0, ![]⟩

class Facts : Prop where
  bcast_S_S8x8192x8x64 : S_.BroadcastsInDim S8x8192x8x64 (![] : Fin 0 → Fin S8x8192x8x64.rank)
  bcast_S_S8x8192x2x64 : S_.BroadcastsInDim S8x8192x2x64 (![] : Fin 0 → Fin S8x8192x2x64.rank)

variable [Facts]

def fn {F : FTy → Type} [FloatOps F] (main_arg0 : FVec F S8x8192x8x64 .f32) (main_arg1 : FVec F S8x8192x2x64 .f32) (main_arg2 : FVec F S8x8192x2x64 .f32) : IVec S8x8192x8x64 1 × IVec S8x8192x2x64 1 :=
  let main_cst : FVec F S_ .f32 := constant S_ .f32 0xFF800000#32
  let main_v0 : FVec F S8x8192x8x64 .f32 := broadcastInDim S8x8192x8x64 ![] bcast_S_S8x8192x8x64 main_cst
  let main_v1 : IVec S8x8192x8x64 1 := cmpf .ogt main_arg0 main_v0
  let main_cst_0 : FVec F S_ .f32 := constant S_ .f32 0x7F800000#32
  let main_v2 : FVec F S8x8192x8x64 .f32 := broadcastInDim S8x8192x8x64 ![] bcast_S_S8x8192x8x64 main_cst_0
  let main_v3 : IVec S8x8192x8x64 1 := cmpf .olt main_arg0 main_v2
  let main_v4 : IVec S8x8192x8x64 1 := andi main_v1 main_v3
  let main_cst_1 : FVec F S_ .f32 := constant S_ .f32 0xFF800000#32
  let main_v5 : FVec F S8x8192x2x64 .f32 := broadcastInDim S8x8192x2x64 ![] bcast_S_S8x8192x2x64 main_cst_1
  let main_v6 : IVec S8x8192x2x64 1 := cmpf .ogt main_arg1 main_v5
  let main_cst_2 : FVec F S_ .f32 := constant S_ .f32 0x7F800000#32
  let main_v7 : FVec F S8x8192x2x64 .f32 := broadcastInDim S8x8192x2x64 ![] bcast_S_S8x8192x2x64 main_cst_2
  let main_v8 : IVec S8x8192x2x64 1 := cmpf .olt main_arg1 main_v7
  let main_v9 : IVec S8x8192x2x64 1 := andi main_v6 main_v8
  (main_v4, main_v9)
-- ==== Gqa.lean ====
abbrev S8x8192x8x64 : Shape := ⟨4, ![8, 8192, 8, 64]⟩
abbrev S8x8192x2x64 : Shape := ⟨4, ![8, 8192, 2, 64]⟩
abbrev S_ : Shape := ⟨0, ![]⟩
abbrev S8x8192x4x64 : Shape := ⟨4, ![8, 8192, 4, 64]⟩
abbrev S8x8192x4x128 : Shape := ⟨4, ![8, 8192, 4, 128]⟩
abbrev S8x8192x8x128 : Shape := ⟨4, ![8, 8192, 8, 128]⟩
abbrev S8x8192x1024 : Shape := ⟨3, ![8, 8192, 1024]⟩
abbrev S8x8192x128 : Shape := ⟨3, ![8, 8192, 128]⟩
abbrev S8x8192x512 : Shape := ⟨3, ![8, 8192, 512]⟩
abbrev S1x256x256 : Shape := ⟨3, ![1, 256, 256]⟩
abbrev S1x8192x128 : Shape := ⟨3, ![1, 8192, 128]⟩
abbrev S1x256x128 : Shape := ⟨3, ![1, 256, 128]⟩
abbrev S256x128 : Shape := ⟨2, ![256, 128]⟩
abbrev S512x128 : Shape := ⟨2, ![512, 128]⟩
abbrev S512x1 : Shape := ⟨2, ![512, 1]⟩
abbrev S1x512x128 : Shape := ⟨3, ![1, 512, 128]⟩
abbrev S512x512 : Shape := ⟨2, ![512, 512]⟩
abbrev S512 : Shape := ⟨1, ![512]⟩

abbrev nBuf : Space → Nat
  | .hbm => 20
  | .vmem => 8
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x64, .f32⟩
  | .hbm, ⟨2, _⟩ => ⟨S8x8192x2x64, .f32⟩
  | .hbm, ⟨3, _⟩ => ⟨S_, .f32⟩
  | .hbm, ⟨4, _⟩ => ⟨S8x8192x8x64, .f32⟩
  | .hbm, ⟨5, _⟩ => ⟨S8x8192x8x64, .f32⟩
  | .hbm, ⟨6, _⟩ => ⟨S8x8192x8x64, .bf16⟩
  | .hbm, ⟨7, _⟩ => ⟨S_, .bf16⟩
  | .hbm, ⟨8, _⟩ => ⟨S8x8192x4x64, .bf16⟩
  | .hbm, ⟨9, _⟩ => ⟨S8x8192x4x64, .bf16⟩
  | .hbm, ⟨10, _⟩ => ⟨S8x8192x4x128, .bf16⟩
  | .hbm, ⟨11, _⟩ => ⟨S8x8192x4x64, .bf16⟩
  | .hbm, ⟨12, _⟩ => ⟨S8x8192x4x128, .bf16⟩
  | .hbm, ⟨13, _⟩ => ⟨S8x8192x8x128, .bf16⟩
  | .hbm, ⟨14, _⟩ => ⟨S8x8192x1024, .bf16⟩
  | .hbm, ⟨15, _⟩ => ⟨S8x8192x2x64, .bf16⟩
  | .hbm, ⟨16, _⟩ => ⟨S8x8192x128, .bf16⟩
  | .hbm, ⟨17, _⟩ => ⟨S8x8192x2x64, .bf16⟩
  | .hbm, ⟨18, _⟩ => ⟨S8x8192x128, .bf16⟩
  | .hbm, ⟨19, _⟩ => ⟨S8x8192x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 32, 4], ![false, false, false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v27 : BitVec 32 := Scalar.muli arg7 c512_i32
  v27
def k0_off1 (k0_t1 : Fin k0_t1_loop.trips) : Fin 3 → Nat :=
  let c0_12 : Index := 0#32
  let c0_i32 : BitVec 32 := 0#32
  let c1_i32 : BitVec 32 := 1#32
  let arg7 : BitVec 32 := Scf.iv c0_i32 c1_i32 k0_t1
  let c512_i32 : BitVec 32 := 512#32
  let v27 : BitVec 32 := Scalar.muli arg7 c512_i32
  let v28 : BitVec 32 := v27
  let v29 : Index := Scalar.indexCast v28
  let c0_13 : Index := 0#32
  ![0, v29.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S8x8192x8x64 : Shape := ⟨4, ![8, 8192, 8, 64]⟩
abbrev S8x8192x2x64 : Shape := ⟨4, ![8, 8192, 2, 64]⟩
abbrev S8x8192x2x4x64 : Shape := ⟨5, ![8, 8192, 2, 4, 64]⟩
abbrev S8x2x8192x8192x4 : Shape := ⟨5, ![8, 2, 8192, 8192, 4]⟩
abbrev S8x2x4x8192x8192 : Shape := ⟨5, ![8, 2, 4, 8192, 8192]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩
abbrev S8x8192x512 : Shape := ⟨3, ![8, 8192, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x64, .f32⟩
  | .hbm, ⟨2, _⟩ => ⟨S8x8192x2x64, .f32⟩
  | .hbm, ⟨3, _⟩ => ⟨S8x8192x2x4x64, .f32⟩
  | .hbm, ⟨4, _⟩ => ⟨S8x2x8192x8192x4, .f32⟩
  | .hbm, ⟨5, _⟩ => ⟨S8x2x4x8192x8192, .f32⟩
  | .hbm, ⟨6, _⟩ => ⟨S_, .f32⟩
  | .hbm, ⟨7, _⟩ => ⟨S8x2x4x8192x8192, .f32⟩
  | .hbm, ⟨8, _⟩ => ⟨S8x2x4x8192x8192, .f32⟩
  | .hbm, ⟨9, _⟩ => ⟨S_, .f32⟩
  | .hbm, ⟨10, _⟩ => ⟨S8x2x4x8192, .f32⟩
  | .hbm, ⟨11, _⟩ => ⟨S_, .f32⟩
  | .hbm, ⟨12, _⟩ => ⟨S8x2x4x8192, .f32⟩
  | .hbm, ⟨13, _⟩ => ⟨S8x2x4x8192, .f32⟩
  | .hbm, ⟨14, _⟩ => ⟨S8x2x4x8192x1, .f32⟩
  | .hbm, ⟨15, _⟩ => ⟨S8x2x4x8192x8192, .f32⟩
  | .hbm, ⟨16, _⟩ => ⟨S8x2x4x8192x8192, .f32⟩
  | .hbm, ⟨17, _⟩ => ⟨S8x2x4x8192x8192, .f32⟩
  | .hbm, ⟨18, _⟩ => ⟨S_, .f32⟩
  | .hbm, ⟨19, _⟩ => ⟨S8x2x4x8192, .f32⟩
  | .hbm, ⟨20, _⟩ => ⟨S8x2x4x8192x1, .f32⟩
  | .hbm, ⟨21, _⟩ => ⟨S8x2x4x8192x8192, .f32⟩
  | .hbm, ⟨22, _⟩ => ⟨S8x2x4x8192x8192, .f32⟩
  | .hbm, ⟨23, _⟩ => ⟨S8x2x64x4x8192, .f32⟩
  | .hbm, ⟨24, _⟩ => ⟨S8x8192x2x4x64, .f32⟩
  | .hbm, ⟨25, _⟩ => ⟨S8x8192x512, .f32⟩
  | .hbm, ⟨26, _⟩ => ⟨S8x8192x512, .bf16⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Ffn.lean ====
abbrev S8x8192x1024 : Shape := ⟨3, ![8, 8192, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S1x1024 : Shape := ⟨2, ![1, 1024]⟩
abbrev S1x512x1024 : Shape := ⟨3, ![1, 512, 1024]⟩
abbrev S1x8x1024 : Shape := ⟨3, ![1, 8, 1024]⟩
abbrev S512x2816 : Shape := ⟨2, ![512, 2816]⟩
abbrev S512x1024 : Shape := ⟨2, ![512, 1024]⟩
abbrev S8x1024 : Shape := ⟨2, ![8, 1024]⟩
abbrev S528x1024 : Shape := ⟨2, ![528, 1024]⟩
abbrev S1024x256 : Shape := ⟨2, ![1024, 256]⟩
abbrev S528x256 : Shape := ⟨2, ![528, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x5632, .bf16⟩
  | .hbm, ⟨8, _⟩ => ⟨S1x2816, .f32⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x5632, .bf16⟩
  | .local _ .vmem, ⟨7, _⟩ => ⟨S3x2816, .f32⟩
  | .local _ .vmem, ⟨8, _⟩ => ⟨S1x2816, .f32⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x2816, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S8x8192x1024 : Shape := ⟨3, ![8, 8192, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S8x8192x5632 : Shape := ⟨3, ![8, 8192, 5632]⟩
abbrev S8x8192x2816 : Shape := ⟨3, ![8, 8192, 2816]⟩
abbrev S_ : Shape := ⟨0, ![]⟩
abbrev S8x8194x2816 : Shape := ⟨3, ![8, 8194, 2816]⟩
abbrev S1x2816 : Shape := ⟨2, ![1, 2816]⟩
abbrev S1x1x2816 : Shape := ⟨3, ![1, 1, 2816]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S8x8192x5632, .f32⟩
  | .hbm, ⟨8, _⟩ => ⟨S8x8192x2816, .f32⟩
  | .hbm, ⟨9, _⟩ => ⟨S8x8192x2816, .f32⟩
  | .hbm, ⟨10, _⟩ => ⟨S_, .i32⟩
  | .hbm, ⟨11, _⟩ => ⟨S_, .f32⟩
  | .hbm, ⟨12, _⟩ => ⟨S8x8194x2816, .f32⟩
  | .hbm, ⟨13, _⟩ => ⟨S8x8192x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S8x8192x2816, .f32⟩
  | .hbm, ⟨18, _⟩ => ⟨S8x8192x2816, .f32⟩
  | .hbm, ⟨19, _⟩ => ⟨S8x8192x2816, .f32⟩
  | .hbm, ⟨20, _⟩ => ⟨S1x2816, .f32⟩
  | .hbm, ⟨21, _⟩ => ⟨S2816, .f32⟩
  | .hbm, ⟨22, _⟩ => ⟨S1x1x2816, .f32⟩
  | .hbm, ⟨23, _⟩ => ⟨S8x8192x2816, .f32⟩
  | .hbm, ⟨24, _⟩ => ⟨S8x8192x2816, .f32⟩
  | .hbm, ⟨25, _⟩ => ⟨S8x8192x2816, .f32⟩
  | .hbm, ⟨26, _⟩ => ⟨S8x8192x2816, .f32⟩
  | .hbm, ⟨27, _⟩ => ⟨S1x2816, .f32⟩
  | .hbm, ⟨28, _⟩ => ⟨S2816, .f32⟩
  | .hbm, ⟨29, _⟩ => ⟨S1x1x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S1x1x2816, .f32⟩
  | .hbm, ⟨34, _⟩ => ⟨S8x8192x2816, .f32⟩
  | .hbm, ⟨35, _⟩ => ⟨S8x8192x2816, .f32⟩
  | .hbm, ⟨36, _⟩ => ⟨S_, .f32⟩
  | .hbm, ⟨37, _⟩ => ⟨S8x8192x2816, .f32⟩
  | .hbm, ⟨38, _⟩ => ⟨S8x8192x2816, .f32⟩
  | .hbm, ⟨39, _⟩ => ⟨S_, .f32⟩
  | .hbm, ⟨40, _⟩ => ⟨S8x8192x2816, .f32⟩
  | .hbm, ⟨41, _⟩ => ⟨S8x8192x2816, .f32⟩
  | .hbm, ⟨42, _⟩ => ⟨S8x8192x2816, .f32⟩
  | .hbm, ⟨43, _⟩ => ⟨S_, .f32⟩
  | .hbm, ⟨44, _⟩ => ⟨S8x8192x2816, .f32⟩
  | .hbm, ⟨45, _⟩ => ⟨S8x8192x2816, .f32⟩
  | .hbm, ⟨46, _⟩ => ⟨S8x8192x2816, .f32⟩
  | .hbm, ⟨47, _⟩ => ⟨S8x8192x2816, .f32⟩
  | .hbm, ⟨48, _⟩ => ⟨S_, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S8x8192x1024, .f32⟩
  | .hbm, ⟨53, _⟩ => ⟨S_, .f32⟩
  | .hbm, ⟨54, _⟩ => ⟨S8x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S_, .f32⟩
  | .hbm, ⟨66, _⟩ => ⟨S8x8192x1, .f32⟩
  | .hbm, ⟨67, _⟩ => ⟨S8x8192x1, .f32⟩
  | .hbm, ⟨68, _⟩ => ⟨S8x8192x1024, .f32⟩
  | .hbm, ⟨69, _⟩ => ⟨S8x8192x1024, .f32⟩
  | .hbm, ⟨70, _⟩ => ⟨S_, .f32⟩
  | .hbm, ⟨71, _⟩ => ⟨S8x8192x1, .f32⟩
  | .hbm, ⟨72, _⟩ => ⟨S8x8192x1, .f32⟩
  | .hbm, ⟨73, _⟩ => ⟨S8x8192x1, .f32⟩
  | .hbm, ⟨74, _⟩ => ⟨S8x8192x1024, .f32⟩
  | .hbm, ⟨75, _⟩ => ⟨S8x8192x1024, .f32⟩
  | .hbm, ⟨76, _⟩ => ⟨S1x1x1024, .f32⟩
  | .hbm, ⟨77, _⟩ => ⟨S8x8192x1024, .f32⟩
  | .hbm, ⟨78, _⟩ => ⟨S8x8192x1024, .f32⟩
  | .hbm, ⟨79, _⟩ => ⟨S1x1x1024, .f32⟩
  | .hbm, ⟨80, _⟩ => ⟨S8x8192x1024, .f32⟩
  | .hbm, ⟨81, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Mix.lean ====
abbrev S8x8192x1024 : Shape := ⟨3, ![8, 8192, 1024]⟩
abbrev S8x8192x8x64 : Shape := ⟨4, ![8, 8192, 8, 64]⟩
abbrev S8x8192x8 : Shape := ⟨3, ![8, 8192, 8]⟩
abbrev S8x8192x512 : Shape := ⟨3, ![8, 8192, 512]⟩
abbrev S8x256x1024 : Shape := ⟨3, ![8, 256, 1024]⟩
abbrev S512 : Shape := ⟨1, ![512]⟩
abbrev S1024x1024 : Shape := ⟨2, ![1024, 1024]⟩
abbrev S1024 : Shape := ⟨1, ![1024]⟩
abbrev S8x8192x8x1 : Shape := ⟨4, ![8, 8192, 8, 1]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S1x256x1024 : Shape := ⟨3, ![1, 256, 1024]⟩
abbrev S512x512 : Shape := ⟨2, ![512, 512]⟩
abbrev S512x1 : Shape := ⟨2, ![512, 1]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 47
  | .vmem => 31
  | .smem => 0
  | _ => 0

abbrev bufTy : (tb : Table) → Fin (tcTables nBuf tb) → BufTy
  | .hbm, ⟨0, _⟩ => ⟨S8x8192x1024, .f32⟩
  | .hbm, ⟨1, _⟩ => ⟨S8x8192x8x64, .f32⟩
  | .hbm, ⟨2, _⟩ => ⟨S8x8192x8x64, .f32⟩
  | .hbm, ⟨3, _⟩ => ⟨S8x8192x8x64, .f32⟩
  | .hbm, ⟨4, _⟩ => ⟨S8x8192x8, .f32⟩
  | .hbm, ⟨5, _⟩ => ⟨S8x8192x8, .f32⟩
  | .hbm, ⟨6, _⟩ => ⟨S8x8192x8, .f32⟩
  | .hbm, ⟨7, _⟩ => ⟨S8x8192x512, .f32⟩
  | .hbm, ⟨8, _⟩ => ⟨S8x256x1024, .f32⟩
  | .hbm, ⟨9, _⟩ => ⟨S8x256x1024, .f32⟩
  | .hbm, ⟨10, _⟩ => ⟨S512, .f32⟩
  | .hbm, ⟨11, _⟩ => ⟨S512, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024, .f32⟩
  | .hbm, ⟨18, _⟩ => ⟨S1024, .f32⟩
  | .hbm, ⟨19, _⟩ => ⟨S8x8192x8x64, .bf16⟩
  | .hbm, ⟨20, _⟩ => ⟨S8x8192x512, .bf16⟩
  | .hbm, ⟨21, _⟩ => ⟨S8x8192x8x64, .bf16⟩
  | .hbm, ⟨22, _⟩ => ⟨S8x8192x512, .bf16⟩
  | .hbm, ⟨23, _⟩ => ⟨S8x8192x8x64, .bf16⟩
  | .hbm, ⟨24, _⟩ => ⟨S8x8192x512, .bf16⟩
  | .hbm, ⟨25, _⟩ => ⟨S8x8192x8x1, .f32⟩
  | .hbm, ⟨26, _⟩ => ⟨S8x8192x8x64, .f32⟩
  | .hbm, ⟨27, _⟩ => ⟨S8x8192x512, .f32⟩
  | .hbm, ⟨28, _⟩ => ⟨S8x8192x8x1, .f32⟩
  | .hbm, ⟨29, _⟩ => ⟨S8x8192x8x64, .f32⟩
  | .hbm, ⟨30, _⟩ => ⟨S8x8192x512, .f32⟩
  | .hbm, ⟨31, _⟩ => ⟨S8x8192x8x1, .f32⟩
  | .hbm, ⟨32, _⟩ => ⟨S8x8192x8x64, .f32⟩
  | .hbm, ⟨33, _⟩ => ⟨S8x8192x512, .f32⟩
  | .hbm, ⟨34, _⟩ => ⟨S8x8192x512, .bf16⟩
  | .hbm, ⟨35, _⟩ => ⟨S8x256x1024, .bf16⟩
  | .hbm, ⟨36, _⟩ => ⟨S8x256x1024, .bf16⟩
  | .hbm, ⟨37, _⟩ => ⟨S1x512, .f32⟩
  | .hbm, ⟨38, _⟩ => ⟨S1x512, .f32⟩
  | .hbm, ⟨39, _⟩ => ⟨S1024x1024, .bf16⟩
  | .hbm, ⟨40, _⟩ => ⟨S1x1024, .f32⟩
  | .hbm, ⟨41, _⟩ => ⟨S1x1024, .f32⟩
  | .hbm, ⟨42, _⟩ => ⟨S1024x1024, .bf16⟩
  | .hbm, ⟨43, _⟩ => ⟨S1024x1024, .bf16⟩
  | .hbm, ⟨44, _⟩ => ⟨S1x1024, .f32⟩
  | .hbm, ⟨45, _⟩ => ⟨S1x1024, .f32⟩
  | .hbm, ⟨46, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .bf16⟩
  | .local _ .vmem, ⟨15, _⟩ => ⟨S1x512x512, .bf16⟩
  | .local _ .vmem, ⟨16, _⟩ => ⟨S1x512, .f32⟩
  | .local _ .vmem, ⟨17, _⟩ => ⟨S1x512, .f32⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1024x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1024x1024, .bf16⟩
  | .local _ .vmem, ⟨27, _⟩ => ⟨S1x1024, .f32⟩
  | .local _ .vmem, ⟨28, _⟩ => ⟨S1x1024, .f32⟩
  | .local _ .vmem, ⟨29, _⟩ => ⟨S1x512x1024, .f32⟩
  | .local _ .vmem, ⟨30, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MixRefIdeal.lean ====
abbrev S8x8192x1024 : Shape := ⟨3, ![8, 8192, 1024]⟩
abbrev S8x8192x8x64 : Shape := ⟨4, ![8, 8192, 8, 64]⟩
abbrev S8x8192x8 : Shape := ⟨3, ![8, 8192, 8]⟩
abbrev S8x8192x512 : Shape := ⟨3, ![8, 8192, 512]⟩
abbrev S8x256x1024 : Shape := ⟨3, ![8, 256, 1024]⟩
abbrev S512 : Shape := ⟨1, ![512]⟩
abbrev S1024x1024 : Shape := ⟨2, ![1024, 1024]⟩
abbrev S1024 : Shape := ⟨1, ![1024]⟩
abbrev S1x8x8192x8 : Shape := ⟨4, ![1, 8, 8192, 8]⟩
abbrev S3x8x8192x8 : Shape := ⟨4, ![3, 8, 8192, 8]⟩
abbrev S_ : Shape := ⟨0, ![]⟩
abbrev S1x8x8192x8x64 : Shape := ⟨5, ![1, 8, 8192, 8, 64]⟩
abbrev S3x8x8192x8x64 : Shape := ⟨5, ![3, 8, 8192, 8, 64]⟩
abbrev S8x8192 : Shape := ⟨2, ![8, 8192]⟩
abbrev S8x8192x1 : Shape := ⟨3, ![8, 8192, 1]⟩
abbrev S1x1x512 : Shape := ⟨3, ![1, 1, 512]⟩
abbrev S1x1x1024 : Shape := ⟨3, ![1, 1, 1024]⟩
abbrev S8x8192x4x256 : Shape := ⟨4, ![8, 8192, 4, 256]⟩
abbrev S8x256x4x256 : Shape := ⟨4, ![8, 256, 4, 256]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩

abbrev nBuf : Space → Nat
  | .hbm => 169
  | .vmem => 0
  | .smem => 0
  | _ => 0

abbrev hbmTy0_0 (i : Nat) : BufTy := match i % 128 with
  | 0 => ⟨S8x8192x1024, .f32⟩
  | 1 => ⟨S8x8192x8x64, .f32⟩
  | 2 => ⟨S8x8192x8x64, .f32⟩
  | 3 => ⟨S8x8192x8x64, .f32⟩
  | 4 => ⟨S8x8192x8, .f32⟩
  | 5 => ⟨S8x8192x8, .f32⟩
  | 6 => ⟨S8x8192x8, .f32⟩
  | 7 => ⟨S8x8192x512, .f32⟩
  | 8 => ⟨S8x256x1024, .f32⟩
  | 9 => ⟨S8x256x1024, .f32⟩
  | 10 => ⟨S512, .f32⟩
  | 11 => ⟨S512, .f32⟩
  | 12 => ⟨S1024x1024, .f32⟩
  | 13 => ⟨S1024, .f32⟩
  | 14 => ⟨S1024, .f32⟩
  | 15 => ⟨S1024x1024, .f32⟩
  | 16 => ⟨S1024x1024, .f32⟩
  | 17 => ⟨S1024, .f32⟩
  | 18 => ⟨S1024, .f32⟩
  | 19 => ⟨S1x8x8192x8, .f32⟩
  | 20 => ⟨S1x8x8192x8, .f32⟩
  | 21 => ⟨S1x8x8192x8, .f32⟩
  | 22 => ⟨S3x8x8192x8, .f32⟩
  | 23 => ⟨S_, .f32⟩
  | 24 => ⟨S8x8192x8, .f32⟩
  | 25 => ⟨S_, .f32⟩
  | 26 => ⟨S8x8192x8, .f32⟩
  | 27 => ⟨S8x8192x8, .f32⟩
  | 28 => ⟨S1x8x8192x8, .f32⟩
  | 29 => ⟨S3x8x8192x8, .f32⟩
  | 30 => ⟨S3x8x8192x8, .f32⟩
  | 31 => ⟨S3x8x8192x8, .f32⟩
  | 32 => ⟨S_, .f32⟩
  | 33 => ⟨S8x8192x8, .f32⟩
  | 34 => ⟨S1x8x8192x8, .f32⟩
  | 35 => ⟨S3x8x8192x8, .f32⟩
  | 36 => ⟨S3x8x8192x8, .f32⟩
  | 37 => ⟨S1x8x8192x8x64, .f32⟩
  | 38 => ⟨S1x8x8192x8x64, .f32⟩
  | 39 => ⟨S1x8x8192x8x64, .f32⟩
  | 40 => ⟨S3x8x8192x8x64, .f32⟩
  | 41 => ⟨S8x8192x8x64, .f32⟩
  | 42 => ⟨S8x8192x512, .f32⟩
  | 43 => ⟨S8x8192x512, .f32⟩
  | 44 => ⟨S_, .f32⟩
  | 45 => ⟨S8x8192, .f32⟩
  | 46 => ⟨S8x8192x1, .f32⟩
  | 47 => ⟨S_, .f32⟩
  | 48 => ⟨S8x8192x1, .f32⟩
  | 49 => ⟨S8x8192x1, .f32⟩
  | 50 => ⟨S_, .f32⟩
  | 51 => ⟨S8x8192x1, .f32⟩
  | 52 => ⟨S8x8192x1, .f32⟩
  | 53 => ⟨S8x8192x1, .f32⟩
  | 54 => ⟨S8x8192x512, .f32⟩
  | 55 => ⟨S8x8192x512, .f32⟩
  | 56 => ⟨S1x1x512, .f32⟩
  | 57 => ⟨S8x8192x512, .f32⟩
  | 58 => ⟨S8x8192x512, .f32⟩
  | 59 => ⟨S8x8192x512, .f32⟩
  | 60 => ⟨S_, .f32⟩
  | 61 => ⟨S8x8192, .f32⟩
  | 62 => ⟨S8x8192x1, .f32⟩
  | 63 => ⟨S_, .f32⟩
  | 64 => ⟨S8x8192x1, .f32⟩
  | 65 => ⟨S8x8192x1, .f32⟩
  | 66 => ⟨S_, .f32⟩
  | 67 => ⟨S8x8192x1, .f32⟩
  | 68 => ⟨S8x8192x1, .f32⟩
  | 69 => ⟨S8x8192x1, .f32⟩
  | 70 => ⟨S8x8192x512, .f32⟩
  | 71 => ⟨S8x8192x512, .f32⟩
  | 72 => ⟨S1x1x512, .f32⟩
  | 73 => ⟨S8x8192x512, .f32⟩
  | 74 => ⟨S8x8192x512, .f32⟩
  | 75 => ⟨S8x8192x1024, .f32⟩
  | 76 => ⟨S8x8192x1024, .f32⟩
  | 77 => ⟨S_, .f32⟩
  | 78 => ⟨S8x8192x1024, .f32⟩
  | 79 => ⟨S8x8192x1024, .f32⟩
  | 80 => ⟨S8x8192x1024, .f32⟩
  | 81 => ⟨S_, .f32⟩
  | 82 => ⟨S8x8192, .f32⟩
  | 83 => ⟨S8x8192x1, .f32⟩
  | 84 => ⟨S_, .f32⟩
  | 85 => ⟨S8x8192x1, .f32⟩
  | 86 => ⟨S8x8192x1, .f32⟩
  | 87 => ⟨S8x8192x1024, .f32⟩
  | 88 => ⟨S8x8192x1024, .f32⟩
  | 89 => ⟨S8x8192x1024, .f32⟩
  | 90 => ⟨S_, .f32⟩
  | 91 => ⟨S8x8192, .f32⟩
  | 92 => ⟨S8x8192x1, .f32⟩
  | 93 => ⟨S_, .f32⟩
  | 94 => ⟨S8x8192x1, .f32⟩
  | 95 => ⟨S8x8192x1, .f32⟩
  | 96 => ⟨S8x8192x1024, .f32⟩
  | 97 => ⟨S8x8192x1024, .f32⟩
  | 98 => ⟨S_, .f32⟩
  | 99 => ⟨S8x8192x1, .f32⟩
  | 100 => ⟨S8x8192x1, .f32⟩
  | 101 => ⟨S8x8192x1, .f32⟩
  | 102 => ⟨S8x8192x1024, .f32⟩
  | 103 => ⟨S8x8192x1024, .f32⟩
  | 104 => ⟨S1x1x1024, .f32⟩
  | 105 => ⟨S8x8192x1024, .f32⟩
  | 106 => ⟨S8x8192x1024, .f32⟩
  | 107 => ⟨S1x1x1024, .f32⟩
  | 108 => ⟨S8x8192x1024, .f32⟩
  | 109 => ⟨S8x8192x1024, .f32⟩
  | 110 => ⟨S8x8192x1024, .f32⟩
  | 111 => ⟨S8x8192x4x256, .f32⟩
  | 112 => ⟨S8x256x4x256, .f32⟩
  | 113 => ⟨S8x4x8192x256, .f32⟩
  | 114 => ⟨S_, .f32⟩
  | 115 => ⟨S8x4x8192x256, .f32⟩
  | 116 => ⟨S8x4x8192x256, .f32⟩
  | 117 => ⟨S_, .f32⟩
  | 118 => ⟨S8x4x8192, .f32⟩
  | 119 => ⟨S_, .f32⟩
  | 120 => ⟨S8x4x8192, .f32⟩
  | 121 => ⟨S8x4x8192, .f32⟩
  | 122 => ⟨S8x4x8192x1, .f32⟩
  | 123 => ⟨S8x4x8192x256, .f32⟩
  | 124 => ⟨S8x4x8192x256, .f32⟩
  | 125 => ⟨S8x4x8192x256, .f32⟩
  | 126 => ⟨S_, .f32⟩
  | 127 => ⟨S8x4x8192, .f32⟩
  | _ => ⟨S8x8192x1024, .f32⟩

abbrev hbmTy0_1 (i : Nat) : BufTy := match i % 128 with
  | 0 => ⟨S8x4x8192x1, .f32⟩
  | 1 => ⟨S8x4x8192x256, .f32⟩
  | 2 => ⟨S8x4x8192x256, .f32⟩
  | 3 => ⟨S8x256x4x256, .f32⟩
  | 4 => ⟨S8x4x256x8192, .f32⟩
  | 5 => ⟨S8x8192x4x256, .f32⟩
  | 6 => ⟨S8x8192x1024, .f32⟩
  | 7 => ⟨S_, .f32⟩
  | 8 => ⟨S8x8192x1024, .f32⟩
  | 9 => ⟨S8x8192x1024, .f32⟩
  | 10 => ⟨S8x8192x1024, .f32⟩
  | 11 => ⟨S8x8192x1024, .f32⟩
  | 12 => ⟨S_, .f32⟩
  | 13 => ⟨S8x8192, .f32⟩
  | 14 => ⟨S8x8192x1, .f32⟩
  | 15 => ⟨S_, .f32⟩
  | 16 => ⟨S8x8192x1, .f32⟩
  | 17 => ⟨S8x8192x1, .f32⟩
  | 18 => ⟨S8x8192x1024, .f32⟩
  | 19 => ⟨S8x8192x1024, .f32⟩
  | 20 => ⟨S8x8192x1024, .f32⟩
  | 21 => ⟨S_, .f32⟩
  | 22 => ⟨S8x8192, .f32⟩
  | 23 => ⟨S8x8192x1, .f32⟩
  | 24 => ⟨S_, .f32⟩
  | 25 => ⟨S8x8192x1, .f32⟩
  | 26 => ⟨S8x8192x1, .f32⟩
  | 27 => ⟨S8x8192x1024, .f32⟩
  | 28 => ⟨S8x8192x1024, .f32⟩
  | 29 => ⟨S_, .f32⟩
  | 30 => ⟨S8x8192x1, .f32⟩
  | 31 => ⟨S8x8192x1, .f32⟩
  | 32 => ⟨S8x8192x1, .f32⟩
  | 33 => ⟨S8x8192x1024, .f32⟩
  | 34 => ⟨S8x8192x1024, .f32⟩
  | 35 => ⟨S1x1x1024, .f32⟩
  | 36 => ⟨S8x8192x1024, .f32⟩
  | 37 => ⟨S8x8192x1024, .f32⟩
  | 38 => ⟨S1x1x1024, .f32⟩
  | 39 => ⟨S8x8192x1024, .f32⟩
  | 40 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_19 : Ref sig .tc := ⟨.hbm, 140, rfl⟩
abbrev main_v101 : Ref sig .tc := ⟨.hbm, 141, rfl⟩
abbrev main_v102 : Ref sig .tc := ⟨.hbm, 142, rfl⟩
abbrev main_cst_20 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_21 : Ref sig .tc := ⟨.hbm, 149, rfl⟩
abbrev main_v108 : Ref sig .tc := ⟨.hbm, 150, rfl⟩
abbrev main_v109 : Ref sig .tc := ⟨.hbm, 151, rfl⟩
abbrev main_cst_22 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_23 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩

abbrev nD : Nat := 1
abbrev τ : Topo := Topo.v7x

variable {F : FTy → Type} [FloatOps F]
-- ==== Memkv.lean ====
abbrev S8x256x1024 : Shape := ⟨3, ![8, 256, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S8x256x1024, .bf16⟩
  | .hbm, ⟨6, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemkvRefIdeal.lean ====
abbrev S8x256x1024 : Shape := ⟨3, ![8, 256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .f32⟩
  | .hbm, ⟨3, _⟩ => ⟨S8x256x1024, .f32⟩
  | .hbm, ⟨4, _⟩ => ⟨S8x256x1024, .bf16⟩
  | .hbm, ⟨5, _⟩ => ⟨S8x256x1024, .f32⟩
  | .hbm, ⟨6, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj.lean ====
abbrev S8x8192x1024 : Shape := ⟨3, ![8, 8192, 1024]⟩
abbrev S1024x2304 : Shape := ⟨2, ![1024, 2304]⟩
abbrev S64 : Shape := ⟨1, ![64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16 : Shape := ⟨1, ![16]⟩
abbrev S1x16 : Shape := ⟨2, ![1, 16]⟩
abbrev S8192x16 : Shape := ⟨2, ![8192, 16]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S8x8192x512 : Shape := ⟨3, ![8, 8192, 512]⟩
abbrev S8x8192x128 : Shape := ⟨3, ![8, 8192, 128]⟩
abbrev S1x512x1024 : Shape := ⟨3, ![1, 512, 1024]⟩
abbrev S512x128 : Shape := ⟨2, ![512, 128]⟩
abbrev S1x512x512 : Shape := ⟨3, ![1, 512, 512]⟩
abbrev S1x512x128 : Shape := ⟨3, ![1, 512, 128]⟩
abbrev S512x1024 : Shape := ⟨2, ![512, 1024]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 170
  | .vmem => 26
  | .smem => 0
  | _ => 0

abbrev hbmTy0_0 (i : Nat) : BufTy := match i % 128 with
  | 0 => ⟨S8x8192x1024, .f32⟩
  | 1 => ⟨S1024x2304, .f32⟩
  | 2 => ⟨S64, .f32⟩
  | 3 => ⟨S64, .f32⟩
  | 4 => ⟨S8192, .i32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S8192, .f32⟩
  | 20 => ⟨S8192x1, .f32⟩
  | 21 => ⟨S1x32, .f32⟩
  | 22 => ⟨S8192x32, .f32⟩
  | 23 => ⟨S8192x32, .f32⟩
  | 24 => ⟨S8192x32, .f32⟩
  | 25 => ⟨S8192x32, .f32⟩
  | 26 => ⟨S8192x32, .f32⟩
  | 27 => ⟨S8192x64, .f32⟩
  | 28 => ⟨S1x8192x1x64, .f32⟩
  | 29 => ⟨S1x8192x2x64, .f32⟩
  | 30 => ⟨S8192x128, .f32⟩
  | 31 => ⟨S8192x32, .f32⟩
  | 32 => ⟨S8192x64, .f32⟩
  | 33 => ⟨S1x8192x1x64, .f32⟩
  | 34 => ⟨S1x8192x2x64, .f32⟩
  | 35 => ⟨S8192x128, .f32⟩
  | 36 => ⟨S_, .i32⟩
  | 37 => ⟨S_, .i32⟩
  | 38 => ⟨S8192, .i32⟩
  | 39 => ⟨S8192, .i32⟩
  | 40 => ⟨S8192, .i32⟩
  | 41 => ⟨S_, .i32⟩
  | 42 => ⟨S8192, .i32⟩
  | 43 => ⟨S8192, .i1⟩
  | 44 => ⟨S8192, .i32⟩
  | 45 => ⟨S8192, .i32⟩
  | 46 => ⟨S_, .i32⟩
  | 47 => ⟨S8192, .i32⟩
  | 48 => ⟨S8192, .i1⟩
  | 49 => ⟨S8192, .i1⟩
  | 50 => ⟨S_, .i32⟩
  | 51 => ⟨S8192, .i32⟩
  | 52 => ⟨S8192, .i32⟩
  | 53 => ⟨S8192, .i32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S8192, .f32⟩
  | 69 => ⟨S8192x1, .f32⟩
  | 70 => ⟨S1x16, .f32⟩
  | 71 => ⟨S8192x16, .f32⟩
  | 72 => ⟨S8192x16, .f32⟩
  | 73 => ⟨S8192x16, .f32⟩
  | 74 => ⟨S8192x16, .f32⟩
  | 75 => ⟨S8192x16, .f32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i1⟩
  | 87 => ⟨S_, .i32⟩
  | 88 => ⟨S8192, .i32⟩
  | 89 => ⟨S8192, .i1⟩
  | 90 => ⟨S_, .i32⟩
  | 91 => ⟨S_, .i1⟩
  | 92 => ⟨S8192, .i1⟩
  | 93 => ⟨S8192, .i1⟩
  | 94 => ⟨S8192, .i1⟩
  | 95 => ⟨S8192, .i32⟩
  | 96 => ⟨S8192, .i32⟩
  | 97 => ⟨S8192, .i32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S8192, .f32⟩
  | 113 => ⟨S8192x1, .f32⟩
  | 114 => ⟨S1x16, .f32⟩
  | 115 => ⟨S8192x16, .f32⟩
  | 116 => ⟨S8192x16, .f32⟩
  | 117 => ⟨S8192x16, .f32⟩
  | 118 => ⟨S8192x16, .f32⟩
  | 119 => ⟨S8192x16, .f32⟩
  | 120 => ⟨S8192x64, .f32⟩
  | 121 => ⟨S1x8192x1x64, .f32⟩
  | 122 => ⟨S1x8192x2x64, .f32⟩
  | 123 => ⟨S8192x128, .f32⟩
  | 124 => ⟨S8192x16, .f32⟩
  | 125 => ⟨S8192x16, .f32⟩
  | 126 => ⟨S8192x64, .f32⟩
  | 127 => ⟨S1x8192x1x64, .f32⟩
  | _ => ⟨S8x8192x1024, .f32⟩

abbrev hbmTy0_1 (i : Nat) : BufTy := match i % 128 with
  | 0 => ⟨S1x8192x2x64, .f32⟩
  | 1 => ⟨S8192x128, .f32⟩
  | 2 => ⟨S1x64, .f32⟩
  | 3 => ⟨S2x64, .f32⟩
  | 4 => ⟨S128, .f32⟩
  | 5 => ⟨S1x128, .f32⟩
  | 6 => ⟨S1x64, .f32⟩
  | 7 => ⟨S2x64, .f32⟩
  | 8 => ⟨S128, .f32⟩
  | 9 => ⟨S1x128, .f32⟩
  | 10 => ⟨S128, .i32⟩
  | 11 => ⟨S_, .i32⟩
  | 12 => ⟨S_, .i32⟩
  | 13 => ⟨S128, .i32⟩
  | 14 => ⟨S128, .i32⟩
  | 15 => ⟨S128, .i32⟩
  | 16 => ⟨S_, .i32⟩
  | 17 => ⟨S128, .i32⟩
  | 18 => ⟨S128, .i1⟩
  | 19 => ⟨S128, .i32⟩
  | 20 => ⟨S128, .i32⟩
  | 21 => ⟨S_, .i32⟩
  | 22 => ⟨S128, .i32⟩
  | 23 => ⟨S128, .i1⟩
  | 24 => ⟨S128, .i1⟩
  | 25 => ⟨S_, .i32⟩
  | 26 => ⟨S128, .i32⟩
  | 27 => ⟨S128, .i32⟩
  | 28 => ⟨S128, .i32⟩
  | 29 => ⟨S128x1, .i32⟩
  | 30 => ⟨S1x128, .i32⟩
  | 31 => ⟨S128x128, .i32⟩
  | 32 => ⟨S128x128, .i32⟩
  | 33 => ⟨S128x128, .i1⟩
  | 34 => ⟨S128x128, .bf16⟩
  | 35 => ⟨S1024x2304, .bf16⟩
  | 36 => ⟨S8x8192x512, .bf16⟩
  | 37 => ⟨S8x8192x512, .bf16⟩
  | 38 => ⟨S8x8192x512, .bf16⟩
  | 39 => ⟨S8x8192x1024, .bf16⟩
  | 40 => ⟨S8x8192x128, .bf16⟩
  | 41 => ⟨S8x8192x128, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1024x2304, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x128, .f32⟩
  | .local _ .vmem, ⟨12, _⟩ => ⟨S1x128, .f32⟩
  | .local _ .vmem, ⟨13, _⟩ => ⟨S128x128, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .bf16⟩
  | .local _ .vmem, ⟨25, _⟩ => ⟨S1x512x128, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_7 : Ref sig .tc := ⟨.hbm, 76, rfl⟩
abbrev main_call1_v0 : Ref sig .tc := ⟨.hbm, 77, rfl⟩
abbrev main_call1_c : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_c_1 : Ref sig .tc := ⟨.hbm, 84, rfl⟩
abbrev main_call1_v5 : Ref sig .tc := ⟨.hbm, 85, rfl⟩
abbrev main_call1_v6 : Ref sig .tc := ⟨.hbm, 86, rfl⟩
abbrev main_call1_c_2 : Ref sig .tc := ⟨.hbm, 87, rfl⟩
abbrev main_call1_v7 : Ref sig .tc := ⟨.hbm, 88, rfl⟩
abbrev main_call1_v8 : Ref sig .tc := ⟨.hbm, 89, rfl⟩
abbrev main_call1_c_3 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_v47 : Ref sig .tc := ⟨.hbm, 97, rfl⟩
abbrev main_v48 : Ref sig .tc := ⟨.hbm, 98, rfl⟩
abbrev main_cst_8 : Ref sig .tc := ⟨.hbm, 99, rfl⟩
abbrev main_v49 : Ref sig .tc := ⟨.hbm, 100, rfl⟩
abbrev main_v50 : Ref sig .tc := ⟨.hbm, 101, rfl⟩
abbrev main_cst_9 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_10 : Ref sig .tc := ⟨.hbm, 106, rfl⟩
abbrev main_v54 : Ref sig .tc := ⟨.hbm, 107, rfl⟩
abbrev main_v55 : Ref sig .tc := ⟨.hbm, 108, rfl⟩
abbrev main_cst_11 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_12 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_v8 : Ref sig .tc := ⟨.hbm, 148, rfl⟩
abbrev main_call2_c : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_c_0 : Ref sig .tc := ⟨.hbm, 153, rfl⟩
abbrev main_call2_v12 : Ref sig .tc := ⟨.hbm, 154, rfl⟩
abbrev main_call2_v13 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93_0 : Ref sig .tc := ⟨.hbm, 164, rfl⟩
abbrev main_v93_1 : Ref sig .tc := ⟨.hbm, 165, rfl⟩
abbrev main_v93_2 : Ref sig .tc := ⟨.hbm, 166, rfl⟩
abbrev main_v93_3 : Ref sig .tc := ⟨.hbm, 167, rfl⟩
abbrev main_v93_4 : Ref sig .tc := ⟨.hbm, 168, rfl⟩
abbrev main_v93_5 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjRefIdeal.lean ====
abbrev S8x8192x1024 : Shape := ⟨3, ![8, 8192, 1024]⟩
abbrev S1024x2304 : Shape := ⟨2, ![1024, 2304]⟩
abbrev S64 : Shape := ⟨1, ![64]⟩
abbrev S8x8192x2304 : Shape := ⟨3, ![8, 8192, 2304]⟩
abbrev S8x8192x512 : Shape := ⟨3, ![8, 8192, 512]⟩
abbrev S8x8192x128 : Shape := ⟨3, ![8, 8192, 128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8x8192x8x64 : Shape := ⟨4, ![8, 8192, 8, 64]⟩
abbrev S8x8192x8x32 : Shape := ⟨4, ![8, 8192, 8, 32]⟩
abbrev S8192x1x32 : Shape := ⟨3, ![8192, 1, 32]⟩
abbrev S1x8192x1x32 : Shape := ⟨4, ![1, 8192, 1, 32]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S16 : Shape := ⟨1, ![16]⟩
abbrev S1x16 : Shape := ⟨2, ![1, 16]⟩
abbrev S8192x16 : Shape := ⟨2, ![8192, 16]⟩
abbrev S8x8192x8x16 : Shape := ⟨4, ![8, 8192, 8, 16]⟩
abbrev S8192x1x16 : Shape := ⟨3, ![8192, 1, 16]⟩
abbrev S1x8192x1x16 : Shape := ⟨4, ![1, 8192, 1, 16]⟩
abbrev S8x8192x2x64 : Shape := ⟨4, ![8, 8192, 2, 64]⟩
abbrev S8x8192x2 : Shape := ⟨3, ![8, 8192, 2]⟩
abbrev S8x8192x2x1 : Shape := ⟨4, ![8, 8192, 2, 1]⟩
abbrev S8x8192x2x32 : Shape := ⟨4, ![8, 8192, 2, 32]⟩
abbrev S8x8192x2x16 : Shape := ⟨4, ![8, 8192, 2, 16]⟩
abbrev S8x8192x4x64 : Shape := ⟨4, ![8, 8192, 4, 64]⟩
abbrev S8x8192x4x128 : Shape := ⟨4, ![8, 8192, 4, 128]⟩
abbrev S8x8192x8x128 : Shape := ⟨4, ![8, 8192, 8, 128]⟩

abbrev nBuf : Space → Nat
  | .hbm => 383
  | .vmem => 0
  | .smem => 0
  | _ => 0

abbrev hbmTy0_0 (i : Nat) : BufTy := match i % 128 with
  | 0 => ⟨S8x8192x1024, .f32⟩
  | 1 => ⟨S1024x2304, .f32⟩
  | 2 => ⟨S64, .f32⟩
  | 3 => ⟨S64, .f32⟩
  | 4 => ⟨S8x8192x2304, .f32⟩
  | 5 => ⟨S8x8192x512, .f32⟩
  | 6 => ⟨S8x8192x512, .f32⟩
  | 7 => ⟨S8x8192x512, .f32⟩
  | 8 => ⟨S8x8192x512, .f32⟩
  | 9 => ⟨S8x8192x128, .f32⟩
  | 10 => ⟨S8x8192x128, .f32⟩
  | 11 => ⟨S8192, .i32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S8192, .f32⟩
  | 27 => ⟨S8192x1, .f32⟩
  | 28 => ⟨S1x32, .f32⟩
  | 29 => ⟨S8192x32, .f32⟩
  | 30 => ⟨S8192x32, .f32⟩
  | 31 => ⟨S8192x32, .f32⟩
  | 32 => ⟨S8192x32, .f32⟩
  | 33 => ⟨S8192x32, .f32⟩
  | 34 => ⟨S8x8192x8x64, .f32⟩
  | 35 => ⟨S8x8192x8x32, .f32⟩
  | 36 => ⟨S8x8192x8x32, .f32⟩
  | 37 => ⟨S8192x1x32, .f32⟩
  | 38 => ⟨S8192x1x32, .f32⟩
  | 39 => ⟨S1x8192x1x32, .f32⟩
  | 40 => ⟨S8x8192x8x32, .f32⟩
  | 41 => ⟨S8x8192x8x32, .f32⟩
  | 42 => ⟨S1x8192x1x32, .f32⟩
  | 43 => ⟨S8x8192x8x32, .f32⟩
  | 44 => ⟨S8x8192x8x32, .f32⟩
  | 45 => ⟨S8x8192x8x32, .f32⟩
  | 46 => ⟨S1x8192x1x32, .f32⟩
  | 47 => ⟨S8x8192x8x32, .f32⟩
  | 48 => ⟨S8x8192x8x32, .f32⟩
  | 49 => ⟨S1x8192x1x32, .f32⟩
  | 50 => ⟨S8x8192x8x32, .f32⟩
  | 51 => ⟨S8x8192x8x32, .f32⟩
  | 52 => ⟨S8x8192x8x32, .f32⟩
  | 53 => ⟨S8x8192x8x64, .f32⟩
  | 54 => ⟨S_, .f32⟩
  | 55 => ⟨S8x8192x8x64, .f32⟩
  | 56 => ⟨S8x8192x8x64, .f32⟩
  | 57 => ⟨S8x8192x8x64, .f32⟩
  | 58 => ⟨S8x8192x8x32, .f32⟩
  | 59 => ⟨S8x8192x8x32, .f32⟩
  | 60 => ⟨S8192x1x32, .f32⟩
  | 61 => ⟨S8192x1x32, .f32⟩
  | 62 => ⟨S1x8192x1x32, .f32⟩
  | 63 => ⟨S8x8192x8x32, .f32⟩
  | 64 => ⟨S8x8192x8x32, .f32⟩
  | 65 => ⟨S1x8192x1x32, .f32⟩
  | 66 => ⟨S8x8192x8x32, .f32⟩
  | 67 => ⟨S8x8192x8x32, .f32⟩
  | 68 => ⟨S8x8192x8x32, .f32⟩
  | 69 => ⟨S1x8192x1x32, .f32⟩
  | 70 => ⟨S8x8192x8x32, .f32⟩
  | 71 => ⟨S8x8192x8x32, .f32⟩
  | 72 => ⟨S1x8192x1x32, .f32⟩
  | 73 => ⟨S8x8192x8x32, .f32⟩
  | 74 => ⟨S8x8192x8x32, .f32⟩
  | 75 => ⟨S8x8192x8x32, .f32⟩
  | 76 => ⟨S8x8192x8x64, .f32⟩
  | 77 => ⟨S8x8192x8x64, .f32⟩
  | 78 => ⟨S8x8192x8x64, .f32⟩
  | 79 => ⟨S_, .f32⟩
  | 80 => ⟨S8x8192x8, .f32⟩
  | 81 => ⟨S8x8192x8x1, .f32⟩
  | 82 => ⟨S_, .f32⟩
  | 83 => ⟨S8x8192x8x1, .f32⟩
  | 84 => ⟨S8x8192x8x1, .f32⟩
  | 85 => ⟨S_, .f32⟩
  | 86 => ⟨S8x8192x8x1, .f32⟩
  | 87 => ⟨S8x8192x8x1, .f32⟩
  | 88 => ⟨S8x8192x8x1, .f32⟩
  | 89 => ⟨S8x8192x8x64, .f32⟩
  | 90 => ⟨S8x8192x8x64, .f32⟩
  | 91 => ⟨S1x1x1x64, .f32⟩
  | 92 => ⟨S8x8192x8x64, .f32⟩
  | 93 => ⟨S8x8192x8x64, .f32⟩
  | 94 => ⟨S8x8192x8x32, .f32⟩
  | 95 => ⟨S8x8192x8x32, .f32⟩
  | 96 => ⟨S8192, .i32⟩
  | 97 => ⟨S_, .i32⟩
  | 98 => ⟨S_, .i32⟩
  | 99 => ⟨S8192, .i32⟩
  | 100 => ⟨S8192, .i32⟩
  | 101 => ⟨S8192, .i32⟩
  | 102 => ⟨S_, .i32⟩
  | 103 => ⟨S8192, .i32⟩
  | 104 => ⟨S8192, .i1⟩
  | 105 => ⟨S8192, .i32⟩
  | 106 => ⟨S8192, .i32⟩
  | 107 => ⟨S_, .i32⟩
  | 108 => ⟨S8192, .i32⟩
  | 109 => ⟨S8192, .i1⟩
  | 110 => ⟨S8192, .i1⟩
  | 111 => ⟨S_, .i32⟩
  | 112 => ⟨S8192, .i32⟩
  | 113 => ⟨S8192, .i32⟩
  | 114 => ⟨S8192, .i32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S8x8192x1024, .f32⟩

abbrev hbmTy0_1 (i : Nat) : BufTy := match i % 128 with
  | 0 => ⟨S16, .f32⟩
  | 1 => ⟨S8192, .f32⟩
  | 2 => ⟨S8192x1, .f32⟩
  | 3 => ⟨S1x16, .f32⟩
  | 4 => ⟨S8192x16, .f32⟩
  | 5 => ⟨S8192x16, .f32⟩
  | 6 => ⟨S8192x16, .f32⟩
  | 7 => ⟨S8192x16, .f32⟩
  | 8 => ⟨S8192x16, .f32⟩
  | 9 => ⟨S8x8192x8x16, .f32⟩
  | 10 => ⟨S8x8192x8x16, .f32⟩
  | 11 => ⟨S8192x1x16, .f32⟩
  | 12 => ⟨S8192x1x16, .f32⟩
  | 13 => ⟨S1x8192x1x16, .f32⟩
  | 14 => ⟨S8x8192x8x16, .f32⟩
  | 15 => ⟨S8x8192x8x16, .f32⟩
  | 16 => ⟨S1x8192x1x16, .f32⟩
  | 17 => ⟨S8x8192x8x16, .f32⟩
  | 18 => ⟨S8x8192x8x16, .f32⟩
  | 19 => ⟨S8x8192x8x16, .f32⟩
  | 20 => ⟨S1x8192x1x16, .f32⟩
  | 21 => ⟨S8x8192x8x16, .f32⟩
  | 22 => ⟨S8x8192x8x16, .f32⟩
  | 23 => ⟨S1x8192x1x16, .f32⟩
  | 24 => ⟨S8x8192x8x16, .f32⟩
  | 25 => ⟨S8x8192x8x16, .f32⟩
  | 26 => ⟨S8x8192x8x16, .f32⟩
  | 27 => ⟨S8x8192x8x32, .f32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i1⟩
  | 42 => ⟨S_, .i32⟩
  | 43 => ⟨S_, .i1⟩
  | 44 => ⟨S8192, .i1⟩
  | 45 => ⟨S8192, .i1⟩
  | 46 => ⟨S8192, .i1⟩
  | 47 => ⟨S8192, .i32⟩
  | 48 => ⟨S8192, .i32⟩
  | 49 => ⟨S8192, .i32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S8192, .f32⟩
  | 65 => ⟨S8192x1, .f32⟩
  | 66 => ⟨S1x16, .f32⟩
  | 67 => ⟨S8192x16, .f32⟩
  | 68 => ⟨S8192x16, .f32⟩
  | 69 => ⟨S8192x16, .f32⟩
  | 70 => ⟨S8192x16, .f32⟩
  | 71 => ⟨S8192x16, .f32⟩
  | 72 => ⟨S8x8192x8x16, .f32⟩
  | 73 => ⟨S8x8192x8x16, .f32⟩
  | 74 => ⟨S8192x1x16, .f32⟩
  | 75 => ⟨S8192x1x16, .f32⟩
  | 76 => ⟨S1x8192x1x16, .f32⟩
  | 77 => ⟨S8x8192x8x16, .f32⟩
  | 78 => ⟨S8x8192x8x16, .f32⟩
  | 79 => ⟨S1x8192x1x16, .f32⟩
  | 80 => ⟨S8x8192x8x16, .f32⟩
  | 81 => ⟨S8x8192x8x16, .f32⟩
  | 82 => ⟨S8x8192x8x16, .f32⟩
  | 83 => ⟨S1x8192x1x16, .f32⟩
  | 84 => ⟨S8x8192x8x16, .f32⟩
  | 85 => ⟨S8x8192x8x16, .f32⟩
  | 86 => ⟨S1x8192x1x16, .f32⟩
  | 87 => ⟨S8x8192x8x16, .f32⟩
  | 88 => ⟨S8x8192x8x16, .f32⟩
  | 89 => ⟨S8x8192x8x16, .f32⟩
  | 90 => ⟨S8x8192x8x32, .f32⟩
  | 91 => ⟨S8x8192x8x64, .f32⟩
  | 92 => ⟨S_, .f32⟩
  | 93 => ⟨S8x8192x8x64, .f32⟩
  | 94 => ⟨S8x8192x8x64, .f32⟩
  | 95 => ⟨S8x8192x2x64, .f32⟩
  | 96 => ⟨S8x8192x2x64, .f32⟩
  | 97 => ⟨S_, .f32⟩
  | 98 => ⟨S8x8192x2, .f32⟩
  | 99 => ⟨S8x8192x2x1, .f32⟩
  | 100 => ⟨S_, .f32⟩
  | 101 => ⟨S8x8192x2x1, .f32⟩
  | 102 => ⟨S8x8192x2x1, .f32⟩
  | 103 => ⟨S_, .f32⟩
  | 104 => ⟨S8x8192x2x1, .f32⟩
  | 105 => ⟨S8x8192x2x1, .f32⟩
  | 106 => ⟨S8x8192x2x1, .f32⟩
  | 107 => ⟨S8x8192x2x64, .f32⟩
  | 108 => ⟨S8x8192x2x64, .f32⟩
  | 109 => ⟨S1x1x1x64, .f32⟩
  | 110 => ⟨S8x8192x2x64, .f32⟩
  | 111 => ⟨S8x8192x2x64, .f32⟩
  | 112 => ⟨S8x8192x2x32, .f32⟩
  | 113 => ⟨S8x8192x2x32, .f32⟩
  | 114 => ⟨S8192, .i32⟩
  | 115 => ⟨S_, .i32⟩
  | 116 => ⟨S_, .i32⟩
  | 117 => ⟨S8192, .i32⟩
  | 118 => ⟨S8192, .i32⟩
  | 119 => ⟨S8192, .i32⟩
  | 120 => ⟨S_, .i32⟩
  | 121 => ⟨S8192, .i32⟩
  | 122 => ⟨S8192, .i1⟩
  | 123 => ⟨S8192, .i32⟩
  | 124 => ⟨S8192, .i32⟩
  | 125 => ⟨S_, .i32⟩
  | 126 => ⟨S8192, .i32⟩
  | 127 => ⟨S8192, .i1⟩
  | _ => ⟨S8x8192x1024, .f32⟩

abbrev hbmTy0_2 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S8192, .f32⟩
  | 20 => ⟨S8192x1, .f32⟩
  | 21 => ⟨S1x16, .f32⟩
  | 22 => ⟨S8192x16, .f32⟩
  | 23 => ⟨S8192x16, .f32⟩
  | 24 => ⟨S8192x16, .f32⟩
  | 25 => ⟨S8192x16, .f32⟩
  | 26 => ⟨S8192x16, .f32⟩
  | 27 => ⟨S8x8192x2x16, .f32⟩
  | 28 => ⟨S8x8192x2x16, .f32⟩
  | 29 => ⟨S8192x1x16, .f32⟩
  | 30 => ⟨S8192x1x16, .f32⟩
  | 31 => ⟨S1x8192x1x16, .f32⟩
  | 32 => ⟨S8x8192x2x16, .f32⟩
  | 33 => ⟨S8x8192x2x16, .f32⟩
  | 34 => ⟨S1x8192x1x16, .f32⟩
  | 35 => ⟨S8x8192x2x16, .f32⟩
  | 36 => ⟨S8x8192x2x16, .f32⟩
  | 37 => ⟨S8x8192x2x16, .f32⟩
  | 38 => ⟨S1x8192x1x16, .f32⟩
  | 39 => ⟨S8x8192x2x16, .f32⟩
  | 40 => ⟨S8x8192x2x16, .f32⟩
  | 41 => ⟨S1x8192x1x16, .f32⟩
  | 42 => ⟨S8x8192x2x16, .f32⟩
  | 43 => ⟨S8x8192x2x16, .f32⟩
  | 44 => ⟨S8x8192x2x16, .f32⟩
  | 45 => ⟨S8x8192x2x32, .f32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S8192, .i32⟩
  | 53 => ⟨S8192, .i32⟩
  | 54 => ⟨S_, .i32⟩
  | 55 => ⟨S8192, .i32⟩
  | 56 => ⟨S8192, .i1⟩
  | 57 => ⟨S_, .i32⟩
  | 58 => ⟨S8192, .i32⟩
  | 59 => ⟨S8192, .i1⟩
  | 60 => ⟨S_, .i32⟩
  | 61 => ⟨S_, .i1⟩
  | 62 => ⟨S8192, .i1⟩
  | 63 => ⟨S8192, .i1⟩
  | 64 => ⟨S8192, .i1⟩
  | 65 => ⟨S8192, .i32⟩
  | 66 => ⟨S8192, .i32⟩
  | 67 => ⟨S8192, .i32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S8192, .f32⟩
  | 83 => ⟨S8192x1, .f32⟩
  | 84 => ⟨S1x16, .f32⟩
  | 85 => ⟨S8192x16, .f32⟩
  | 86 => ⟨S8192x16, .f32⟩
  | 87 => ⟨S8192x16, .f32⟩
  | 88 => ⟨S8192x16, .f32⟩
  | 89 => ⟨S8192x16, .f32⟩
  | 90 => ⟨S8x8192x2x16, .f32⟩
  | 91 => ⟨S8x8192x2x16, .f32⟩
  | 92 => ⟨S8192x1x16, .f32⟩
  | 93 => ⟨S8192x1x16, .f32⟩
  | 94 => ⟨S1x8192x1x16, .f32⟩
  | 95 => ⟨S8x8192x2x16, .f32⟩
  | 96 => ⟨S8x8192x2x16, .f32⟩
  | 97 => ⟨S1x8192x1x16, .f32⟩
  | 98 => ⟨S8x8192x2x16, .f32⟩
  | 99 => ⟨S8x8192x2x16, .f32⟩
  | 100 => ⟨S8x8192x2x16, .f32⟩
  | 101 => ⟨S1x8192x1x16, .f32⟩
  | 102 => ⟨S8x8192x2x16, .f32⟩
  | 103 => ⟨S8x8192x2x16, .f32⟩
  | 104 => ⟨S1x8192x1x16, .f32⟩
  | 105 => ⟨S8x8192x2x16, .f32⟩
  | 106 => ⟨S8x8192x2x16, .f32⟩
  | 107 => ⟨S8x8192x2x16, .f32⟩
  | 108 => ⟨S8x8192x2x32, .f32⟩
  | 109 => ⟨S8x8192x2x64, .f32⟩
  | 110 => ⟨S_, .f32⟩
  | 111 => ⟨S8x8192x4x64, .f32⟩
  | 112 => ⟨S8x8192x4x64, .f32⟩
  | 113 => ⟨S8x8192x4x128, .f32⟩
  | 114 => ⟨S8x8192x4x64, .f32⟩
  | 115 => ⟨S8x8192x4x128, .f32⟩
  | 116 => ⟨S8x8192x8x128, .f32⟩
  | 117 => ⟨S8x8192x8x64, .bf16⟩
  | 118 => ⟨S8x8192x512, .bf16⟩
  | 119 => ⟨S8x8192x8x64, .bf16⟩
  | 120 => ⟨S8x8192x512, .bf16⟩
  | 121 => ⟨S8x8192x512, .bf16⟩
  | 122 => ⟨S8x8192x8x128, .bf16⟩
  | 123 => ⟨S8x8192x1024, .bf16⟩
  | 124 => ⟨S8x8192x2x64, .bf16⟩
  | 125 => ⟨S8x8192x128, .bf16⟩
  | 126 => ⟨S8x8192x128, .bf16⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_4 : Ref sig .tc := ⟨.hbm, 79, rfl⟩
abbrev main_v70 : Ref sig .tc := ⟨.hbm, 80, rfl⟩
abbrev main_v71 : Ref sig .tc := ⟨.hbm, 81, rfl⟩
abbrev main_cst_5 : Ref sig .tc := ⟨.hbm, 82, rfl⟩
abbrev main_v72 : Ref sig .tc := ⟨.hbm, 83, rfl⟩
abbrev main_v73 : Ref sig .tc := ⟨.hbm, 84, rfl⟩
abbrev main_cst_6 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_c : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_call0_c : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_call0_c_0 : Ref sig .tc := ⟨.hbm, 111, rfl⟩
abbrev main_call0_v12 : Ref sig .tc := ⟨.hbm, 112, rfl⟩
abbrev main_call0_v13 : Ref sig .tc := ⟨.hbm, 113, rfl⟩
abbrev main_v85 : Ref sig .tc := ⟨.hbm, 114, rfl⟩
abbrev main_v86 : Ref sig .tc := ⟨.hbm, 115, rfl⟩
abbrev main_cst_7 : Ref sig .tc := ⟨.hbm, 116, rfl⟩
abbrev main_v87 : Ref sig .tc := ⟨.hbm, 117, rfl⟩
abbrev main_v88 : Ref sig .tc := ⟨.hbm, 118, rfl⟩
abbrev main_cst_8 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_9 : Ref sig .tc := ⟨.hbm, 123, rfl⟩
abbrev main_v92 : Ref sig .tc := ⟨.hbm, 124, rfl⟩
abbrev main_v93 : Ref sig .tc := ⟨.hbm, 125, rfl⟩
abbrev main_cst_10 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_c_11 : Ref sig .tc := ⟨.hbm, 156, rfl⟩
abbrev main_call1_v0 : Ref sig .tc := ⟨.hbm, 157, rfl⟩
abbrev main_call1_c : Ref sig .tc := ⟨.hbm, 158, rfl⟩
abbrev main_call1_v1 : Ref sig .tc := ⟨.hbm, 159, rfl⟩
abbrev main_call1_c_0 : Ref sig .tc := ⟨.hbm, 160, rfl⟩
abbrev main_call1_v2 : Ref sig .tc := ⟨.hbm, 161, rfl⟩
abbrev main_call1_v3 : Ref sig .tc := ⟨.hbm, 162, rfl⟩
abbrev main_call1_v4 : Ref sig .tc := ⟨.hbm, 163, rfl⟩
abbrev main_call1_c_1 : Ref sig .tc := ⟨.hbm, 164, rfl⟩
abbrev main_call1_v5 : Ref sig .tc := ⟨.hbm, 165, rfl⟩
abbrev main_call1_v6 : Ref sig .tc := ⟨.hbm, 166, rfl⟩
abbrev main_call1_c_2 : Ref sig .tc := ⟨.hbm, 167, rfl⟩
abbrev main_call1_v7 : Ref sig .tc := ⟨.hbm, 168, rfl⟩
abbrev main_call1_v8 : Ref sig .tc := ⟨.hbm, 169, rfl⟩
abbrev main_call1_c_3 : Ref sig .tc := ⟨.hbm, 170, rfl⟩
abbrev main_call1_v9 : Ref sig .tc := ⟨.hbm, 171, rfl⟩
abbrev main_call1_v10 : Ref sig .tc := ⟨.hbm, 172, rfl⟩
abbrev main_call1_v11 : Ref sig .tc := ⟨.hbm, 173, rfl⟩
abbrev main_call1_v12 : Ref sig .tc := ⟨.hbm, 174, rfl⟩
abbrev main_call1_v13 : Ref sig .tc := ⟨.hbm, 175, rfl⟩
abbrev main_call1_v14 : Ref sig .tc := ⟨.hbm, 176, rfl⟩
abbrev main_v123 : Ref sig .tc := ⟨.hbm, 177, rfl⟩
abbrev main_v124 : Ref sig .tc := ⟨.hbm, 178, rfl⟩
abbrev main_cst_12 : Ref sig .tc := ⟨.hbm, 179, rfl⟩
abbrev main_v125 : Ref sig .tc := ⟨.hbm, 180, rfl⟩
abbrev main_v126 : Ref sig .tc := ⟨.hbm, 181, rfl⟩
abbrev main_cst_13 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_14 : Ref sig .tc := ⟨.hbm, 186, rfl⟩
abbrev main_v130 : Ref sig .tc := ⟨.hbm, 187, rfl⟩
abbrev main_v131 : Ref sig .tc := ⟨.hbm, 188, rfl⟩
abbrev main_cst_15 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_16 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_17 : Ref sig .tc := ⟨.hbm, 225, rfl⟩
abbrev main_v166 : Ref sig .tc := ⟨.hbm, 226, rfl⟩
abbrev main_v167 : Ref sig .tc := ⟨.hbm, 227, rfl⟩
abbrev main_cst_18 : Ref sig .tc := ⟨.hbm, 228, rfl⟩
abbrev main_v168 : Ref sig .tc := ⟨.hbm, 229, rfl⟩
abbrev main_v169 : Ref sig .tc := ⟨.hbm, 230, rfl⟩
abbrev main_cst_19 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_c_20 : Ref sig .tc := ⟨.hbm, 243, rfl⟩
abbrev main_call2_v0 : Ref sig .tc := ⟨.hbm, 244, rfl⟩
abbrev main_call2_v1 : Ref sig .tc := ⟨.hbm, 245, rfl⟩
abbrev main_call2_v2 : Ref sig .tc := ⟨.hbm, 246, rfl⟩
abbrev main_call2_v3 : Ref sig .tc := ⟨.hbm, 247, rfl⟩
abbrev main_call2_v4 : Ref sig .tc := ⟨.hbm, 248, rfl⟩
abbrev main_call2_v5 : Ref sig .tc := ⟨.hbm, 249, rfl⟩
abbrev main_call2_v6 : Ref sig .tc := ⟨.hbm, 250, rfl⟩
abbrev main_call2_v7 : Ref sig .tc := ⟨.hbm, 251, rfl⟩
abbrev main_call2_v8 : Ref sig .tc := ⟨.hbm, 252, rfl⟩
abbrev main_call2_c : Ref sig .tc := ⟨.hbm, 253, rfl⟩
abbrev main_call2_v9 : Ref sig .tc := ⟨.hbm, 254, rfl⟩
abbrev main_call2_v10 : Ref sig .tc := ⟨.hbm, 255, rfl⟩
abbrev main_call2_v11 : Ref sig .tc := ⟨.hbm, 256, rfl⟩
abbrev main_call2_c_0 : Ref sig .tc := ⟨.hbm, 257, rfl⟩
abbrev main_call2_v12 : Ref sig .tc := ⟨.hbm, 258, rfl⟩
abbrev main_call2_v13 : Ref sig .tc := ⟨.hbm, 259, rfl⟩
abbrev main_v181 : Ref sig .tc := ⟨.hbm, 260, rfl⟩
abbrev main_v182 : Ref sig .tc := ⟨.hbm, 261, rfl⟩
abbrev main_cst_21 : Ref sig .tc := ⟨.hbm, 262, rfl⟩
abbrev main_v183 : Ref sig .tc := ⟨.hbm, 263, rfl⟩
abbrev main_v184 : Ref sig .tc := ⟨.hbm, 264, rfl⟩
abbrev main_cst_22 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_cst_23 : Ref sig .tc := ⟨.hbm, 269, rfl⟩
abbrev main_v188 : Ref sig .tc := ⟨.hbm, 270, rfl⟩
abbrev main_v189 : Ref sig .tc := ⟨.hbm, 271, rfl⟩
abbrev main_cst_24 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_c_25 : Ref sig .tc := ⟨.hbm, 302, rfl⟩
abbrev main_call3_v0 : Ref sig .tc := ⟨.hbm, 303, rfl⟩
abbrev main_call3_c : Ref sig .tc := ⟨.hbm, 304, rfl⟩
abbrev main_call3_v1 : Ref sig .tc := ⟨.hbm, 305, rfl⟩
abbrev main_call3_c_0 : Ref sig .tc := ⟨.hbm, 306, rfl⟩
abbrev main_call3_v2 : Ref sig .tc := ⟨.hbm, 307, rfl⟩
abbrev main_call3_v3 : Ref sig .tc := ⟨.hbm, 308, rfl⟩
abbrev main_call3_v4 : Ref sig .tc := ⟨.hbm, 309, rfl⟩
abbrev main_call3_c_1 : Ref sig .tc := ⟨.hbm, 310, rfl⟩
abbrev main_call3_v5 : Ref sig .tc := ⟨.hbm, 311, rfl⟩
abbrev main_call3_v6 : Ref sig .tc := ⟨.hbm, 312, rfl⟩
abbrev main_call3_c_2 : Ref sig .tc := ⟨.hbm, 313, rfl⟩
abbrev main_call3_v7 : Ref sig .tc := ⟨.hbm, 314, rfl⟩
abbrev main_call3_v8 : Ref sig .tc := ⟨.hbm, 315, rfl⟩
abbrev main_call3_c_3 : Ref sig .tc := ⟨.hbm, 316, rfl⟩
abbrev main_call3_v9 : Ref sig .tc := ⟨.hbm, 317, rfl⟩
abbrev main_call3_v10 : Ref sig .tc := ⟨.hbm, 318, rfl⟩
abbrev main_call3_v11 : Ref sig .tc := ⟨.hbm, 319, rfl⟩
abbrev main_call3_v12 : Ref sig .tc := ⟨.hbm, 320, rfl⟩
abbrev main_call3_v13 : Ref sig .tc := ⟨.hbm, 321, rfl⟩
abbrev main_call3_v14 : Ref sig .tc := ⟨.hbm, 322, rfl⟩
abbrev main_v219 : Ref sig .tc := ⟨.hbm, 323, rfl⟩
abbrev main_v220 : Ref sig .tc := ⟨.hbm, 324, rfl⟩
abbrev main_cst_26 : Ref sig .tc := ⟨.hbm, 325, rfl⟩
abbrev main_v221 : Ref sig .tc := ⟨.hbm, 326, rfl⟩
abbrev main_v222 : Ref sig .tc := ⟨.hbm, 327, rfl⟩
abbrev main_cst_27 : Ref sig .tc := ⟨.hbm, 328, rfl⟩
abbrev main_v223 : Ref sig .tc := ⟨.hbm, 329, rfl⟩
abbrev main_v224 : Ref sig .tc := ⟨.hbm, 330, rfl⟩
abbrev main_v225 : Ref sig .tc := ⟨.hbm, 331, rfl⟩
abbrev main_cst_28 : Ref sig .tc := ⟨.hbm, 332, rfl⟩
abbrev main_v226 : Ref sig .tc := ⟨.hbm, 333, rfl⟩
abbrev main_v227 : Ref sig .tc := ⟨.hbm, 334, rfl⟩
abbrev main_cst_29 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_v232 : Ref sig .tc := ⟨.hbm, 340, rfl⟩
abbrev main_v233 : Ref sig .tc := ⟨.hbm, 341, rfl⟩
abbrev main_v234 : Ref sig .tc := ⟨.hbm, 342, rfl⟩
abbrev main_v235 : Ref sig .tc := ⟨.hbm, 343, rfl⟩
abbrev main_v236 : Ref sig .tc := ⟨.hbm, 344, rfl⟩
abbrev main_v237 : Ref sig .tc := ⟨.hbm, 345, rfl⟩
abbrev main_v238 : Ref sig .tc := ⟨.hbm, 346, rfl⟩
abbrev main_v239 : Ref sig .tc := ⟨.hbm, 347, rfl⟩
abbrev main_v240 : Ref sig .tc := ⟨.hbm, 348, rfl⟩
abbrev main_v241 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_v255 : Ref sig .tc := ⟨.hbm, 363, rfl⟩
abbrev main_v256 : Ref sig .tc := ⟨.hbm, 364, rfl⟩
abbrev main_v257 : Ref sig .tc := ⟨.hbm, 365, rfl⟩
abbrev main_cst_30 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_v264 : Ref sig .tc := ⟨.hbm, 373, rfl⟩
abbrev main_v265 : Ref sig .tc := ⟨.hbm, 374, rfl⟩
abbrev main_v266 : Ref sig .tc := ⟨.hbm, 375, rfl⟩
abbrev main_v267 : Ref sig .tc := ⟨.hbm, 376, rfl⟩
abbrev main_v268 : Ref sig .tc := ⟨.hbm, 377, rfl⟩
abbrev main_v269 : Ref sig .tc := ⟨.hbm, 378, rfl⟩
abbrev main_v270 : Ref sig .tc := ⟨.hbm, 379, rfl⟩
abbrev main_v271 : Ref sig .tc := ⟨.hbm, 380, rfl⟩
abbrev main_v272 : Ref sig .tc := ⟨.hbm, 381, rfl⟩
abbrev main_v273 : Ref sig .tc := ⟨.hbm, 382, rfl⟩

abbrev nD : Nat := 1
abbrev τ : Topo := Topo.v7x

variable {F : FTy → Type} [FloatOps F]
-- ==== Proof.Flash.lean ====
/-
  A softmax-weighted sum over extended reals, computed chunk by chunk with a running maximum: the partial sums taken against the
  maximum so far, rescaled by the exponential of the maxima's difference when a chunk raises it, are at every stage the sums over the
  positions seen, and the last division is the weighted sum of the softmax. The scores are real numbers; the values are anything.
-/
module

public import Idealize.ShloMosaic.Lib.Pointwise

@[expose] public section

noncomputable section

namespace Cert.Flash

open Idealize.ShloMosaic

/-- An extended real that is a real number. -/
def IsR (x : EReal) : Prop := ∃ r : ℝ, x = (r : EReal)

theorem IsR.coe (r : ℝ) : IsR (r : EReal) := ⟨r, rfl⟩

theorem IsR.zero : IsR 0 := ⟨0, by simp⟩

theorem IsR.one : IsR 1 := ⟨1, by simp⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.sub {x y : EReal} (hx : IsR x) (hy : IsR y) : IsR (x - y) := by
  obtain ⟨a, rfl⟩ := hx; obtain ⟨b, rfl⟩ := hy
  exact ⟨a - b, (EReal.coe_sub a b).symm⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.sum {ι : Type*} (A : Finset ι) {f : ι → EReal} (h : ∀ i ∈ A, IsR (f i)) : IsR (∑ i ∈ A, f i) :=
  Finset.sum_induction f IsR (fun _ _ => IsR.add) IsR.zero h

theorem IsR.exp {x : EReal} (hx : IsR x) : IsR (Ideal.exp x) := by
  obtain ⟨a, rfl⟩ := hx
  exact ⟨Real.exp a, rfl⟩

/-- What lies strictly between the infinities is a real number. -/
theorem IsR.of_lt {x : EReal} (h1 : ⊥ < x) (h2 : x < ⊤) : IsR x :=
  ⟨x.toReal, (EReal.coe_toReal h2.ne h1.ne').symm⟩

theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

theorem exp_nonneg (x : EReal) : 0 ≤ Ideal.exp x := by
  induction x with
  | bot => simp
  | top => simp
  | coe r => rw [Ideal.exp_coe]; exact_mod_cast (Real.exp_pos r).le

/-- A nonnegative real factor goes through a sum of extended reals. -/
theorem mul_sum_nonneg {ι : Type*} {c : EReal} (h0 : 0 ≤ c) (ht : c ≠ ⊤) (A : Finset ι) (f : ι → EReal) :
    c * ∑ i ∈ A, f i = ∑ i ∈ A, c * f i := by
  classical
  induction A using Finset.induction_on with
  | empty => simp
  | insert a A ha ih => rw [Finset.sum_insert ha, Finset.sum_insert ha, EReal.left_distrib_of_nonneg_of_ne_top h0 ht, ih]

variable {ι : Type*}

/-- The largest of finitely many real numbers, at least one of them, is a real number. -/
theorem sup_isR {s : ι → EReal} (hs : ∀ i, IsR (s i)) {A : Finset ι} (hA : A.Nonempty) : IsR (A.sup s) := by
  obtain ⟨i, -, hi⟩ := Finset.exists_mem_eq_sup A hA s
  rw [hi]; exact hs i

/-- Changing the maximum the exponentials are taken against. -/
theorem exp_rescale {a m n : EReal} (ha : IsR a) (hm : IsR m) (hn : IsR n) :
    Ideal.exp (m - n) * Ideal.exp (a - m) = Ideal.exp (a - n) := by
  obtain ⟨a, rfl⟩ := ha; obtain ⟨m, rfl⟩ := hm; obtain ⟨n, rfl⟩ := hn
  rw [← EReal.coe_sub, ← EReal.coe_sub, ← EReal.coe_sub, Ideal.exp_coe, Ideal.exp_coe, Ideal.exp_coe, ← EReal.coe_mul, ← Real.exp_add]
  congr 2; ring

/-- The sum over the positions `A` of `w` weighted by the exponentials of the scores against their maximum over `A`. -/
def wsum (s w : ι → EReal) (A : Finset ι) : EReal := ∑ i ∈ A, Ideal.exp (s i - A.sup s) * w i

/-- ONE CHUNK: the weighted sum over `A`, rescaled to the new maximum, plus the chunk's own against it, is the weighted sum over both. -/
theorem wsum_union [DecidableEq ι] {s : ι → EReal} (hs : ∀ i, IsR (s i)) (w : ι → EReal) {A B : Finset ι} (hAB : Disjoint A B) :
    Ideal.exp (A.sup s - max (A.sup s) (B.sup s)) * wsum s w A + ∑ i ∈ B, Ideal.exp (s i - max (A.sup s) (B.sup s)) * w i
      = wsum s w (A ∪ B) := by
  have hM : max (A.sup s) (B.sup s) = (A ∪ B).sup s := (Finset.sup_union).symm
  rw [hM]
  unfold wsum
  rw [Finset.sum_union hAB]
  congr 1
  rcases A.eq_empty_or_nonempty with rfl | hne
  · simp
  have hm := sup_isR hs hne
  have hn := sup_isR hs (hne.mono (Finset.subset_union_left (s₂ := B)))
  obtain ⟨e, he⟩ := (hm.sub hn).exp
  rw [mul_sum_nonneg (exp_nonneg _) (by rw [he]; exact EReal.coe_ne_top e)]
  refine Finset.sum_congr rfl fun i _ => ?_
  rw [← mul_assoc, exp_rescale (hs i) hm hn]

/-- The softmax's denominator is a positive real number. -/
theorem den_pos {s : ι → EReal} (hs : ∀ i, IsR (s i)) {A : Finset ι} (hA : A.Nonempty) {M : EReal} (hM : IsR M) :
    ∃ r : ℝ, 0 < r ∧ ∑ i ∈ A, Ideal.exp (s i - M) = (r : EReal) := by
  obtain ⟨M, rfl⟩ := hM
  choose a ha using hs
  refine ⟨∑ i ∈ A, Real.exp (a i - M), Finset.sum_pos (fun i _ => Real.exp_pos _) hA, ?_⟩
  rw [coe_sum]
  refine Finset.sum_congr rfl fun i _ => ?_
  rw [ha i, ← EReal.coe_sub, Ideal.exp_coe]

/-- Dividing a weighted sum by a positive real number divides the weights. -/
theorem div_sum {r : ℝ} (hr : 0 < r) (A : Finset ι) (e w : ι → EReal) :
    Ideal.div (∑ i ∈ A, e i * w i) (r : EReal) = ∑ i ∈ A, Ideal.div (e i) (r : EReal) * w i := by
  rw [Ideal.div_coe hr.ne', mul_comm, mul_sum_nonneg (by exact_mod_cast (one_div_pos.mpr hr).le) (EReal.coe_ne_top _)]
  refine Finset.sum_congr rfl fun i _ => ?_
  rw [Ideal.div_coe hr.ne', ← mul_assoc, mul_comm _ (e i)]

/-- THE LAST DIVISION: the two weighted sums' quotient is the sum of the values weighted by the softmax of the scores. -/
theorem wsum_div {s : ι → EReal} (hs : ∀ i, IsR (s i)) (w : ι → EReal) {A : Finset ι} (hA : A.Nonempty) :
    Ideal.div (wsum s w A) (wsum s (fun _ => 1) A)
      = ∑ i ∈ A, Ideal.div (Ideal.exp (s i - A.sup s)) (∑ j ∈ A, Ideal.exp (s j - A.sup s)) * w i := by
  obtain ⟨r, hr, he⟩ := den_pos hs hA (sup_isR hs hA)
  have h1 : wsum s (fun _ => 1) A = (r : EReal) := by unfold wsum; simpa using he
  rw [h1, he, wsum, div_sum hr]

/-- A maximum folded from `⊥` is the supremum. -/
theorem fold_max_bot (A : Finset ι) (f : ι → EReal) : A.fold max ⊥ f = A.sup f := by
  classical
  induction A using Finset.induction_on with
  | empty => simp
  | insert a A ha ih => rw [Finset.fold_insert ha, Finset.sup_insert, ih]

/-! ## The positions of a row in chunks -/

/-- The positions below `T * c` of a row of `N`: what the first `c` chunks of `T` hold. -/
def seen (N T c : ℕ) : Finset (Fin N) := Finset.univ.filter fun i => i.val < T * c

/-- The positions of chunk `c`. -/
def chunk (N T c : ℕ) : Finset (Fin N) := Finset.univ.filter fun i => T * c ≤ i.val ∧ i.val < T * (c + 1)

theorem seen_zero (N T : ℕ) : seen N T 0 = ∅ := by
  ext i; simp [seen]

theorem seen_succ (N T c : ℕ) : seen N T (c + 1) = seen N T c ∪ chunk N T c := by
  ext i
  simp only [seen, chunk, Finset.mem_union, Finset.mem_filter, Finset.mem_univ, true_and]
  have : T * c ≤ T * (c + 1) := Nat.mul_le_mul_left _ (Nat.le_succ c)
  omega

theorem seen_disjoint (N T c : ℕ) : Disjoint (seen N T c) (chunk N T c) := by
  rw [Finset.disjoint_left]
  intro i hi hj
  simp only [seen, chunk, Finset.mem_filter, Finset.mem_univ, true_and] at hi hj
  omega

theorem seen_all {N T c : ℕ} (h : N ≤ T * c) : seen N T c = Finset.univ := by
  ext i
  have := i.isLt
  simp only [seen, Finset.mem_filter, Finset.mem_univ, true_and, iff_true]
  omega

/-- Position `t` of chunk `c`. -/
def at_ {N T c : ℕ} (h : T * (c + 1) ≤ N) (t : Fin T) : Fin N :=
  ⟨T * c + t.val, by have := t.isLt; rw [Nat.mul_succ] at h; omega⟩

theorem at_injective {N T c : ℕ} (h : T * (c + 1) ≤ N) : Function.Injective (at_ h) := fun a b hab =>
  Fin.ext (by have := congrArg Fin.val hab; simp only [at_] at this; omega)

theorem chunk_eq_map {N T c : ℕ} (h : T * (c + 1) ≤ N) : chunk N T c = Finset.univ.map ⟨at_ h, at_injective h⟩ := by
  ext i
  simp only [chunk, Finset.mem_filter, Finset.mem_univ, true_and, Finset.mem_map, Function.Embedding.coeFn_mk]
  constructor
  · rintro ⟨h1, h2⟩
    rw [Nat.mul_succ] at h2
    exact ⟨⟨i.val - T * c, by omega⟩, Fin.ext (by simp only [at_]; omega)⟩
  · rintro ⟨t, rfl⟩
    have := t.isLt
    rw [Nat.mul_succ]
    simp only [at_]; omega

theorem sum_chunk {M : Type*} [AddCommMonoid M] {N T c : ℕ} (h : T * (c + 1) ≤ N) (f : Fin N → M) :
    ∑ i ∈ chunk N T c, f i = ∑ t : Fin T, f (at_ h t) := by
  rw [chunk_eq_map h, Finset.sum_map]; rfl

theorem sup_chunk {N T c : ℕ} (h : T * (c + 1) ≤ N) (f : Fin N → EReal) :
    (chunk N T c).sup f = Finset.univ.sup fun t : Fin T => f (at_ h t) := by
  rw [chunk_eq_map h, Finset.sup_map]; rfl

/-! ## The running state of one row -/

/-- One chunk's update of the running maximum. -/
theorem step_max [DecidableEq ι] (s : ι → EReal) (A B : Finset ι) : max (A.sup s) (B.sup s) = (A ∪ B).sup s :=
  (Finset.sup_union).symm

/-- One chunk's update of the running denominator. -/
theorem step_den [DecidableEq ι] {s : ι → EReal} (hs : ∀ i, IsR (s i)) {A B : Finset ι} (hAB : Disjoint A B) :
    Ideal.exp (A.sup s - max (A.sup s) (B.sup s)) * wsum s (fun _ => 1) A + ∑ i ∈ B, Ideal.exp (s i - max (A.sup s) (B.sup s))
      = wsum s (fun _ => 1) (A ∪ B) := by
  rw [← wsum_union hs (fun _ => 1) hAB]
  simp only [mul_one]

end Cert.Flash

end
-- ==== Proof.GqaRow.lean ====
/-
  The attention call's loop over the key chunks: before trip `n` it carries, for each of its 512 stacked query rows, the maximum of the
  row's scores over the keys of the first `n` chunks, the sum of their exponentials against it, and those exponentials' sum of the values.
-/
module

public import proofs.«01_k».proof.Proof.Flash
public import proofs.«01_k».proof.Proof.Gen.GqaIdeal.Value
public import Idealize.ShloMosaic.Lib.Pipeline.ValueKit

@[expose] public section

set_option maxRecDepth 16384

noncomputable section

open Idealize.ShloMosaic Idealize.ShloMosaic.TcCoe Idealize.SL.Sem

namespace Cert.GqaIdeal.At

open Cert.GqaIdeal Cert.GqaIdeal.Gen Cert.Flash

/-- The score of stacked query row `r` against key `j`: rows below 256 are the first head's, the others the second's. -/
def row (v0 v2 : FVec Ideal S1x256x128 .bf16) (x1 : FVec Ideal S1x8192x128 .bf16) (r : Fin 512) (j : Fin 8192) : EReal :=
  ∑ x : Fin 128, (if h : r.val < 256 then v0 (ix3 0 ⟨r.val, h⟩ x) else v2 (ix3 0 ⟨r.val - 256, by omega⟩ x)) * x1 (ix3 0 j x)

/-- Lane `l` of the values, by key. -/
def lane (x2 : FVec Ideal S1x8192x128 .bf16) (l : Fin 128) (j : Fin 8192) : EReal := x2 (ix3 0 j l)

theorem trips_le (k : Fin k0_t1_loop.trips) : 512 * (k.val + 1) ≤ 8192 := by
  have h := Nat.lt_of_lt_of_le k.isLt k0_t1_abs.2.1
  omega

/-- Chunk `k` of a keys or values block, as the trip loads it. -/
def ck (x : FVec Ideal S1x8192x128 .bf16) (k : Fin k0_t1_loop.trips) : FVec Ideal S1x512x128 .bf16 :=
  fun y => x ((Rect.unit (s := S1x8192x128) (k0_off1 k) S1x512x128.size (k0_off1_inb k)).idx y)

theorem ck_at (x : FVec Ideal S1x8192x128 .bf16) (k : Fin k0_t1_loop.trips) (s : Fin 512) (l : Fin 128) :
    ck x k (ix3 0 s l) = x (ix3 0 (at_ (trips_le k) s) l) := by
  refine congrArg x (funext fun a => Fin.ext ?_)
  have off : k0_off1 k = ![0, 512 * k.val, 0] := k0_off1_eq k
  match a with
  | ⟨0, _⟩ => show k0_off1 k 0 + 1 * 0 = 0; rw [off]; rfl
  | ⟨1, _⟩ => show k0_off1 k 1 + 1 * s.val = 512 * k.val + s.val; rw [off, Nat.one_mul]; rfl
  | ⟨2, _⟩ => show k0_off1 k 2 + 1 * l.val = l.val; rw [off, Nat.one_mul]; exact Nat.zero_add _

variable (v0 v2 : FVec Ideal S1x256x128 .bf16) (x1 x2 : FVec Ideal S1x8192x128 .bf16)

theorem pay4_at (k : Fin k0_t1_loop.trips) (r s : Fin 512) :
    k0_pay4 (F := Ideal) v0 v2 (ck x1 k) (ix2 r s) = row v0 v2 x1 r (at_ (trips_le k) s) := by
  pointwise [k0_pay4, row, ck_at]

theorem ofBits_bot : Ideal.ofBits .f32 0xFF800000#32 = (⊥ : EReal) := by
  simp [Ideal.ofBits, Ideal.ieee]

theorem pay5_at (m : FVec Ideal S512x1 .f32) (k : Fin k0_t1_loop.trips) (r : Fin 512) :
    k0_pay5 (F := Ideal) v0 v2 m (ck x1 k) (ix2 r 0) = max (m (ix2 r 0)) ((chunk 8192 512 k.val).sup (row v0 v2 x1 r)) := by
  rw [sup_chunk (trips_le k), ← fold_max_bot, ← ofBits_bot]
  pointwise [k0_pay5, pay4_at]

theorem pay8_at (m l : FVec Ideal S512x1 .f32) (k : Fin k0_t1_loop.trips) (r : Fin 512) :
    k0_pay8 (F := Ideal) v0 v2 m l (ck x1 k) (ix2 r 0)
      = Ideal.exp (m (ix2 r 0) - max (m (ix2 r 0)) ((chunk 8192 512 k.val).sup (row v0 v2 x1 r))) * l (ix2 r 0)
        + ∑ j ∈ chunk 8192 512 k.val, Ideal.exp (row v0 v2 x1 r j - max (m (ix2 r 0)) ((chunk 8192 512 k.val).sup (row v0 v2 x1 r))) := by
  rw [sum_chunk (trips_le k)]
  pointwise [k0_pay8, k0_pay6, k0_pay7, pay4_at, pay5_at]

theorem pay9_at (m : FVec Ideal S512x1 .f32) (a : FVec Ideal S512x128 .f32) (k : Fin k0_t1_loop.trips) (r : Fin 512) (l : Fin 128) :
    k0_pay9 (F := Ideal) v0 v2 m a (ck x1 k) (ck x2 k) (ix2 r l)
      = Ideal.exp (m (ix2 r 0) - max (m (ix2 r 0)) ((chunk 8192 512 k.val).sup (row v0 v2 x1 r))) * a (ix2 r l)
        + ∑ j ∈ chunk 8192 512 k.val, Ideal.exp (row v0 v2 x1 r j - max (m (ix2 r 0)) ((chunk 8192 512 k.val).sup (row v0 v2 x1 r))) * lane x2 l j := by
  rw [sum_chunk (trips_le k)]
  pointwise [k0_pay9, k0_pay6, k0_pay7, pay4_at, pay5_at, lane, ck_at]

variable (𝒱 : Variants) (c : Dev nD) (bd : Option 𝒱.V) (i : grid0.Coords)
  (arg3 : Memref sig .tc .vmem S1x256x256 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S1x256x128 .bf16) (harg6 : arg6.IsWhole)

theorem trip_eq (k : Fin k0_t1_loop.trips) (acc : FVec Ideal S512x1 .f32 × FVec Ideal S512x1 .f32 × FVec Ideal S512x128 .f32) :
    tripR_k0_t1 (F := Ideal) 𝒱 c bd i arg3 harg3 arg4 harg4 arg5 harg5 arg6 harg6 v0 v2 (harg4.unread x1) (harg5.unread x2) k acc
      = (k0_pay5 v0 v2 acc.1 (ck x1 k), k0_pay8 v0 v2 acc.1 acc.2.1 (ck x1 k), k0_pay9 v0 v2 acc.1 acc.2.2 (ck x1 k) (ck x2 k)) := by
  unfold tripR_k0_t1 trip_k0_t1
  frame_out
  rfl

/-- What the loop carries after the key chunks before `n`. -/
structure Carried (n : ℕ) (S : FVec Ideal S512x1 .f32 × FVec Ideal S512x1 .f32 × FVec Ideal S512x128 .f32) : Prop where
  max : ∀ r : Fin 512, S.1 (ix2 r 0) = (seen 8192 512 n).sup (row v0 v2 x1 r)
  den : ∀ r : Fin 512, S.2.1 (ix2 r 0) = wsum (row v0 v2 x1 r) (fun _ => 1) (seen 8192 512 n)
  num : ∀ (r : Fin 512) (l : Fin 128), S.2.2 (ix2 r l) = wsum (row v0 v2 x1 r) (lane x2 l) (seen 8192 512 n)

theorem carried_zero : Carried v0 v2 x1 x2 0 (k0_pay1 (F := Ideal), k0_pay2 (F := Ideal), k0_pay3 (F := Ideal)) where
  max r := by
    rw [seen_zero, Finset.sup_empty, ← ofBits_bot]
    pointwise [k0_pay1]
  den r := by
    rw [seen_zero, wsum, Finset.sum_empty]
    pointwise [k0_pay2]
  num r l := by
    rw [seen_zero, wsum, Finset.sum_empty]
    pointwise [k0_pay3]

theorem carried_succ (hs : ∀ r j, IsR (row v0 v2 x1 r j)) (k : Fin k0_t1_loop.trips)
    (S : FVec Ideal S512x1 .f32 × FVec Ideal S512x1 .f32 × FVec Ideal S512x128 .f32) (h : Carried v0 v2 x1 x2 k.val S) :
    Carried v0 v2 x1 x2 (k.val + 1)
      (k0_pay5 v0 v2 S.1 (ck x1 k), k0_pay8 v0 v2 S.1 S.2.1 (ck x1 k), k0_pay9 v0 v2 S.1 S.2.2 (ck x1 k) (ck x2 k)) where
  max r := by
    rw [seen_succ, ← step_max]
    exact (pay5_at v0 v2 x1 S.1 k r).trans (by rw [h.max r])
  den r := by
    rw [seen_succ, ← step_den (hs r) (seen_disjoint 8192 512 k.val)]
    exact (pay8_at v0 v2 x1 S.1 S.2.1 k r).trans (by rw [h.max r, h.den r])
  num r l := by
    rw [seen_succ, ← wsum_union (hs r) (lane x2 l) (seen_disjoint 8192 512 k.val)]
    exact (pay9_at v0 v2 x1 x2 S.1 S.2.2 k r l).trans (by rw [h.max r, h.num r l])

theorem carried (hs : ∀ r j, IsR (row v0 v2 x1 r j)) : ∀ n, n ≤ k0_t1_loop.trips → Carried v0 v2 x1 x2 n
    (st_k0_t1 (F := Ideal) 𝒱 c bd i arg3 harg3 arg4 harg4 arg5 harg5 arg6 harg6 v0 v2 (harg4.unread x1) (harg5.unread x2)
      (k0_pay1 (F := Ideal), k0_pay2 (F := Ideal), k0_pay3 (F := Ideal)) n)
  | 0, _ => carried_zero v0 v2 x1 x2
  | n + 1, h => by
    rw [st_k0_t1_succ (F := Ideal) 𝒱 c bd i arg3 harg3 arg4 harg4 arg5 harg5 arg6 harg6 v0 v2 (harg4.unread x1) (harg5.unread x2) _ ⟨n, h⟩, trip_eq]
    exact carried_succ v0 v2 x1 x2 hs ⟨n, h⟩ _ (carried hs n (Nat.le_of_succ_le h))

/-- AFTER THE LOOP the quotient of the weighted sum by the denominator is the softmax-weighted sum of the values over all keys. -/
theorem loop_div (hs : ∀ r j, IsR (row v0 v2 x1 r j)) {S : FVec Ideal S512x1 .f32 × FVec Ideal S512x1 .f32 × FVec Ideal S512x128 .f32}
    (h : Carried v0 v2 x1 x2 16 S) (r : Fin 512) (l : Fin 128) :
    Ideal.div (S.2.2 (ix2 r l)) (S.2.1 (ix2 r 0))
      = ∑ j : Fin 8192, Ideal.div (Ideal.exp (row v0 v2 x1 r j - Finset.univ.sup (row v0 v2 x1 r)))
          (∑ j' : Fin 8192, Ideal.exp (row v0 v2 x1 r j' - Finset.univ.sup (row v0 v2 x1 r))) * lane x2 l j := by
  rw [h.num, h.den, seen_all (by decide)]
  exact wsum_div (hs r) (lane x2 l) ⟨0, Finset.mem_univ _⟩

end Cert.GqaIdeal.At

end
-- ==== Proof.GqaHost.lean ====
/-
  The attention call's operands as its host code lays them out, read through its blocks: the scaled queries, each head's 64 lanes in the
  half its key head takes, and the keys and values with the two heads side by side.
-/
module

public import proofs.«01_k».proof.Proof.GqaRow
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GqaIdeal.At

open Cert.GqaIdeal Cert.GqaIdeal.Gen

variable (m : (ℓ : Loc nD τ sig) → Buf (Elt Ideal) ℓ)

/-- Grid point `t` is batch `t / 128`, query tile `t / 4 % 32`, head pair `t % 4`. -/
theorem idx : ∀ t : Fin cfg0.N, win0_0.index t = ![t.val / 128, t.val / 4 % 32, t.val % 4] ∧ win0_1.index t = ![t.val / 128, 0, 0]
    ∧ win0_2.index t = ![t.val / 128, 0, 0] ∧ win0_3.index t = ![t.val / 128, t.val / 4 % 32, t.val % 4]
    ∧ (grid0.coords t 2).val = t.val % 4 ∧ t.val / 128 < 8 :=
  (by decide +kernel : ∀ t : Fin grid0.N, _)

/-- The batch of a grid point. -/
def bt (t : Fin cfg0.N) : Fin 8 := ⟨t.val / 128, (idx t).2.2.2.2.2⟩

/-- The query a grid point's tile holds in row `r`. -/
def nt (t : Fin cfg0.N) (r : Fin 256) : Fin 8192 := ⟨t.val / 4 % 32 * 256 + r.val, by omega⟩

/-- The scaled queries with the first four heads in the lower lanes and the last four in the upper ones, zeros elsewhere. -/
def spread (A : FVec Ideal S8x8192x8x64 .bf16) : FVec Ideal S8x8192x8x128 .bf16 :=
  concatenate S8x8192x8x128 2
    [⟨S8x8192x4x128, concatenate S8x8192x4x128 3
        [⟨S8x8192x4x64, extractStridedSlice S8x8192x4x64 ![0, 0, 0, 0] A slices_S8x8192x8x64_S8x8192x4x64_0_0_0_0⟩,
         ⟨S8x8192x4x64, broadcastInDim S8x8192x4x64 ![] bcast_S_S8x8192x4x64 (constant S_ FTy.bf16 0#16)⟩]
        concatenates_S8x8192x4x64_S8x8192x4x64_S8x8192x4x128_d3⟩,
     ⟨S8x8192x4x128, concatenate S8x8192x4x128 3
        [⟨S8x8192x4x64, broadcastInDim S8x8192x4x64 ![] bcast_S_S8x8192x4x64 (constant S_ FTy.bf16 0#16)⟩,
         ⟨S8x8192x4x64, extractStridedSlice S8x8192x4x64 ![0, 0, 4, 0] A slices_S8x8192x8x64_S8x8192x4x64_0_0_4_0⟩]
        concatenates_S8x8192x4x64_S8x8192x4x64_S8x8192x4x128_d3⟩]
    concatenates_S8x8192x4x128_S8x8192x4x128_S8x8192x8x128_d2

/-- The queries times an eighth. -/
def scaled (q : FVec Ideal S8x8192x8x64 .f32) : FVec Ideal S8x8192x8x64 .bf16 :=
  truncf FTy.bf16 (mulf q (broadcastInDim S8x8192x8x64 ![] bcast_S_S8x8192x8x64 (constant S_ FTy.f32 0x3E000000#32))) bitsLt_bf16_f32

theorem scaled_at (q : FVec Ideal S8x8192x8x64 .f32) (b : Fin 8) (n : Fin 8192) (h : Fin 8) (e : Fin 64) :
    scaled q (ix4 b n h e) = q (ix4 b n h e) * Ideal.ofBits FTy.f32 0x3E000000#32 := by
  pointwise [scaled]

theorem flat_at (A : FVec Ideal S8x8192x8x128 .bf16) (b : Fin 8) (n : Fin 8192) (x : Fin 1024) :
    shapeCast S8x8192x1024 A shapeCasts_S8x8192x8x128_S8x8192x1024 (ix3 b n x)
      = A (ix4 b n ⟨x.val / 128, by omega⟩ ⟨x.val % 128, by omega⟩) := by
  pointwise

/-- The scaled query `n` of head `h` at lane `x` of its 128. -/
def qrow (q : FVec Ideal S8x8192x8x64 .f32) (b : Fin 8) (n : Fin 8192) (h : Fin 8) (x : Fin 128) : EReal :=
  if h.val < 4 then if e : x.val < 64 then q (ix4 b n h ⟨x.val, e⟩) * Ideal.ofBits FTy.f32 0x3E000000#32 else 0
  else if e : x.val < 64 then 0 else q (ix4 b n h ⟨x.val - 64, by omega⟩) * Ideal.ofBits FTy.f32 0x3E000000#32

theorem spread_at (q : FVec Ideal S8x8192x8x64 .f32) (b : Fin 8) (n : Fin 8192) (h : Fin 8) (x : Fin 128) :
    spread (scaled q) (ix4 b n h x) = qrow q b n h x := by
  have hs : ∀ h e, scaled q (ix4 b n h e) = q (ix4 b n h e) * Ideal.ofBits FTy.f32 0x3E000000#32 := fun h e => scaled_at q b n h e
  generalize scaled q = A at hs ⊢
  unfold qrow
  pointwise [spread]
  by_cases h4 : h.val < 4
  · simp only [h4, dite_true, if_true, hs]
  · have e4 : (⟨4 + (h.val - 4), by omega⟩ : Fin 8) = h := Fin.ext (by simp only; omega)
    simp only [h4, dite_false, if_false, hs, e4]

theorem V_v9 (c : Dev nD) : V m c main_v9
    = shapeCast S8x8192x1024 (spread (scaled (m (c, Proc.tc.devRef main_arg0)))) shapeCasts_S8x8192x8x128_S8x8192x1024 := by
  entry_read
  rfl

/-- The column of the spread queries a grid point's tile holds at lane `x`. -/
def lt (t : Fin cfg0.N) (x : Fin 256) : Fin 1024 := ⟨t.val % 4 * 256 + x.val, by omega⟩

theorem emb0 (t : Fin cfg0.N) (r x : Fin 256) :
    (win0_0.blk t).view.emb (ix3 0 r x) = ix3 (bt t) (nt t r) (lt t x) := by
  blk_ext [idx t, bt, nt, lt]

theorem qflat_at (q : FVec Ideal S8x8192x8x64 .f32) (b : Fin 8) (n : Fin 8192) (x : Fin 1024) :
    shapeCast S8x8192x1024 (spread (scaled q)) shapeCasts_S8x8192x8x128_S8x8192x1024 (ix3 b n x)
      = qrow q b n ⟨x.val / 128, by omega⟩ ⟨x.val % 128, by omega⟩ := by
  rw [flat_at, spread_at]

theorem read0 (c : Dev nD) (t : Fin cfg0.N) (G : FVec Ideal S8x8192x1024 .bf16) (h : V m c (Pipeline.arrRef spec0 0) = G) (y : S1x256x256.Idx) :
    (show FVec Ideal S1x256x256 .bf16 from iblk m c 0 t) y = G ((win0_0.blk t).view.emb y) := by
  unfold iblk
  rw [h]
  rfl

theorem q_at (c : Dev nD) (t : Fin cfg0.N) (r x : Fin 256) :
    (show FVec Ideal S1x256x256 .bf16 from iblk m c 0 t) (ix3 0 r x)
      = qrow (m (c, Proc.tc.devRef main_arg0)) (bt t) (nt t r) ⟨(lt t x).val / 128, by omega⟩ ⟨(lt t x).val % 128, by omega⟩ :=
  (read0 m c t _ (V_v9 m c) _).trans ((congrArg _ (emb0 t r x)).trans (qflat_at _ _ _ _))

theorem V_v11 (c : Dev nD) : V m c main_v11
    = shapeCast S8x8192x128 (truncf (s := S8x8192x2x64) (F := Ideal) FTy.bf16 (m (c, Proc.tc.devRef main_arg1)) bitsLt_bf16_f32) shapeCasts_S8x8192x2x64_S8x8192x128 := by
  entry_read
  rfl

theorem V_v13 (c : Dev nD) : V m c main_v13
    = shapeCast S8x8192x128 (truncf (s := S8x8192x2x64) (F := Ideal) FTy.bf16 (m (c, Proc.tc.devRef main_arg2)) bitsLt_bf16_f32) shapeCasts_S8x8192x2x64_S8x8192x128 := by
  entry_read
  rfl

theorem pair_at (k : FVec Ideal S8x8192x2x64 .f32) (b : Fin 8) (s : Fin 8192) (x : Fin 128) :
    shapeCast S8x8192x128 (truncf FTy.bf16 k bitsLt_bf16_f32) shapeCasts_S8x8192x2x64_S8x8192x128 (ix3 b s x)
      = k (ix4 b s ⟨x.val / 64, by omega⟩ ⟨x.val % 64, by omega⟩) := by
  pointwise

theorem emb1 (t : Fin cfg0.N) (s : Fin 8192) (x : Fin 128) : (win0_1.blk t).view.emb (ix3 0 s x) = ix3 (bt t) s x := by
  blk_ext [idx t, bt]

theorem emb2 (t : Fin cfg0.N) (s : Fin 8192) (x : Fin 128) : (win0_2.blk t).view.emb (ix3 0 s x) = ix3 (bt t) s x := by
  blk_ext [idx t, bt]

theorem k_at (c : Dev nD) (t : Fin cfg0.N) (s : Fin 8192) (x : Fin 128) :
    (show FVec Ideal S1x8192x128 .bf16 from iblk m c 1 t) (ix3 0 s x)
      = (show FVec Ideal S8x8192x2x64 .f32 from m (c, Proc.tc.devRef main_arg1)) (ix4 (bt t) s ⟨x.val / 64, by omega⟩ ⟨x.val % 64, by omega⟩) :=
  (show _ = V m c main_v11 ((win0_1.blk t).view.emb (ix3 0 s x)) by blk_simp [iblk]).trans
    ((congrArg (V m c main_v11) (emb1 t s x)).trans ((congrFun (V_v11 m c) _).trans (pair_at _ _ _ _)))

theorem v_at (c : Dev nD) (t : Fin cfg0.N) (s : Fin 8192) (x : Fin 128) :
    (show FVec Ideal S1x8192x128 .bf16 from iblk m c 2 t) (ix3 0 s x)
      = (show FVec Ideal S8x8192x2x64 .f32 from m (c, Proc.tc.devRef main_arg2)) (ix4 (bt t) s ⟨x.val / 64, by omega⟩ ⟨x.val % 64, by omega⟩) :=
  (show _ = V m c main_v13 ((win0_2.blk t).view.emb (ix3 0 s x)) by blk_simp [iblk]).trans
    ((congrArg (V m c main_v13) (emb2 t s x)).trans ((congrFun (V_v13 m c) _).trans (pair_at _ _ _ _)))

end Cert.GqaIdeal.At
-- ==== Proof.GqaRef.lean ====
/-
  The reference attention read at one element: the softmax over the 8192 keys of the scaled scores of one query head against its key
  head, applied to that head's values.
-/
module

public import proofs.«01_k».proof.Proof.Flash
public import proofs.«01_k».proof.Proof.Gen.GqaRefIdeal.Read
public import Idealize.ShloMosaic.Lib.Pipeline.ValueKit

@[expose] public section

set_option maxRecDepth 16384

noncomputable section

open Idealize.ShloMosaic Idealize.ShloMosaic.TcCoe Idealize.SL.Sem

namespace Cert.GqaRefIdeal.At

open Cert.GqaRefIdeal Cert.GqaRefIdeal.Gen Cert.GqaRefIdeal.Read

variable (q : FVec Ideal S8x8192x8x64 .f32) (k v : FVec Ideal S8x8192x2x64 .f32)

/-- The key head a query head reads: four query heads to one. -/
def kvHead (h : Fin 8) : Fin 2 := ⟨h.val / 4, by omega⟩

/-- The scaled score of query `n` of head `h` against key `s`. -/
def score (b : Fin 8) (h : Fin 8) (n s : Fin 8192) : EReal :=
  (∑ e : Fin 64, k (ix4 b s (kvHead h) e) * q (ix4 b n h e)) * Ideal.ofBits .f32 0x3E000000#32

/-- Query `n` of head `h`'s attention at lane `e`. -/
def attn (b : Fin 8) (h : Fin 8) (n : Fin 8192) (e : Fin 64) : EReal :=
  ∑ s : Fin 8192, Ideal.div (Ideal.exp (score q k b h n s - Finset.univ.sup (score q k b h n)))
    (∑ j : Fin 8192, Ideal.exp (score q k b h n j - Finset.univ.sup (score q k b h n))) * v (ix4 b s (kvHead h) e)

theorem v4_at (b : Fin 8) (kh : Fin 2) (g : Fin 4) (n s : Fin 8192) :
    val_main_v4 (F := Ideal) q k (ix5 b kh g n s) = score q k b ⟨kh.val * 4 + g.val, by omega⟩ n s := by
  pointwise [val_main_v4, val_main_v3, val_main_cst, val_main_v2, val_main_v1, val_main_v0, score]
  have hk : kvHead ⟨kh.val * 4 + g.val, by omega⟩ = kh := Fin.ext (by simp only [kvHead]; omega)
  rw [hk]

/-- The word of minus infinity is the bottom. -/
theorem ofBits_bot : Ideal.ofBits .f32 0xFF800000#32 = (⊥ : EReal) := by
  simp [Ideal.ofBits, Ideal.ieee]

theorem v5_at (b : Fin 8) (kh : Fin 2) (g : Fin 4) (n : Fin 8192) :
    val_main_v5 (F := Ideal) q k (ix4 b kh g n) = Finset.univ.sup (score q k b ⟨kh.val * 4 + g.val, by omega⟩ n) := by
  have h : ∀ s, val_main_v4 (F := Ideal) q k (ix5 b kh g n s) = score q k b ⟨kh.val * 4 + g.val, by omega⟩ n s := v4_at q k b kh g n
  unfold val_main_v5
  generalize val_main_v4 (F := Ideal) q k = y at h ⊢
  rw [← Flash.fold_max_bot, ← ofBits_bot]
  pointwise [val_main_cst_0, h]

theorem v7_at (b : Fin 8) (kh : Fin 2) (g : Fin 4) (n : Fin 8192) :
    val_main_v7 (F := Ideal) q k (ix4 b kh g n) = Finset.univ.sup (score q k b ⟨kh.val * 4 + g.val, by omega⟩ n) := by
  rw [val_main_v7_apply, val_main_v6_apply, val_main_cst_1_apply, v5_at q k b kh g n]
  exact (congrArg (max · _) ofBits_bot).trans (max_eq_right bot_le)

theorem v11_at (b : Fin 8) (kh : Fin 2) (g : Fin 4) (n s : Fin 8192) :
    val_main_v11 (F := Ideal) q k (ix5 b kh g n s)
      = Ideal.exp (score q k b ⟨kh.val * 4 + g.val, by omega⟩ n s - Finset.univ.sup (score q k b ⟨kh.val * 4 + g.val, by omega⟩ n)) := by
  have hM : val_main_v9 (F := Ideal) q k (ix5 b kh g n s) = Finset.univ.sup (score q k b ⟨kh.val * 4 + g.val, by omega⟩ n) := by
    rw [val_main_v9_apply, val_main_v8_apply]
    exact (congrArg (val_main_v7 (F := Ideal) q k) (eq_ix4 _)).trans (v7_at q k b kh g n)
  rw [val_main_v11_apply, val_main_v10_apply, v4_at, hM]
  rfl

theorem v12_at (b : Fin 8) (kh : Fin 2) (g : Fin 4) (n : Fin 8192) :
    val_main_v12 (F := Ideal) q k (ix4 b kh g n)
      = ∑ j : Fin 8192, Ideal.exp (score q k b ⟨kh.val * 4 + g.val, by omega⟩ n j - Finset.univ.sup (score q k b ⟨kh.val * 4 + g.val, by omega⟩ n)) := by
  have h0 : val_main_cst_2 (F := Ideal) (Shape.Idx.first h_S_) = (0 : EReal) := by
    rw [val_main_cst_2_apply]; exact Ideal.ofBits_zero_f32
  refine (val_main_v12_apply q k _).trans ?_
  refine (congrArg (· + _) h0).trans ((zero_add _).trans ?_)
  exact Finset.sum_congr rfl fun j _ => (congrArg (val_main_v11 (F := Ideal) q k) (eq_ix5 _)).trans (v11_at q k b kh g n j)

theorem v15_at (b : Fin 8) (kh : Fin 2) (g : Fin 4) (n s : Fin 8192) :
    val_main_v15 (F := Ideal) q k (ix5 b kh g n s)
      = Ideal.div (Ideal.exp (score q k b ⟨kh.val * 4 + g.val, by omega⟩ n s - Finset.univ.sup (score q k b ⟨kh.val * 4 + g.val, by omega⟩ n)))
        (∑ j : Fin 8192, Ideal.exp (score q k b ⟨kh.val * 4 + g.val, by omega⟩ n j - Finset.univ.sup (score q k b ⟨kh.val * 4 + g.val, by omega⟩ n))) := by
  have hD : val_main_v14 (F := Ideal) q k (ix5 b kh g n s)
      = ∑ j : Fin 8192, Ideal.exp (score q k b ⟨kh.val * 4 + g.val, by omega⟩ n j - Finset.univ.sup (score q k b ⟨kh.val * 4 + g.val, by omega⟩ n)) := by
    rw [val_main_v14_apply, val_main_v13_apply]
    exact (congrArg (val_main_v12 (F := Ideal) q k) (eq_ix4 _)).trans (v12_at q k b kh g n)
  rw [val_main_v15_apply, v11_at, hD]
  rfl

theorem v16_at (b : Fin 8) (kh : Fin 2) (e : Fin 64) (g : Fin 4) (n : Fin 8192) :
    val_main_v16 (F := Ideal) q k v (ix5 b kh e g n) = attn q k v b ⟨kh.val * 4 + g.val, by omega⟩ n e := by
  rw [val_main_v16_apply]
  refine Finset.sum_congr rfl fun s _ => ?_
  have hk : kvHead ⟨kh.val * 4 + g.val, by omega⟩ = kh := Fin.ext (by simp only [kvHead]; omega)
  rw [hk, mul_comm]
  exact congrArg₂ (· * ·) ((congrArg (val_main_v15 (F := Ideal) q k) (eq_ix5 _)).trans (v15_at q k b kh g n s)) (congrArg v (eq_ix4 _))

/-- The reference at batch `b`, position `n`, lane `c` of the joined heads. -/
theorem v19_at (b : Fin 8) (n : Fin 8192) (c : Fin 512) :
    val_main_v19 (F := Ideal) q k v (ix3 b n c) = attn q k v b ⟨c.val / 64, by omega⟩ n ⟨c.val % 64, by omega⟩ := by
  rw [val_main_v19_apply, Ideal.truncf_def, val_main_v18_apply, val_main_v17_apply]
  refine (congrArg (val_main_v16 (F := Ideal) q k v) (eq_ix5 _)).trans ((v16_at q k v _ _ _ _ _).trans ?_)
  have hb := b.isLt; have hn := n.isLt; have hc := c.isLt
  have e0 : ((b.val * 8192 + n.val) * 512 + c.val) / 4194304 = b.val := by omega
  congr 1 <;> refine Fin.ext ?_ <;> show _ = _ <;> simp only [ix3_0, ix3_1, ix3_2] <;> omega

end Cert.GqaRefIdeal.At

end
-- ==== Proof.GqaFinal.lean ====
/-
  The attention call's result array is the reference attention: each grid point's block, read at its lanes, is the softmax attention of the
  two heads the point covers.
-/
module

public import proofs.«01_k».proof.Proof.GqaHost
public import proofs.«01_k».proof.Proof.GqaRef

@[expose] public section

set_option maxRecDepth 16384

noncomputable section

open Idealize.ShloMosaic Idealize.ShloMosaic.TcCoe Idealize.SL.Sem
open Idealize.ShloMosaic.Pipeline (Dat)

namespace Cert.GqaIdeal.At

open Cert.GqaIdeal Cert.GqaIdeal.Gen Cert.Flash
open Cert.GqaRefIdeal.At (score attn kvHead v19_at)

variable (m : (ℓ : Loc nD τ sig) → Buf (Elt Ideal) ℓ)

/-- An eighth is a nonnegative real. -/
theorem eighth : ∃ r : ℝ, 0 ≤ r ∧ Ideal.ofBits .f32 0x3E000000#32 = (r : EReal) := by
  refine ⟨0.125, by norm_num, ?_⟩
  simp [Ideal.ofBits, Ideal.ieee]
  rw [← EReal.coe_mul]
  norm_num

/-- The scaled query's product with a key over all 128 lanes is the scaled score: the other half's lanes are zero. -/
theorem sum_qrow (q : FVec Ideal S8x8192x8x64 .f32) (k : FVec Ideal S8x8192x2x64 .f32) (b h : Fin 8) (n j : Fin 8192) :
    ∑ x : Fin 128, qrow q b n h x * k (ix4 b j ⟨x.val / 64, by omega⟩ ⟨x.val % 64, by omega⟩) = score q k b h n j := by
  obtain ⟨r, hr, he⟩ := eighth
  rw [Fin.sum_univ_two_halves 64 64 rfl]
  unfold qrow score
  rw [he, mul_comm _ (r : EReal), mul_sum_nonneg (EReal.coe_nonneg.mpr hr) (EReal.coe_ne_top r)]
  by_cases h4 : h.val < 4
  · have z : ∀ x : Fin 64, ¬ (64 + x.val < 64) := fun x => by omega
    have kh : kvHead h = 0 := Fin.ext (by show h.val / 4 = 0; omega)
    simp only [h4, z, if_true, dif_neg, zero_mul, Finset.sum_const_zero, add_zero, not_false_eq_true, Fin.is_lt, dif_pos, kh]
    refine Finset.sum_congr rfl fun x _ => ?_
    have e0 : (⟨x.val / 64, by omega⟩ : Fin 2) = 0 := Fin.ext (by show x.val / 64 = 0; omega)
    have e1 : (⟨x.val % 64, by omega⟩ : Fin 64) = x := Fin.ext (by show x.val % 64 = x.val; omega)
    rw [e0, e1, Fin.eta, mul_comm (q _) _, mul_assoc, mul_comm (q _) _]
  · have z : ∀ x : Fin 64, ¬ (64 + x.val < 64) := fun x => by omega
    have kh : kvHead h = 1 := Fin.ext (by show h.val / 4 = 1; omega)
    simp only [h4, z, if_false, dif_neg, zero_mul, Finset.sum_const_zero, zero_add, not_false_eq_true, Fin.is_lt, dif_pos, kh]
    refine Finset.sum_congr rfl fun x _ => ?_
    have e0 : (⟨(64 + x.val) / 64, by omega⟩ : Fin 2) = 1 := Fin.ext (by show (64 + x.val) / 64 = 1; omega)
    have e1 : (⟨(64 + x.val) % 64, by omega⟩ : Fin 64) = x := Fin.ext (by show (64 + x.val) % 64 = x.val; omega)
    have e2 : (⟨64 + x.val - 64, by omega⟩ : Fin 64) = x := Fin.ext (by show 64 + x.val - 64 = x.val; omega)
    rw [e0, e1, e2, mul_comm (q _) _, mul_assoc, mul_comm (q _) _]

/-- The two loads of the query block: its lower and its upper 128 lanes. -/
def lower (x : FVec Ideal S1x256x256 .bf16) : FVec Ideal S1x256x128 .bf16 :=
  fun y => x ((Rect.unit (s := S1x256x256) ![0, 0, 0] S1x256x128.size inb_S1x256x256_S1x256x128_0_0_0).idx y)
def upper (x : FVec Ideal S1x256x256 .bf16) : FVec Ideal S1x256x128 .bf16 :=
  fun y => x ((Rect.unit (s := S1x256x256) ![0, 0, 128] S1x256x128.size inb_S1x256x256_S1x256x128_0_0_128).idx y)

theorem lower_at (X : FVec Ideal S1x256x256 .bf16) (r : Fin 256) (x : Fin 128) :
    lower X (ix3 0 r x) = X (ix3 0 r ⟨x.val, by omega⟩) := by
  refine congrArg X (funext fun a => Fin.ext ?_)
  match a with
  | ⟨0, _⟩ => rfl
  | ⟨1, _⟩ => show 0 + 1 * r.val = r.val; omega
  | ⟨2, _⟩ => show 0 + 1 * x.val = x.val; omega

theorem upper_at (X : FVec Ideal S1x256x256 .bf16) (r : Fin 256) (x : Fin 128) :
    upper X (ix3 0 r x) = X (ix3 0 r ⟨128 + x.val, by omega⟩) := by
  refine congrArg X (funext fun a => Fin.ext ?_)
  match a with
  | ⟨0, _⟩ => rfl
  | ⟨1, _⟩ => show 0 + 1 * r.val = r.val; omega
  | ⟨2, _⟩ => show 128 + 1 * x.val = 128 + x.val; omega

/-- The head and the query of stacked row `R` at a grid point. -/
def hd (t : Fin cfg0.N) (R : Fin 512) : Fin 8 := ⟨t.val % 4 * 2 + R.val / 256, by omega⟩
def qr (t : Fin cfg0.N) (R : Fin 512) : Fin 8192 := nt t ⟨R.val % 256, by omega⟩

theorem row_eq (c : Dev nD) (t : Fin cfg0.N) (R : Fin 512) (j : Fin 8192) :
    row (lower (iblk m c 0 t)) (upper (iblk m c 0 t)) (iblk m c 1 t) R j
      = score (m (c, Proc.tc.devRef main_arg0)) (m (c, Proc.tc.devRef main_arg1)) (bt t) (hd t R) (qr t R) j := by
  rw [← sum_qrow]
  unfold row
  refine Finset.sum_congr rfl fun x _ => ?_
  refine congrArg₂ (· * ·) ?_ (k_at m c t j x)
  by_cases hR : R.val < 256
  · rw [dif_pos hR, lower_at]
    refine (q_at m c t _ _).trans ?_
    have e1 : (⟨(lt t ⟨x.val, by omega⟩).val / 128, by omega⟩ : Fin 8) = hd t R :=
      Fin.ext (by show (t.val % 4 * 256 + x.val) / 128 = t.val % 4 * 2 + R.val / 256; omega)
    have e2 : (⟨(lt t ⟨x.val, by omega⟩).val % 128, by omega⟩ : Fin 128) = x :=
      Fin.ext (by show (t.val % 4 * 256 + x.val) % 128 = x.val; omega)
    have e3 : nt t ⟨R.val, hR⟩ = qr t R := congrArg (nt t) (Fin.ext (by show R.val = R.val % 256; omega))
    rw [e1, e2, e3]
  · rw [dif_neg hR, upper_at]
    refine (q_at m c t _ _).trans ?_
    have e1 : (⟨(lt t ⟨128 + x.val, by omega⟩).val / 128, by omega⟩ : Fin 8) = hd t R :=
      Fin.ext (by show (t.val % 4 * 256 + (128 + x.val)) / 128 = t.val % 4 * 2 + R.val / 256; omega)
    have e2 : (⟨(lt t ⟨128 + x.val, by omega⟩).val % 128, by omega⟩ : Fin 128) = x :=
      Fin.ext (by show (t.val % 4 * 256 + (128 + x.val)) % 128 = x.val; omega)
    have e3 : nt t ⟨R.val - 256, by omega⟩ = qr t R := congrArg (nt t) (Fin.ext (by show R.val - 256 = R.val % 256; omega))
    rw [e1, e2, e3]

theorem slt_lane : ∀ l : Fin 128, IntOp.cmpi .slt (BitVec.ofNat 32 l.val) 64#32 = if l.val < 64 then 1#1 else 0#1 := by decide
theorem slt_pair : ∀ p : Fin 4, Scalar.cmpi .slt (BitVec.ofNat 32 p.val) 2#32 = if p.val < 2 then 1#1 else 0#1 := by decide

/-- The write-back of a row at a lane: which stacked row and which accumulator lane it takes. -/
theorem pay10_at (i : grid0.Coords) (den : FVec Ideal S512x1 .f32) (acc : FVec Ideal S512x128 .f32) (r : Fin 256) (l : Fin 128) :
    k0_pay10 (F := Ideal) i den acc (ix3 0 r l)
      = Ideal.div (acc (ix2 ⟨l.val / 64 * 256 + r.val, by omega⟩ ⟨(i 2).val / 2 * 64 + l.val % 64, by have : (i 2).val < 4 := (i 2).isLt; omega⟩))
          (den (ix2 ⟨l.val / 64 * 256 + r.val, by omega⟩ 0)) := by
  have hp : (i 2).val < 4 := (i 2).isLt
  have sp := slt_pair ⟨(i 2).val, hp⟩
  have sl := slt_lane l
  pointwise [k0_pay10]
  simp only at sp
  rw [sl, sp]
  by_cases h1 : l.val < 64 <;> by_cases h2 : (i 2).val < 2 <;> simp only [h1, h2, if_true, if_false, Scalar.select] <;> simp <;>
    (refine congrArg₂ Ideal.div (congrArg acc (congrArg₂ ix2 (Fin.ext ?_) (Fin.ext ?_))) (congrArg den (congrArg₂ ix2 (Fin.ext ?_) rfl)) <;>
      simp only <;> omega)

theorem trips_eq : k0_t1_loop.trips = 16 := by decide

variable (hq : ∀ c i, IsR ((show FVec Ideal S8x8192x8x64 .f32 from m (c, Proc.tc.devRef main_arg0)) i))
  (hk : ∀ c i, IsR ((show FVec Ideal S8x8192x2x64 .f32 from m (c, Proc.tc.devRef main_arg1)) i))

include hq hk in
/-- Finite queries and keys have finite scores. -/
theorem score_isR (c : Dev nD) (b h : Fin 8) (n j : Fin 8192) :
    IsR (score (m (c, Proc.tc.devRef main_arg0)) (m (c, Proc.tc.devRef main_arg1)) b h n j) := by
  obtain ⟨r, hr, he⟩ := eighth
  unfold score
  rw [he]
  exact (IsR.sum _ fun e _ => (hk c _).mul (hq c _)).mul (IsR.coe r)

include hq hk in
/-- What grid point `t` leaves at row `r` and lane `l` is the reference there. -/
theorem point (c : Dev nD) (t : Fin cfg0.N) {S : FVec Ideal S512x1 .f32 × FVec Ideal S512x1 .f32 × FVec Ideal S512x128 .f32}
    (h : Carried (lower (iblk m c 0 t)) (upper (iblk m c 0 t)) (iblk m c 1 t) (iblk m c 2 t) 16 S) (r : Fin 256) (l : Fin 128) :
    k0_pay10 (F := Ideal) (grid0.coords t) S.2.1 S.2.2 (ix3 0 r l)
      = Cert.GqaRefIdeal.Read.val_main_v19 (F := Ideal) (m (c, Proc.tc.devRef main_arg0)) (m (c, Proc.tc.devRef main_arg1))
          (m (c, Proc.tc.devRef main_arg2)) (ix3 (bt t) (nt t r) ⟨t.val % 4 * 128 + l.val, by omega⟩) := by
  have hs : ∀ R j, IsR (row (lower (iblk m c 0 t)) (upper (iblk m c 0 t)) (iblk m c 1 t) R j) := fun R j => by
    rw [row_eq]; exact score_isR m hq hk c _ _ _ _
  have e2 := (idx t).2.2.2.2.1
  refine (pay10_at _ _ _ _ _).trans ((loop_div _ _ _ _ hs h _ _).trans (Eq.trans ?_ (v19_at _ _ _ _ _ _).symm))
  have hr : row (lower (iblk m c 0 t)) (upper (iblk m c 0 t)) (iblk m c 1 t) ⟨l.val / 64 * 256 + r.val, by omega⟩
      = score (m (c, Proc.tc.devRef main_arg0)) (m (c, Proc.tc.devRef main_arg1)) (bt t) ⟨(t.val % 4 * 128 + l.val) / 64, by omega⟩ (nt t r) :=
    funext fun j => by
      rw [row_eq]
      have a1 : hd t ⟨l.val / 64 * 256 + r.val, by omega⟩ = ⟨(t.val % 4 * 128 + l.val) / 64, by omega⟩ :=
        Fin.ext (by show t.val % 4 * 2 + (l.val / 64 * 256 + r.val) / 256 = (t.val % 4 * 128 + l.val) / 64; omega)
      have a2 : qr t ⟨l.val / 64 * 256 + r.val, by omega⟩ = nt t r :=
        congrArg (nt t) (Fin.ext (by show (l.val / 64 * 256 + r.val) % 256 = r.val; omega))
      rw [a1, a2]
  rw [hr]
  unfold attn
  refine Finset.sum_congr rfl fun j _ => congrArg₂ (· * ·) rfl ?_
  refine (v_at m c t j _).trans ?_
  refine congrArg _ (congrArg₂ (ix4 (bt t) j) (Fin.ext ?_) (Fin.ext ?_))
  · show ((grid0.coords t 2).val / 2 * 64 + l.val % 64) / 64 = (t.val % 4 * 128 + l.val) / 64 / 4
    rw [e2]; omega
  · show ((grid0.coords t 2).val / 2 * 64 + l.val % 64) % 64 = (t.val % 4 * 128 + l.val) % 64
    rw [e2]; omega

theorem emb3 (t : Fin cfg0.N) (r : Fin 256) (l : Fin 128) :
    (win0_3.blk t).view.emb (ix3 0 r l) = ix3 (bt t) (nt t r) ⟨t.val % 4 * 128 + l.val, by omega⟩ := by
  blk_ext [idx t, bt, nt]

include hq hk in
/-- The result array after the run is the reference's result. -/
theorem final (c : Dev nD) : (dats m 0 c).arrAt 3 (cfgs 0).N
    = Cert.GqaRefIdeal.Read.val_main_v19 (F := Ideal) (m (c, Proc.tc.devRef main_arg0)) (m (c, Proc.tc.devRef main_arg1))
        (m (c, Proc.tc.devRef main_arg2)) := by
  refine (dats m 0 c).arrAt_eq_of_covers 3 _ (by decide +kernel) fun t _ y => ?_
  blk_simp
  rw [after0_3]
  unfold outsAt0
  frame_out
  obtain ⟨r, l, rfl⟩ : ∃ (r : Fin 256) (l : Fin 128), y = ix3 0 r l :=
    ⟨y 1, y 2, funext fun a => by fin_cases a <;> first | rfl | exact Subsingleton.elim (α := Fin 1) _ _⟩
  refine (point m hq hk c t ?_ r l).trans ?_
  rotate_left
  · exact congrArg _ (emb3 t r l).symm
  exact carried _ _ _ _ _ _ _ _ _ _ _ _ _ _ _ _ (fun R j => by rw [row_eq]; exact score_isR m hq hk c _ _ _ _) 16 trips_eq.ge

end Cert.GqaIdeal.At
-- ==== Proof.GqaClaim.lean ====
/-
  The attention call's value claim: with finite queries and keys the kernel's exact result is the reference's.
-/
module

public import proofs.«01_k».proof.Defs
public import proofs.«01_k».proof.Proof.GqaFinal
public import proofs.«01_k».proof.Proof.Gen.GqaRefIdeal.Run
public import proofs.«01_k».proof.Proof.Gen.Pre_finite_qk

@[expose] public section

set_option maxRecDepth 16384

noncomputable section

open Idealize.ShloMosaic Idealize.ShloMosaic.TcCoe Idealize.SL.Sem

namespace Cert.GqaClaim

open Cert.Flash

/-- A value the two comparisons both pass is real. -/
theorem isR_of_mask {s : Shape} (x : FVec Ideal s .f32) (lo hi : FVec Ideal s .f32) (hlo : ∀ i, lo i = (⊥ : EReal)) (hhi : ∀ i, hi i = (⊤ : EReal))
    (h : andi (cmpf .ogt x lo) (cmpf .olt x hi) = (fun _ => 1#1)) (i : s.Idx) : IsR (x i) := by
  have h1 := congrFun h i
  pointwise at h1
  rw [hlo, hhi] at h1
  by_cases l : (⊥ : EReal) < x i <;> by_cases u : x i < (⊤ : EReal)
  · exact IsR.of_lt l u
  all_goals simp [l, u, IntOp.andi] at h1

theorem ofBits_top : Ideal.ofBits .f32 0x7F800000#32 = (⊤ : EReal) := by
  simp [Ideal.ofBits, Ideal.ieee]

theorem algebraic : Cert.algebraic_GqaIdeal_GqaRefIdeal_pre_finite_qk := by
  pair_intro
  · run_from Cert.GqaIdeal.Gen.run_main m g
  · run_from Cert.GqaRefIdeal.Value.run m' g'
    refine (Cert.GqaRefIdeal.Read.val_main_v19_eq _ _ _).trans (Cert.GqaIdeal.At.final m ?_ ?_ c).symm
    · intro c i
      exact isR_of_mask _ _ _ (fun _ => GqaIdeal.At.ofBits_bot) (fun _ => ofBits_top) (hpre c).1 i
    · intro c i
      exact isR_of_mask _ _ _ (fun _ => GqaIdeal.At.ofBits_bot) (fun _ => ofBits_top) (hpre c).2 i

end Cert.GqaClaim
-- ==== Proof.Norm.lean ====
/-
  The layer norm of one row of 1024 numbers, as an expression over the extended reals: what both sides of the feed-forward call end with.
-/
module

public import Idealize.ShloMosaic.Lib.Pipeline.ValueKit

@[expose] public section

noncomputable section

open Idealize.ShloMosaic

namespace Cert.Norm

/-- The mean of a row, and its deviations from it. -/
def mean (y : Fin 1024 → EReal) : EReal := Ideal.div (∑ x, y x) (Ideal.ofBits .f32 1149239296#32)
def dev (y : Fin 1024 → EReal) (x : Fin 1024) : EReal := y x - mean y

/-- The layer norm with gain `g` and offset `b`. -/
def lnorm (y g b : Fin 1024 → EReal) (e : Fin 1024) : EReal :=
  dev y e * Ideal.rsqrt (mean (fun x => dev y x * dev y x) + Ideal.ofBits .f32 925353388#32) * g e + b e

end Cert.Norm
-- ==== Proof.FfnKernel.lean ====
/-
  The feed-forward kernel's payloads at an entry: one chunk of 256 hidden columns, the hidden tile the eleven chunks fill, the tile of input
  rows with its neighbours, and the closing projection and layer norm.
-/
module

public import proofs.«01_k».proof.Proof.Norm
public import proofs.«01_k».proof.Proof.Gen.FfnIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.At

open Cert.FfnIdeal Cert.FfnIdeal.Gen Cert.Norm

/-- The three taps of the gate's convolution over the rows of a tile with eight neighbours on each side. -/
def taps (v14 : FVec Ideal S528x1024 .bf16) (w : FVec Ideal S1024x256 .bf16) (c0 c1 c2 : FVec Ideal S1x256 .f32) : FVec Ideal S512x256 .f32 :=
  addf (k0_pay8 v14 w c0 c1) (k0_pay9 v14 w c2)

/-- One chunk of 256 hidden columns. -/
def chunk (v12 : FVec Ideal S512x1024 .bf16) (v14 : FVec Ideal S528x1024 .bf16) (w : FVec Ideal S1024x256 .bf16) (c0 c1 c2 cb : FVec Ideal S1x256 .f32)
    (wv : FVec Ideal S1024x256 .bf16) : FVec Ideal S512x256 .bf16 :=
  k0_pay6 v12 (taps v14 w c0 c1 c2) cb wv

theorem taps_at (v14 : FVec Ideal S528x1024 .bf16) (w : FVec Ideal S1024x256 .bf16) (c0 c1 c2 : FVec Ideal S1x256 .f32) (r : Fin 512) (l : Fin 256) :
    taps v14 w c0 c1 c2 (ix2 r l)
      = (∑ x : Fin 1024, v14 (ix2 ⟨7 + r.val, by omega⟩ x) * w (ix2 x l)) * c0 (ix2 0 l)
        + (∑ x : Fin 1024, v14 (ix2 ⟨7 + (1 + r.val), by omega⟩ x) * w (ix2 x l)) * c1 (ix2 0 l)
        + (∑ x : Fin 1024, v14 (ix2 ⟨7 + (2 + r.val), by omega⟩ x) * w (ix2 x l)) * c2 (ix2 0 l) := by
  pointwise [taps, k0_pay8, k0_pay9, k0_pay7]
  have row : ∀ i j : Fin 528, i.val = j.val → (∑ x : Fin 1024, v14 (ix2 i x) * w (ix2 x l)) = ∑ x : Fin 1024, v14 (ix2 j x) * w (ix2 x l) := by
    intro i j h
    rw [Fin.ext h]
  refine congrArg₂ (· + ·) (congrArg₂ (· + ·) (congrArg₂ (· * ·) (row _ _ ?_) rfl) (congrArg₂ (· * ·) (row _ _ ?_) rfl)) (congrArg₂ (· * ·) (row _ _ ?_) rfl)
  · show (8 + r.val + 528 - 1) % 528 = 7 + r.val
    omega
  · show 8 + r.val = 7 + (1 + r.val)
    omega
  · show (8 + r.val + 528 - 527) % 528 = 7 + (2 + r.val)
    omega

theorem pay6_at (v12 : FVec Ideal S512x1024 .bf16) (v33 : FVec Ideal S512x256 .f32) (v34 : FVec Ideal S1x256 .f32) (v46 : FVec Ideal S1024x256 .bf16)
    (r : Fin 512) (l : Fin 256) :
    k0_pay6 (F := Ideal) v12 v33 v34 v46 (ix2 r l)
      = Ideal.ofBits .f32 1056964608#32 * (v33 (ix2 r l) + v34 (ix2 0 l))
        * (1 + Ideal.erf ((v33 (ix2 r l) + v34 (ix2 0 l)) * Ideal.ofBits .f32 1060439283#32)) * ∑ x : Fin 1024, v12 (ix2 r x) * v46 (ix2 x l) := by
  pointwise [k0_pay6]
  rfl

/-- The hidden tile, as a function of the whole weights: the gate's row after convolution, then the gelu times the value half. -/
def cv (v14 : FVec Ideal S528x1024 .bf16) (W : FVec Ideal S1024x5632 .bf16) (cw : FVec Ideal S3x2816 .f32) (cb : FVec Ideal S1x2816 .f32) (r : Fin 512)
    (f : Fin 2816) : EReal :=
  (∑ x : Fin 1024, v14 (ix2 ⟨7 + r.val, by omega⟩ x) * W (ix2 x ⟨f.val, by omega⟩)) * cw (ix2 0 f)
    + (∑ x : Fin 1024, v14 (ix2 ⟨7 + (1 + r.val), by omega⟩ x) * W (ix2 x ⟨f.val, by omega⟩)) * cw (ix2 1 f)
    + (∑ x : Fin 1024, v14 (ix2 ⟨7 + (2 + r.val), by omega⟩ x) * W (ix2 x ⟨f.val, by omega⟩)) * cw (ix2 2 f) + cb (ix2 0 f)

def tile (v12 : FVec Ideal S512x1024 .bf16) (v14 : FVec Ideal S528x1024 .bf16) (W : FVec Ideal S1024x5632 .bf16) (cw : FVec Ideal S3x2816 .f32)
    (cb : FVec Ideal S1x2816 .f32) : FVec Ideal S512x2816 .bf16 := fun q =>
  (show EReal from Ideal.ofBits .f32 1056964608#32 * cv v14 W cw cb (q 0) (q 1) * (1 + Ideal.erf (cv v14 W cw cb (q 0) (q 1) * Ideal.ofBits .f32 1060439283#32))
    * ∑ x : Fin 1024, v12 (ix2 (q 0) x) * W (ix2 x ⟨2816 + (q 1).val, by have : (q 1).val < 2816 := (q 1).isLt; omega⟩))

/-- A chunk fed the columns from `c` on is the hidden tile's columns from `c` on. -/
theorem chunk_eq (v12 : FVec Ideal S512x1024 .bf16) (v14 : FVec Ideal S528x1024 .bf16) (W : FVec Ideal S1024x5632 .bf16) (cw : FVec Ideal S3x2816 .f32)
    (cb : FVec Ideal S1x2816 .f32) (c d : Nat) (hd : d = 2816 + c) (iw : ∀ a, (![0, c] : Fin 2 → Nat) a + S1024x256.size a ≤ S1024x5632.size a)
    (iv : ∀ a, (![0, d] : Fin 2 → Nat) a + S1024x256.size a ≤ S1024x5632.size a)
    (i0 : ∀ a, (![0, c] : Fin 2 → Nat) a + S1x256.size a ≤ S3x2816.size a) (i1 : ∀ a, (![1, c] : Fin 2 → Nat) a + S1x256.size a ≤ S3x2816.size a)
    (i2 : ∀ a, (![2, c] : Fin 2 → Nat) a + S1x256.size a ≤ S3x2816.size a) (ib : ∀ a, (![0, c] : Fin 2 → Nat) a + S1x256.size a ≤ S1x2816.size a)
    (io : ∀ a, (![0, c] : Fin 2 → Nat) a + S512x256.size a ≤ S512x2816.size a) (x : S512x256.Idx) :
    chunk v12 v14 (fun y => W ((Rect.unit (s := S1024x5632) ![0, c] S1024x256.size iw).idx y))
        (fun y => cw ((Rect.unit (s := S3x2816) ![0, c] S1x256.size i0).idx y)) (fun y => cw ((Rect.unit (s := S3x2816) ![1, c] S1x256.size i1).idx y))
        (fun y => cw ((Rect.unit (s := S3x2816) ![2, c] S1x256.size i2).idx y)) (fun y => cb ((Rect.unit (s := S1x2816) ![0, c] S1x256.size ib).idx y))
        (fun y => W ((Rect.unit (s := S1024x5632) ![0, d] S1024x256.size iv).idx y)) x
      = tile v12 v14 W cw cb ((Rect.unit (s := S512x2816) ![0, c] S512x256.size io).emb x) := by
  have hc : c + 256 ≤ 2816 := io 1
  obtain ⟨r, l, rfl⟩ : ∃ (r : Fin 512) (l : Fin 256), x = ix2 r l := ⟨x 0, x 1, funext fun a => by fin_cases a <;> rfl⟩
  have hw : ∀ (k : Fin 1024), (fun y => W ((Rect.unit (s := S1024x5632) ![0, c] S1024x256.size iw).idx y)) (ix2 k l) = W (ix2 k ⟨c + l.val, by omega⟩) :=
    fun k => congrArg W (funext fun a => Fin.ext (by
      match a with
      | ⟨0, _⟩ => show 0 + 1 * k.val = k.val; omega
      | ⟨1, _⟩ => show c + 1 * l.val = c + l.val; omega))
  have hv : ∀ (k : Fin 1024), (fun y => W ((Rect.unit (s := S1024x5632) ![0, d] S1024x256.size iv).idx y)) (ix2 k l)
      = W (ix2 k ⟨2816 + (c + l.val), by omega⟩) :=
    fun k => congrArg W (funext fun a => Fin.ext (by
      match a with
      | ⟨0, _⟩ => show 0 + 1 * k.val = k.val; omega
      | ⟨1, _⟩ => show d + 1 * l.val = 2816 + (c + l.val); omega))
  have h0 : (fun y => cw ((Rect.unit (s := S3x2816) ![0, c] S1x256.size i0).idx y)) (ix2 0 l) = cw (ix2 0 ⟨c + l.val, by omega⟩) :=
    congrArg cw (funext fun a => Fin.ext (by
      match a with
      | ⟨0, _⟩ => rfl
      | ⟨1, _⟩ => show c + 1 * l.val = c + l.val; omega))
  have h1 : (fun y => cw ((Rect.unit (s := S3x2816) ![1, c] S1x256.size i1).idx y)) (ix2 0 l) = cw (ix2 1 ⟨c + l.val, by omega⟩) :=
    congrArg cw (funext fun a => Fin.ext (by
      match a with
      | ⟨0, _⟩ => rfl
      | ⟨1, _⟩ => show c + 1 * l.val = c + l.val; omega))
  have h2 : (fun y => cw ((Rect.unit (s := S3x2816) ![2, c] S1x256.size i2).idx y)) (ix2 0 l) = cw (ix2 2 ⟨c + l.val, by omega⟩) :=
    congrArg cw (funext fun a => Fin.ext (by
      match a with
      | ⟨0, _⟩ => rfl
      | ⟨1, _⟩ => show c + 1 * l.val = c + l.val; omega))
  have hb : (fun y => cb ((Rect.unit (s := S1x2816) ![0, c] S1x256.size ib).idx y)) (ix2 0 l) = cb (ix2 0 ⟨c + l.val, by omega⟩) :=
    congrArg cb (funext fun a => Fin.ext (by
      match a with
      | ⟨0, _⟩ => rfl
      | ⟨1, _⟩ => show c + 1 * l.val = c + l.val; omega))
  have ho : (Rect.unit (s := S512x2816) ![0, c] S512x256.size io).emb (ix2 r l) = ix2 r ⟨c + l.val, by omega⟩ :=
    funext fun a => Fin.ext (by
      match a with
      | ⟨0, _⟩ => show 0 + 1 * r.val = r.val; omega
      | ⟨1, _⟩ => show c + 1 * l.val = c + l.val; omega)
  refine Eq.trans ?_ (congrArg (tile v12 v14 W cw cb) ho).symm
  unfold chunk
  refine (pay6_at _ _ _ _ r l).trans ?_
  rw [taps_at]
  simp only [hw, hv, h0, h1, h2, hb]
  rfl

/-- The tile of input rows with its neighbours, as the kernel stacks it. -/
theorem pay4_at (i : grid0.Coords) (v0 : FVec Ideal S1x512x1024 .f32) (v3 v8 : FVec Ideal S1x8x1024 .f32) (r : Fin 528) (l : Fin 1024) :
    k0_pay4 (F := Ideal) i v0 v3 v8 (ix2 r l)
      = if h : r.val < 8 then Scalar.select (Scalar.cmpi .sgt (BitVec.ofNat 32 (i 1).val) 0#32) (v3 (ix3 0 ⟨r.val, h⟩ l)) (0 : EReal)
        else if h : r.val - 8 < 512 then v0 (ix3 0 ⟨r.val - 8, h⟩ l)
        else Scalar.select (Scalar.cmpi .slt (BitVec.ofNat 32 (i 1).val) 15#32) (v8 (ix3 0 ⟨r.val - 8 - 512, by omega⟩ l)) (0 : EReal) := by
  pointwise [k0_pay4, k0_pay2]

theorem pay53_at (v12 : FVec Ideal S512x1024 .f32) (v33 : FVec Ideal S512x2816 .bf16) (v46 : FVec Ideal S2816x1024 .bf16) (r : Fin 512) (l : Fin 1024) :
    k0_pay53 (F := Ideal) v12 v33 v46 (ix2 r l)
      = Ideal.ofBits .f32 1066940400#32 * v12 (ix2 r l) + ∑ f : Fin 2816, v33 (ix2 r f) * v46 (ix2 f l) := by
  pointwise [k0_pay53]

theorem pay1_at (v12 : FVec Ideal S512x1024 .f32) (v33 : FVec Ideal S1x1024 .f32) (v46 : FVec Ideal S1x1024 .f32) (r : Fin 512) (l : Fin 1024) :
    k0_pay1 (F := Ideal) v12 v33 v46 (ix3 0 r l)
      = lnorm (fun e => v12 (ix2 r e)) (fun e => v33 (ix2 0 e)) (fun e => v46 (ix2 0 e)) l := by
  pointwise [k0_pay1]
  rfl

end Cert.FfnIdeal.At
-- ==== Proof.FfnRef.lean ====
/-
  The reference feed-forward layer, entry by entry: the gate's projection padded with a zero row at both ends, its three-tap convolution, the
  erf gelu, the product with the value half, the down projection with the scaled residual, and the layer norm.
-/
module

public import proofs.«01_k».proof.Proof.Norm
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem

namespace Cert.FfnRefIdeal.At

open Cert.FfnRefIdeal Cert.FfnRefIdeal.Gen Cert.FfnRefIdeal.Read Cert.Norm

variable (x : FVec Ideal S8x8192x1024 .f32) (w : FVec Ideal S1024x5632 .f32) (cw : FVec Ideal S3x2816 .f32) (cb : FVec Ideal S2816 .f32)
  (wd : FVec Ideal S2816x1024 .f32) (g b : FVec Ideal S1024 .f32)

/-- The input with a zero row before the first token and one after the last: row `p` is token `p - 1`. -/
def inp (n : Fin 8) (p : Nat) (d : Fin 1024) : EReal :=
  if h : 1 ≤ p ∧ p - 1 < 8192 then x (ix3 n ⟨p - 1, h.2⟩ d) else 0

/-- The gate's projection at padded row `p`. -/
def gate (n : Fin 8) (p : Nat) (f : Fin 2816) : EReal := ∑ d : Fin 1024, inp x n p d * w (ix2 d ⟨f.val, by omega⟩)

/-- The convolved gate with its bias. -/
def conv (n : Fin 8) (s : Nat) (f : Fin 2816) : EReal :=
  gate x w n s f * cw (ix2 0 f) + gate x w n (1 + s) f * cw (ix2 1 f) + gate x w n (2 + s) f * cw (ix2 2 f) + cb (ix1 f)

/-- The hidden row: the gelu of the gate times the value half. -/
def hid (n : Fin 8) (s : Fin 8192) (f : Fin 2816) : EReal :=
  Ideal.ofBits .f32 1056964608#32 * conv x w cw cb n s.val f * (1 + Ideal.erf (conv x w cw cb n s.val f * Ideal.ofBits .f32 1060439283#32))
    * ∑ d : Fin 1024, x (ix3 n s d) * w (ix2 d ⟨2816 + f.val, by omega⟩)

/-- The down projection on the scaled input. -/
def down (n : Fin 8) (s : Fin 8192) (e : Fin 1024) : EReal :=
  Ideal.ofBits .f32 1066940400#32 * x (ix3 n s e) + ∑ f : Fin 2816, hid x w cw cb n s f * wd (ix2 f e)

theorem v1_at (n : Fin 8) (s : Fin 8192) (f : Fin 2816) :
    val_main_v1 (F := Ideal) x w (ix3 n s f) = ∑ d : Fin 1024, x (ix3 n s d) * w (ix2 d ⟨f.val, by omega⟩) := by
  pointwise [val_main_v1, val_main_v0]

theorem sitofp_zero : (FloatOps.sitofp .f32 (0#32 : BitVec 32) : Ideal .f32) = (0 : EReal) := by
  show (((0#32 : BitVec 32).toInt : ℝ) : EReal) = 0
  simp

theorem v3_at (n : Fin 8) (p : Fin 8194) (f : Fin 2816) : val_main_v3 (F := Ideal) x w (ix3 n p f) = gate x w n p.val f := by
  have hy := v1_at x w
  unfold val_main_v3
  generalize val_main_v1 (F := Ideal) x w = y at hy
  pointwise [val_main_call0_v0, val_main_c]
  unfold gate inp
  by_cases h : 1 ≤ p.val ∧ p.val - 1 < 8192
  · simp only [h, and_self, dif_pos, hy]
  · simp only [h, dif_neg, not_false_eq_true, zero_mul, Finset.sum_const_zero]
    exact sitofp_zero

theorem v26_at (n : Fin 8) (s : Fin 8192) (f : Fin 2816) : val_main_v26 (F := Ideal) x w cw cb (ix3 n s f) = conv x w cw cb n s.val f := by
  have hy := v3_at x w
  unfold val_main_v26 val_main_v23 val_main_v16 val_main_v22 val_main_v15 val_main_v9 val_main_v4 val_main_v10 val_main_v17
  generalize val_main_v3 (F := Ideal) x w = y at hy
  pointwise [val_main_v8, val_main_v7, val_main_v6, val_main_v5, val_main_v14, val_main_v13, val_main_v12, val_main_v11, val_main_v21, val_main_v20, val_main_v19, val_main_v18, val_main_v25, val_main_v24]
  unfold conv
  rw [hy, hy, hy]

theorem v35_at (n : Fin 8) (s : Fin 8192) (f : Fin 2816) : val_main_v35 (F := Ideal) x w cw cb (ix3 n s f) = hid x w cw cb n s f := by
  have hy := v26_at x w cw cb
  unfold val_main_v35 val_main_v34 val_main_v33 val_main_v31 val_main_v30 val_main_v28 val_main_v2
  generalize val_main_v26 (F := Ideal) x w cw cb = y at hy
  pointwise [val_main_v32, val_main_cst_1, val_main_v29, val_main_cst_0, val_main_v27, val_main_cst, val_main_v0]
  unfold hid
  rw [hy]

theorem v39_at (n : Fin 8) (s : Fin 8192) (e : Fin 1024) : val_main_v39 (F := Ideal) x w cw cb wd (ix3 n s e) = down x w cw cb wd n s e := by
  have hy := v35_at x w cw cb
  unfold val_main_v39 val_main_v38
  generalize val_main_v35 (F := Ideal) x w cw cb = y at hy
  pointwise [val_main_v37, val_main_v36, val_main_cst_2]
  unfold down
  simp only [hy]

/-- The reference's result: the layer norm of the down projection's row. -/
theorem v63_at (n : Fin 8) (s : Fin 8192) (e : Fin 1024) : val_main_v63 (F := Ideal) x w cw cb wd g b (ix3 n s e)
    = lnorm (down x w cw cb wd n s) (fun e => g (ix1 e)) (fun e => b (ix1 e)) e := by
  have hy := v39_at x w cw cb wd
  unfold val_main_v63 val_main_v60 val_main_v57 val_main_v56 val_main_v55 val_main_v54 val_main_v52 val_main_v51 val_main_v50 val_main_v48 val_main_v47 val_main_v46 val_main_v45 val_main_v44 val_main_v43 val_main_v41 val_main_v40
  generalize val_main_v39 (F := Ideal) x w cw cb wd = y at hy
  pointwise [val_main_v62, val_main_v61, val_main_v59, val_main_v58, val_main_v53, val_main_cst_7, val_main_v49, val_main_cst_6, val_main_cst_5, val_main_cst_3, val_main_v42, val_main_cst_4]
  simp only [hy]
  rfl

end Cert.FfnRefIdeal.At
-- ==== Proof.FfnFinal.lean ====
/-
  The feed-forward call's result array is the reference's: each grid point's block, read at its rows, is the layer norm of the down projection.
-/
module

public import proofs.«01_k».proof.Proof.FfnKernel
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.FfnIdeal.At

open Cert.FfnIdeal Cert.FfnIdeal.Gen Cert.Norm
open Cert.FfnRefIdeal.At (inp gate conv hid down v63_at)

variable (m : (ℓ : Loc nD τ sig) → Buf (Elt Ideal) ℓ)

/-- The blocks of every window at a grid point. -/
theorem idx : ∀ t : Fin cfg0.N, win0_0.index t = ![t.val / 16, t.val % 16, 0] ∧ win0_1.index t = ![t.val / 16, 64 * (t.val % 16) - 1, 0]
    ∧ win0_2.index t = ![t.val / 16, min (64 * (t.val % 16) + 64) 1023, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 16, t.val % 16, 0]
    ∧ (grid0.coords t 1).val = t.val % 16 ∧ t.val / 16 < 8 :=
  (by decide +kernel : ∀ t : Fin grid0.N, _)

/-- The batch of a grid point, and the token of its tile's row `r`. -/
def bt (t : Fin cfg0.N) : Fin 8 := ⟨t.val / 16, (idx t).2.2.2.2.2.2.2.2.2.2.2⟩
def nt (t : Fin cfg0.N) (r : Fin 512) : Fin 8192 := ⟨t.val % 16 * 512 + r.val, by omega⟩
def np (t : Fin cfg0.N) (r : Fin 8) : Fin 8192 := ⟨(64 * (t.val % 16) - 1) * 8 + r.val, by omega⟩
def nn (t : Fin cfg0.N) (r : Fin 8) : Fin 8192 := ⟨min (64 * (t.val % 16) + 64) 1023 * 8 + r.val, by omega⟩

theorem V_x (c : Dev nD) : V m c main_arg0 = m (c, Proc.tc.devRef main_arg0) := by
  entry_read
  rfl
theorem V_w (c : Dev nD) : V m c main_v0 = truncf (s := S1024x5632) (F := Ideal) FTy.bf16 (m (c, Proc.tc.devRef main_arg1)) bitsLt_bf16_f32 := by
  entry_read
  rfl
theorem V_cw (c : Dev nD) : V m c main_arg2 = m (c, Proc.tc.devRef main_arg2) := by
  entry_read
  rfl
theorem V_cb (c : Dev nD) : V m c main_v1 = broadcastInDim (α := Elt Ideal .f32) S1x2816 ![1] bcast_S2816_S1x2816_1 (m (c, Proc.tc.devRef main_arg3)) := by
  entry_read
  rfl
theorem V_wd (c : Dev nD) : V m c main_v2 = truncf (s := S2816x1024) (F := Ideal) FTy.bf16 (m (c, Proc.tc.devRef main_arg4)) bitsLt_bf16_f32 := by
  entry_read
  rfl
theorem V_g (c : Dev nD) : V m c main_v3 = broadcastInDim (α := Elt Ideal .f32) S1x1024 ![1] bcast_S1024_S1x1024_1 (m (c, Proc.tc.devRef main_arg5)) := by
  entry_read
  rfl
theorem V_b (c : Dev nD) : V m c main_v4 = broadcastInDim (α := Elt Ideal .f32) S1x1024 ![1] bcast_S1024_S1x1024_1 (m (c, Proc.tc.devRef main_arg6)) := by
  entry_read
  rfl

theorem emb0 (t : Fin cfg0.N) (r : Fin 512) (d : Fin 1024) : (win0_0.blk t).view.emb (ix3 0 r d) = ix3 (bt t) (nt t r) d := by
  blk_ext [idx t, bt, nt]
theorem emb1 (t : Fin cfg0.N) (r : Fin 8) (d : Fin 1024) : (win0_1.blk t).view.emb (ix3 0 r d) = ix3 (bt t) (np t r) d := by
  blk_ext [idx t, bt, np]
theorem emb2 (t : Fin cfg0.N) (r : Fin 8) (d : Fin 1024) : (win0_2.blk t).view.emb (ix3 0 r d) = ix3 (bt t) (nn t r) d := by
  blk_ext [idx t, bt, nn]
theorem emb3 (t : Fin cfg0.N) (d : Fin 1024) (f : Fin 5632) : (win0_3.blk t).view.emb (ix2 d f) = ix2 d f := by
  blk_ext [idx t]
theorem emb4 (t : Fin cfg0.N) (d : Fin 3) (f : Fin 2816) : (win0_4.blk t).view.emb (ix2 d f) = ix2 d f := by
  blk_ext [idx t]
theorem emb5 (t : Fin cfg0.N) (f : Fin 2816) : (win0_5.blk t).view.emb (ix2 0 f) = ix2 0 f := by
  blk_ext [idx t]
theorem emb6 (t : Fin cfg0.N) (f : Fin 2816) (e : Fin 1024) : (win0_6.blk t).view.emb (ix2 f e) = ix2 f e := by
  blk_ext [idx t]
theorem emb7 (t : Fin cfg0.N) (e : Fin 1024) : (win0_7.blk t).view.emb (ix2 0 e) = ix2 0 e := by
  blk_ext [idx t]
theorem emb8 (t : Fin cfg0.N) (e : Fin 1024) : (win0_8.blk t).view.emb (ix2 0 e) = ix2 0 e := by
  blk_ext [idx t]
theorem emb9 (t : Fin cfg0.N) (r : Fin 512) (e : Fin 1024) : (win0_9.blk t).view.emb (ix3 0 r e) = ix3 (bt t) (nt t r) e := by
  blk_ext [idx t, bt, nt]

theorem x_at (c : Dev nD) (t : Fin cfg0.N) (r : Fin 512) (d : Fin 1024) : (show FVec Ideal S1x512x1024 .f32 from iblk m c 0 t) (ix3 0 r d)
    = (show FVec Ideal S8x8192x1024 .f32 from m (c, Proc.tc.devRef main_arg0)) (ix3 (bt t) (nt t r) d) :=
  (show _ = V m c main_arg0 ((win0_0.blk t).view.emb _) by blk_simp [iblk]).trans
    ((congrArg (V m c main_arg0) (emb0 t r d)).trans (congrFun (V_x m c) _))
theorem xp_at (c : Dev nD) (t : Fin cfg0.N) (r : Fin 8) (d : Fin 1024) : (show FVec Ideal S1x8x1024 .f32 from iblk m c 1 t) (ix3 0 r d)
    = (show FVec Ideal S8x8192x1024 .f32 from m (c, Proc.tc.devRef main_arg0)) (ix3 (bt t) (np t r) d) :=
  (show _ = V m c main_arg0 ((win0_1.blk t).view.emb _) by blk_simp [iblk]).trans
    ((congrArg (V m c main_arg0) (emb1 t r d)).trans (congrFun (V_x m c) _))
theorem xn_at (c : Dev nD) (t : Fin cfg0.N) (r : Fin 8) (d : Fin 1024) : (show FVec Ideal S1x8x1024 .f32 from iblk m c 2 t) (ix3 0 r d)
    = (show FVec Ideal S8x8192x1024 .f32 from m (c, Proc.tc.devRef main_arg0)) (ix3 (bt t) (nn t r) d) :=
  (show _ = V m c main_arg0 ((win0_2.blk t).view.emb _) by blk_simp [iblk]).trans
    ((congrArg (V m c main_arg0) (emb2 t r d)).trans (congrFun (V_x m c) _))
theorem w_at (c : Dev nD) (t : Fin cfg0.N) (d : Fin 1024) (f : Fin 5632) : (show FVec Ideal S1024x5632 .bf16 from iblk m c 3 t) (ix2 d f)
    = (show FVec Ideal S1024x5632 .f32 from m (c, Proc.tc.devRef main_arg1)) (ix2 d f) :=
  (show _ = V m c main_v0 ((win0_3.blk t).view.emb _) by blk_simp [iblk]).trans
    ((congrArg (V m c main_v0) (emb3 t d f)).trans (congrFun (V_w m c) _))
theorem cw_at (c : Dev nD) (t : Fin cfg0.N) (d : Fin 3) (f : Fin 2816) : (show FVec Ideal S3x2816 .f32 from iblk m c 4 t) (ix2 d f)
    = (show FVec Ideal S3x2816 .f32 from m (c, Proc.tc.devRef main_arg2)) (ix2 d f) :=
  (show _ = V m c main_arg2 ((win0_4.blk t).view.emb _) by blk_simp [iblk]).trans
    ((congrArg (V m c main_arg2) (emb4 t d f)).trans (congrFun (V_cw m c) _))
theorem cb_at (c : Dev nD) (t : Fin cfg0.N) (f : Fin 2816) : (show FVec Ideal S1x2816 .f32 from iblk m c 5 t) (ix2 0 f)
    = (show FVec Ideal S2816 .f32 from m (c, Proc.tc.devRef main_arg3)) (ix1 f) :=
  (show _ = V m c main_v1 ((win0_5.blk t).view.emb _) by blk_simp [iblk]).trans
    ((congrArg (V m c main_v1) (emb5 t f)).trans ((congrFun (V_cb m c) _).trans (by pointwise)))
theorem wd_at (c : Dev nD) (t : Fin cfg0.N) (f : Fin 2816) (e : Fin 1024) : (show FVec Ideal S2816x1024 .bf16 from iblk m c 6 t) (ix2 f e)
    = (show FVec Ideal S2816x1024 .f32 from m (c, Proc.tc.devRef main_arg4)) (ix2 f e) :=
  (show _ = V m c main_v2 ((win0_6.blk t).view.emb _) by blk_simp [iblk]).trans
    ((congrArg (V m c main_v2) (emb6 t f e)).trans (congrFun (V_wd m c) _))
theorem g_at (c : Dev nD) (t : Fin cfg0.N) (e : Fin 1024) : (show FVec Ideal S1x1024 .f32 from iblk m c 7 t) (ix2 0 e)
    = (show FVec Ideal S1024 .f32 from m (c, Proc.tc.devRef main_arg5)) (ix1 e) :=
  (show _ = V m c main_v3 ((win0_7.blk t).view.emb _) by blk_simp [iblk]).trans
    ((congrArg (V m c main_v3) (emb7 t e)).trans ((congrFun (V_g m c) _).trans (by pointwise)))
theorem b_at (c : Dev nD) (t : Fin cfg0.N) (e : Fin 1024) : (show FVec Ideal S1x1024 .f32 from iblk m c 8 t) (ix2 0 e)
    = (show FVec Ideal S1024 .f32 from m (c, Proc.tc.devRef main_arg6)) (ix1 e) :=
  (show _ = V m c main_v4 ((win0_8.blk t).view.emb _) by blk_simp [iblk]).trans
    ((congrArg (V m c main_v4) (emb8 t e)).trans ((congrFun (V_b m c) _).trans (by pointwise)))

theorem sgt_tile : ∀ p : Fin 16, Scalar.cmpi .sgt (BitVec.ofNat 32 p.val) 0#32 = if 0 < p.val then 1#1 else 0#1 := by decide
theorem slt_tile : ∀ p : Fin 16, Scalar.cmpi .slt (BitVec.ofNat 32 p.val) 15#32 = if p.val < 15 then 1#1 else 0#1 := by decide

/-- The stacked rows 7, …, 520 of a tile are the padded input's rows from the tile's first on. -/
theorem rows_at (c : Dev nD) (t : Fin cfg0.N) (k : Nat) (hk : k < 514) (d : Fin 1024) :
    k0_pay4 (F := Ideal) (grid0.coords t) (iblk m c 0 t) (iblk m c 1 t) (iblk m c 2 t) (ix2 ⟨7 + k, by omega⟩ d)
      = inp (m (c, Proc.tc.devRef main_arg0)) (bt t) (t.val % 16 * 512 + k) d := by
  have e1 := (idx t).2.2.2.2.2.2.2.2.2.2.1
  have sg := sgt_tile ⟨t.val % 16, by omega⟩
  have sl := slt_tile ⟨t.val % 16, by omega⟩
  refine (pay4_at _ _ _ _ _ _).trans ?_
  rw [e1]
  simp only at sg sl
  rw [sg, sl]
  unfold inp
  by_cases h8 : 7 + k < 8
  · rw [dif_pos h8]
    by_cases h0 : 0 < t.val % 16
    · rw [if_pos h0, dif_pos ⟨by omega, by omega⟩]
      refine (xp_at m c t _ d).trans (congrArg _ (congrArg (fun n => ix3 (bt t) n d) (Fin.ext ?_)))
      show (64 * (t.val % 16) - 1) * 8 + (7 + k) = t.val % 16 * 512 + k - 1
      omega
    · rw [if_neg h0, dif_neg (by omega)]
      rfl
  · rw [dif_neg h8]
    by_cases h5 : 7 + k - 8 < 512
    · rw [dif_pos h5, dif_pos ⟨by omega, by omega⟩]
      refine (x_at m c t _ d).trans (congrArg _ (congrArg (fun n => ix3 (bt t) n d) (Fin.ext ?_)))
      show t.val % 16 * 512 + (7 + k - 8) = t.val % 16 * 512 + k - 1
      omega
    · rw [dif_neg h5]
      by_cases h0 : t.val % 16 < 15
      · rw [if_pos h0, dif_pos ⟨by omega, by omega⟩]
        refine (xn_at m c t _ d).trans (congrArg _ (congrArg (fun n => ix3 (bt t) n d) (Fin.ext ?_)))
        show min (64 * (t.val % 16) + 64) 1023 * 8 + (7 + k - 8 - 512) = t.val % 16 * 512 + k - 1
        omega
      · rw [if_neg h0, dif_neg (by omega)]
        rfl

/-- The gate's projection of a stacked row. -/
theorem gate_at (c : Dev nD) (t : Fin cfg0.N) (k : Nat) (hk : k < 514) (f : Fin 2816) :
    ∑ x : Fin 1024, k0_pay4 (F := Ideal) (grid0.coords t) (iblk m c 0 t) (iblk m c 1 t) (iblk m c 2 t) (ix2 ⟨7 + k, by omega⟩ x)
        * (show FVec Ideal S1024x5632 .bf16 from iblk m c 3 t) (ix2 x ⟨f.val, by omega⟩)
      = gate (m (c, Proc.tc.devRef main_arg0)) (m (c, Proc.tc.devRef main_arg1)) (bt t) (t.val % 16 * 512 + k) f :=
  Finset.sum_congr rfl fun x _ => congrArg₂ (· * ·) (rows_at m c t k hk x) (w_at m c t _ _)

theorem cv_at (c : Dev nD) (t : Fin cfg0.N) (r : Fin 512) (f : Fin 2816) :
    cv (k0_pay4 (F := Ideal) (grid0.coords t) (iblk m c 0 t) (iblk m c 1 t) (iblk m c 2 t)) (iblk m c 3 t) (iblk m c 4 t) (iblk m c 5 t) r f
      = conv (m (c, Proc.tc.devRef main_arg0)) (m (c, Proc.tc.devRef main_arg1)) (m (c, Proc.tc.devRef main_arg2)) (m (c, Proc.tc.devRef main_arg3))
          (bt t) (t.val % 16 * 512 + r.val) f := by
  have e1 : t.val % 16 * 512 + (1 + r.val) = 1 + (t.val % 16 * 512 + r.val) := by omega
  have e2 : t.val % 16 * 512 + (2 + r.val) = 2 + (t.val % 16 * 512 + r.val) := by omega
  unfold cv conv
  rw [← e1, ← e2]
  exact congrArg₂ (· + ·) (congrArg₂ (· + ·) (congrArg₂ (· + ·) (congrArg₂ (· * ·) (gate_at m c t _ (by omega) f) (cw_at m c t 0 f))
    (congrArg₂ (· * ·) (gate_at m c t _ (by omega) f) (cw_at m c t 1 f))) (congrArg₂ (· * ·) (gate_at m c t _ (by omega) f) (cw_at m c t 2 f)))
    (cb_at m c t f)

theorem pay2_at (v0 : FVec Ideal S1x512x1024 .f32) (r : Fin 512) (d : Fin 1024) : k0_pay2 (F := Ideal) v0 (ix2 r d) = v0 (ix3 0 r d) := by
  pointwise [k0_pay2]
theorem pay3_at (v0 : FVec Ideal S1x512x1024 .f32) (r : Fin 512) (d : Fin 1024) : k0_pay3 (F := Ideal) v0 (ix2 r d) = (v0 (ix3 0 r d) : EReal) := by
  pointwise [k0_pay3, k0_pay2]
theorem pay54_at (v0 : FVec Ideal S1x1024 .f32) (d : Fin 1024) : k0_pay54 (F := Ideal) v0 (ix2 0 d) = v0 (ix2 0 d) := by
  pointwise [k0_pay54]

/-- The hidden tile of a grid point is the reference's hidden rows. -/
theorem tile_at (c : Dev nD) (t : Fin cfg0.N) (r : Fin 512) (f : Fin 2816) :
    tile (k0_pay3 (iblk m c 0 t)) (k0_pay4 (F := Ideal) (grid0.coords t) (iblk m c 0 t) (iblk m c 1 t) (iblk m c 2 t)) (iblk m c 3 t) (iblk m c 4 t)
        (iblk m c 5 t) (ix2 r f)
      = hid (m (c, Proc.tc.devRef main_arg0)) (m (c, Proc.tc.devRef main_arg1)) (m (c, Proc.tc.devRef main_arg2)) (m (c, Proc.tc.devRef main_arg3))
          (bt t) (nt t r) f := by
  have h := cv_at m c t r f
  unfold tile hid
  refine congrArg₂ (· * ·) (congrArg₂ (· * ·) (congrArg _ h) (congrArg (fun z => 1 + Ideal.erf (z * Ideal.ofBits .f32 1060439283#32)) h))
    (Finset.sum_congr rfl fun x _ => congrArg₂ (· * ·) ((pay3_at _ r x).trans (x_at m c t r x)) (w_at m c t _ _))

/-- What a grid point leaves at row `r` and column `e` is the reference there. -/
theorem point (c : Dev nD) (t : Fin cfg0.N) (z : FVec Ideal S512x2816 .bf16)
    (hz : z = tile (k0_pay3 (iblk m c 0 t)) (k0_pay4 (F := Ideal) (grid0.coords t) (iblk m c 0 t) (iblk m c 1 t) (iblk m c 2 t)) (iblk m c 3 t) (iblk m c 4 t)
        (iblk m c 5 t)) (r : Fin 512) (e : Fin 1024) :
    k0_pay1 (F := Ideal) (k0_pay53 (k0_pay2 (iblk m c 0 t)) z (iblk m c 6 t)) (k0_pay54 (iblk m c 7 t)) (iblk m c 8 t) (ix3 0 r e)
      = Cert.FfnRefIdeal.Read.val_main_v63 (F := Ideal) (m (c, Proc.tc.devRef main_arg0)) (m (c, Proc.tc.devRef main_arg1)) (m (c, Proc.tc.devRef main_arg2))
          (m (c, Proc.tc.devRef main_arg3)) (m (c, Proc.tc.devRef main_arg4)) (m (c, Proc.tc.devRef main_arg5)) (m (c, Proc.tc.devRef main_arg6))
          (ix3 (bt t) (nt t r) e) := by
  refine (pay1_at _ _ _ r e).trans (Eq.trans ?_ (v63_at _ _ _ _ _ _ _ (bt t) (nt t r) e).symm)
  have h1 : (fun e => k0_pay53 (F := Ideal) (k0_pay2 (iblk m c 0 t)) z (iblk m c 6 t) (ix2 r e))
      = down (m (c, Proc.tc.devRef main_arg0)) (m (c, Proc.tc.devRef main_arg1)) (m (c, Proc.tc.devRef main_arg2)) (m (c, Proc.tc.devRef main_arg3))
          (m (c, Proc.tc.devRef main_arg4)) (bt t) (nt t r) := funext fun e => by
    refine (pay53_at _ _ _ r e).trans ?_
    unfold down
    refine congrArg₂ (· + ·) (congrArg _ ((pay2_at _ r e).trans (x_at m c t r e))) (Finset.sum_congr rfl fun f _ => congrArg₂ (· * ·) ?_ (wd_at m c t f e))
    rw [hz]
    exact tile_at m c t r f
  have h2 : (fun e => k0_pay54 (F := Ideal) (iblk m c 7 t) (ix2 0 e))
      = fun e => (show FVec Ideal S1024 .f32 from m (c, Proc.tc.devRef main_arg5)) (ix1 e) :=
    funext fun e => (pay54_at _ e).trans (g_at m c t e)
  have h3 : (fun e => (show FVec Ideal S1x1024 .f32 from iblk m c 8 t) (ix2 0 e))
      = fun e => (show FVec Ideal S1024 .f32 from m (c, Proc.tc.devRef main_arg6)) (ix1 e) :=
    funext fun e => b_at m c t e
  exact congrFun (congr (congr (congrArg lnorm h1) h2) h3) e

/-- The result array after the run is the reference's result. -/
theorem final (c : Dev nD) : (dats m 0 c).arrAt 9 (cfgs 0).N
    = Cert.FfnRefIdeal.Read.val_main_v63 (F := Ideal) (m (c, Proc.tc.devRef main_arg0)) (m (c, Proc.tc.devRef main_arg1)) (m (c, Proc.tc.devRef main_arg2))
          (m (c, Proc.tc.devRef main_arg3)) (m (c, Proc.tc.devRef main_arg4)) (m (c, Proc.tc.devRef main_arg5)) (m (c, Proc.tc.devRef main_arg6)) := by
  refine (dats m 0 c).arrAt_eq_of_covers 9 _ (by decide +kernel) fun t _ y => ?_
  blk_simp
  rw [after0_9]
  unfold outsAt0
  frame_out
  obtain ⟨r, l, rfl⟩ : ∃ (r : Fin 512) (l : Fin 1024), y = ix3 0 r l :=
    ⟨y 1, y 2, funext fun a => by fin_cases a <;> first | rfl | exact Subsingleton.elim (α := Fin 1) _ _⟩
  refine (point m c t _ ?_ r l).trans ?_
  rotate_left
  · exact congrArg _ (emb9 t r l).symm
  have P := chunk_eq (k0_pay3 (iblk m c 0 t)) (k0_pay4 (F := Ideal) (grid0.coords t) (iblk m c 0 t) (iblk m c 1 t) (iblk m c 2 t)) (iblk m c 3 t) (iblk m c 4 t)
    (iblk m c 5 t)
  rw [View.readCov_eq_canon']
  refine funext fun j => (View.canon_apply_of_pieces (tile (k0_pay3 (iblk m c 0 t))
    (k0_pay4 (F := Ideal) (grid0.coords t) (iblk m c 0 t) (iblk m c 1 t) (iblk m c 2 t)) (iblk m c 3 t) (iblk m c 4 t) (iblk m c 5 t)) _ ?_ _ ?_).trans ?_
  · refine List.forall_mem_cons.mpr ⟨fun x => P 2560 5376 rfl inb_S1024x5632_S1024x256_0_2560 inb_S1024x5632_S1024x256_0_5376 inb_S3x2816_S1x256_0_2560 inb_S3x2816_S1x256_1_2560
      inb_S3x2816_S1x256_2_2560 inb_S1x2816_S1x256_0_2560 inb_S512x2816_S512x256_0_2560 x, ?_⟩
    refine List.forall_mem_cons.mpr ⟨fun x => P 2304 5120 rfl inb_S1024x5632_S1024x256_0_2304 inb_S1024x5632_S1024x256_0_5120 inb_S3x2816_S1x256_0_2304 inb_S3x2816_S1x256_1_2304
      inb_S3x2816_S1x256_2_2304 inb_S1x2816_S1x256_0_2304 inb_S512x2816_S512x256_0_2304 x, ?_⟩
    refine List.forall_mem_cons.mpr ⟨fun x => P 2048 4864 rfl inb_S1024x5632_S1024x256_0_2048 inb_S1024x5632_S1024x256_0_4864 inb_S3x2816_S1x256_0_2048 inb_S3x2816_S1x256_1_2048
      inb_S3x2816_S1x256_2_2048 inb_S1x2816_S1x256_0_2048 inb_S512x2816_S512x256_0_2048 x, ?_⟩
    refine List.forall_mem_cons.mpr ⟨fun x => P 1792 4608 rfl inb_S1024x5632_S1024x256_0_1792 inb_S1024x5632_S1024x256_0_4608 inb_S3x2816_S1x256_0_1792 inb_S3x2816_S1x256_1_1792
      inb_S3x2816_S1x256_2_1792 inb_S1x2816_S1x256_0_1792 inb_S512x2816_S512x256_0_1792 x, ?_⟩
    refine List.forall_mem_cons.mpr ⟨fun x => P 1536 4352 rfl inb_S1024x5632_S1024x256_0_1536 inb_S1024x5632_S1024x256_0_4352 inb_S3x2816_S1x256_0_1536 inb_S3x2816_S1x256_1_1536
      inb_S3x2816_S1x256_2_1536 inb_S1x2816_S1x256_0_1536 inb_S512x2816_S512x256_0_1536 x, ?_⟩
    refine List.forall_mem_cons.mpr ⟨fun x => P 1280 4096 rfl inb_S1024x5632_S1024x256_0_1280 inb_S1024x5632_S1024x256_0_4096 inb_S3x2816_S1x256_0_1280 inb_S3x2816_S1x256_1_1280
      inb_S3x2816_S1x256_2_1280 inb_S1x2816_S1x256_0_1280 inb_S512x2816_S512x256_0_1280 x, ?_⟩
    refine List.forall_mem_cons.mpr ⟨fun x => P 1024 3840 rfl inb_S1024x5632_S1024x256_0_1024 inb_S1024x5632_S1024x256_0_3840 inb_S3x2816_S1x256_0_1024 inb_S3x2816_S1x256_1_1024
      inb_S3x2816_S1x256_2_1024 inb_S1x2816_S1x256_0_1024 inb_S512x2816_S512x256_0_1024 x, ?_⟩
    refine List.forall_mem_cons.mpr ⟨fun x => P 768 3584 rfl inb_S1024x5632_S1024x256_0_768 inb_S1024x5632_S1024x256_0_3584 inb_S3x2816_S1x256_0_768 inb_S3x2816_S1x256_1_768
      inb_S3x2816_S1x256_2_768 inb_S1x2816_S1x256_0_768 inb_S512x2816_S512x256_0_768 x, ?_⟩
    refine List.forall_mem_cons.mpr ⟨fun x => P 512 3328 rfl inb_S1024x5632_S1024x256_0_512 inb_S1024x5632_S1024x256_0_3328 inb_S3x2816_S1x256_0_512 inb_S3x2816_S1x256_1_512
      inb_S3x2816_S1x256_2_512 inb_S1x2816_S1x256_0_512 inb_S512x2816_S512x256_0_512 x, ?_⟩
    refine List.forall_mem_cons.mpr ⟨fun x => P 256 3072 rfl inb_S1024x5632_S1024x256_0_256 inb_S1024x5632_S1024x256_0_3072 inb_S3x2816_S1x256_0_256 inb_S3x2816_S1x256_1_256
      inb_S3x2816_S1x256_2_256 inb_S1x2816_S1x256_0_256 inb_S512x2816_S512x256_0_256 x, ?_⟩
    refine List.forall_mem_cons.mpr ⟨fun x => P 0 2816 rfl inb_S1024x5632_S1024x256_0_0 inb_S1024x5632_S1024x256_0_2816 inb_S3x2816_S1x256_0_0 inb_S3x2816_S1x256_1_0
      inb_S3x2816_S1x256_2_0 inb_S1x2816_S1x256_0_0 inb_S512x2816_S512x256_0_0 x, ?_⟩
    exact fun p hp => absurd hp List.not_mem_nil
  · exact View.cover_of_tiled_head _ _ _ (by rfl) _
  · refine congrArg _ (funext fun a => Fin.ext ?_)
    show (![0, 0] : Fin 2 → Nat) a + 1 * (j a).val = (j a).val
    fin_cases a <;> (simp)

end Cert.FfnIdeal.At
-- ==== Proof.FfnClaim.lean ====
/-
  The feed-forward call's value claim: the kernel's exact result is the reference's, for every input.
-/
module

public import proofs.«01_k».proof.Defs
public import proofs.«01_k».proof.Proof.FfnFinal
public import proofs.«01_k».proof.Proof.Gen.FfnRefIdeal.Run

@[expose] public section

set_option maxRecDepth 16384

noncomputable section

open Idealize.ShloMosaic Idealize.ShloMosaic.TcCoe Idealize.SL.Sem

namespace Cert.FfnClaim

theorem algebraic : Cert.algebraic_FfnIdeal_FfnRefIdeal := by
  pair_intro
  · run_from Cert.FfnIdeal.Gen.run_main m g
  · run_from Cert.FfnRefIdeal.Value.run m' g'
    obtain ⟨h0, h1, h2, h3, h4, h5, h6⟩ := hagree c
    refine (Cert.FfnRefIdeal.Read.val_main_v63_eq _ _).trans ?_
    rw [h0, h1, h2, h3, h4, h5, h6]
    exact (Cert.FfnIdeal.At.final m c).symm

end Cert.FfnClaim
-- ==== Proof.MixHost.lean ====
/-
  The mixing call's operands at an entry: which block of which array every window holds, and what the host wrote into that array.
-/
module

public import proofs.«01_k».proof.Proof.Gen.MixIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.At

open Cert.MixIdeal Cert.MixIdeal.Gen

variable (m : (ℓ : Loc nD τ sig) → Buf (Elt Ideal) ℓ)

/-- The blocks of every window at a grid point: a token tile of a batch, a batch's memory, or all of a weight. -/
theorem idxTok : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![t.val / 16, t.val % 16, 0]
    ∧ win0_5.index t = ![t.val / 16, t.val % 16, 0] ∧ win0_6.index t = ![t.val / 16, t.val % 16, 0] ∧ win0_7.index t = ![t.val / 16, t.val % 16, 0]
    ∧ win0_14.index t = ![t.val / 16, 0, 0] ∧ win0_15.index t = ![t.val / 16, 0, 0] ∧ win0_19.index t = ![t.val / 16, t.val % 16, 0] ∧ t.val / 16 < 8 :=
  (by decide +kernel : ∀ t : Fin grid0.N, _)
theorem idxW : ∀ t : Fin cfg0.N, win0_8.index t = ![0, 0] ∧ win0_9.index t = ![0, 0] ∧ win0_10.index t = ![0, 0] ∧ win0_11.index t = ![0, 0]
    ∧ win0_12.index t = ![0, 0] ∧ win0_13.index t = ![0, 0] ∧ win0_16.index t = ![0, 0] ∧ win0_17.index t = ![0, 0] ∧ win0_18.index t = ![0, 0] :=
  (by decide +kernel : ∀ t : Fin grid0.N, _)

/-- The batch of a grid point, and the token of its tile's row `r`. -/
def bt (t : Fin cfg0.N) : Fin 8 := ⟨t.val / 16, (idxTok t).2.2.2.2.2.2.2.2.2.2.2⟩
def nt (t : Fin cfg0.N) (r : Fin 512) : Fin 8192 := ⟨t.val % 16 * 512 + r.val, by omega⟩

/-- A pattern's heads joined into lanes, and its log-sum-exp repeated over each head's lanes, as the host writes them. -/
def lanes (o : FVec Ideal S8x8192x8x64 .f32) : FVec Ideal S8x8192x512 .bf16 :=
  shapeCast S8x8192x512 (truncf .bf16 o bitsLt_bf16_f32 : FVec Ideal S8x8192x8x64 .bf16) shapeCasts_S8x8192x8x64_S8x8192x512
def repeated (l : FVec Ideal S8x8192x8 .f32) : FVec Ideal S8x8192x512 .f32 :=
  shapeCast S8x8192x512 (broadcastInDim (α := Ideal .f32) S8x8192x8x64 ![0, 1, 2, 3] bcast_S8x8192x8x1_S8x8192x8x64_0_1_2_3
    (broadcastInDim (α := Ideal .f32) S8x8192x8x1 ![0, 1, 2] bcast_S8x8192x8_S8x8192x8x1_0_1_2 l)) shapeCasts_S8x8192x8x64_S8x8192x512

theorem lanes_at (o : FVec Ideal S8x8192x8x64 .f32) (n : Fin 8) (s : Fin 8192) (j : Fin 512) :
    lanes o (ix3 n s j) = o (ix4 n s ⟨j.val / 64, by omega⟩ ⟨j.val % 64, by omega⟩) := by
  pointwise [lanes]
theorem repeated_at (l : FVec Ideal S8x8192x8 .f32) (n : Fin 8) (s : Fin 8192) (j : Fin 512) :
    repeated l (ix3 n s j) = l (ix3 n s ⟨j.val / 64, by omega⟩) := by
  pointwise [repeated]

theorem V_0 (c : Dev nD) : V m c main_arg0 = (m (c, Proc.tc.devRef main_arg0)) := by
  entry_read
  rfl
theorem emb0 (t : Fin cfg0.N) (r : Fin 512) (e : Fin 1024) : (win0_0.blk t).view.emb (ix3 0 r e) = ix3 (bt t) (nt t r) e := by
  blk_ext [idxTok t, bt, nt]
theorem in0_at (c : Dev nD) (t : Fin cfg0.N) (r : Fin 512) (e : Fin 1024) : (show FVec Ideal S1x512x1024 .f32 from iblk m c 0 t) (ix3 0 r e)
    = (show FVec Ideal S8x8192x1024 .f32 from m (c, Proc.tc.devRef main_arg0)) (ix3 (bt t) (nt t r) e) :=
  (show _ = V m c main_arg0 ((win0_0.blk t).view.emb _) by blk_simp [iblk]).trans
    ((congrArg (V m c main_arg0) (emb0 t r e)).trans (congrFun (V_0 m c) _))

theorem V_1 (c : Dev nD) : V m c main_v1 = lanes (m (c, Proc.tc.devRef main_arg1)) := by
  entry_read
  rfl
theorem emb1 (t : Fin cfg0.N) (r : Fin 512) (e : Fin 512) : (win0_1.blk t).view.emb (ix3 0 r e) = ix3 (bt t) (nt t r) e := by
  blk_ext [idxTok t, bt, nt]
theorem in1_at (c : Dev nD) (t : Fin cfg0.N) (r : Fin 512) (e : Fin 512) : (show FVec Ideal S1x512x512 .bf16 from iblk m c 1 t) (ix3 0 r e)
    = (show FVec Ideal S8x8192x8x64 .f32 from m (c, Proc.tc.devRef main_arg1)) (ix4 (bt t) (nt t r) ⟨e.val / 64, by omega⟩ ⟨e.val % 64, by omega⟩) :=
  (show _ = V m c main_v1 ((win0_1.blk t).view.emb _) by blk_simp [iblk]).trans
    ((congrArg (V m c main_v1) (emb1 t r e)).trans ((congrFun (V_1 m c) _).trans (lanes_at _ _ _ _)))

theorem V_2 (c : Dev nD) : V m c main_v3 = lanes (m (c, Proc.tc.devRef main_arg2)) := by
  entry_read
  rfl
theorem emb2 (t : Fin cfg0.N) (r : Fin 512) (e : Fin 512) : (win0_2.blk t).view.emb (ix3 0 r e) = ix3 (bt t) (nt t r) e := by
  blk_ext [idxTok t, bt, nt]
theorem in2_at (c : Dev nD) (t : Fin cfg0.N) (r : Fin 512) (e : Fin 512) : (show FVec Ideal S1x512x512 .bf16 from iblk m c 2 t) (ix3 0 r e)
    = (show FVec Ideal S8x8192x8x64 .f32 from m (c, Proc.tc.devRef main_arg2)) (ix4 (bt t) (nt t r) ⟨e.val / 64, by omega⟩ ⟨e.val % 64, by omega⟩) :=
  (show _ = V m c main_v3 ((win0_2.blk t).view.emb _) by blk_simp [iblk]).trans
    ((congrArg (V m c main_v3) (emb2 t r e)).trans ((congrFun (V_2 m c) _).trans (lanes_at _ _ _ _)))

theorem V_3 (c : Dev nD) : V m c main_v5 = lanes (m (c, Proc.tc.devRef main_arg3)) := by
  entry_read
  rfl
theorem emb3 (t : Fin cfg0.N) (r : Fin 512) (e : Fin 512) : (win0_3.blk t).view.emb (ix3 0 r e) = ix3 (bt t) (nt t r) e := by
  blk_ext [idxTok t, bt, nt]
theorem in3_at (c : Dev nD) (t : Fin cfg0.N) (r : Fin 512) (e : Fin 512) : (show FVec Ideal S1x512x512 .bf16 from iblk m c 3 t) (ix3 0 r e)
    = (show FVec Ideal S8x8192x8x64 .f32 from m (c, Proc.tc.devRef main_arg3)) (ix4 (bt t) (nt t r) ⟨e.val / 64, by omega⟩ ⟨e.val % 64, by omega⟩) :=
  (show _ = V m c main_v5 ((win0_3.blk t).view.emb _) by blk_simp [iblk]).trans
    ((congrArg (V m c main_v5) (emb3 t r e)).trans ((congrFun (V_3 m c) _).trans (lanes_at _ _ _ _)))

theorem V_4 (c : Dev nD) : V m c main_v8 = repeated (m (c, Proc.tc.devRef main_arg4)) := by
  entry_read
  rfl
theorem emb4 (t : Fin cfg0.N) (r : Fin 512) (e : Fin 512) : (win0_4.blk t).view.emb (ix3 0 r e) = ix3 (bt t) (nt t r) e := by
  blk_ext [idxTok t, bt, nt]
theorem in4_at (c : Dev nD) (t : Fin cfg0.N) (r : Fin 512) (e : Fin 512) : (show FVec Ideal S1x512x512 .f32 from iblk m c 4 t) (ix3 0 r e)
    = (show FVec Ideal S8x8192x8 .f32 from m (c, Proc.tc.devRef main_arg4)) (ix3 (bt t) (nt t r) ⟨e.val / 64, by omega⟩) :=
  (show _ = V m c main_v8 ((win0_4.blk t).view.emb _) by blk_simp [iblk]).trans
    ((congrArg (V m c main_v8) (emb4 t r e)).trans ((congrFun (V_4 m c) _).trans (repeated_at _ _ _ _)))

theorem V_5 (c : Dev nD) : V m c main_v11 = repeated (m (c, Proc.tc.devRef main_arg5)) := by
  entry_read
  rfl
theorem emb5 (t : Fin cfg0.N) (r : Fin 512) (e : Fin 512) : (win0_5.blk t).view.emb (ix3 0 r e) = ix3 (bt t) (nt t r) e := by
  blk_ext [idxTok t, bt, nt]
theorem in5_at (c : Dev nD) (t : Fin cfg0.N) (r : Fin 512) (e : Fin 512) : (show FVec Ideal S1x512x512 .f32 from iblk m c 5 t) (ix3 0 r e)
    = (show FVec Ideal S8x8192x8 .f32 from m (c, Proc.tc.devRef main_arg5)) (ix3 (bt t) (nt t r) ⟨e.val / 64, by omega⟩) :=
  (show _ = V m c main_v11 ((win0_5.blk t).view.emb _) by blk_simp [iblk]).trans
    ((congrArg (V m c main_v11) (emb5 t r e)).trans ((congrFun (V_5 m c) _).trans (repeated_at _ _ _ _)))

theorem V_6 (c : Dev nD) : V m c main_v14 = repeated (m (c, Proc.tc.devRef main_arg6)) := by
  entry_read
  rfl
theorem emb6 (t : Fin cfg0.N) (r : Fin 512) (e : Fin 512) : (win0_6.blk t).view.emb (ix3 0 r e) = ix3 (bt t) (nt t r) e := by
  blk_ext [idxTok t, bt, nt]
theorem in6_at (c : Dev nD) (t : Fin cfg0.N) (r : Fin 512) (e : Fin 512) : (show FVec Ideal S1x512x512 .f32 from iblk m c 6 t) (ix3 0 r e)
    = (show FVec Ideal S8x8192x8 .f32 from m (c, Proc.tc.devRef main_arg6)) (ix3 (bt t) (nt t r) ⟨e.val / 64, by omega⟩) :=
  (show _ = V m c main_v14 ((win0_6.blk t).view.emb _) by blk_simp [iblk]).trans
    ((congrArg (V m c main_v14) (emb6 t r e)).trans ((congrFun (V_6 m c) _).trans (repeated_at _ _ _ _)))

theorem V_7 (c : Dev nD) : V m c main_v15 = truncf (s := S8x8192x512) (F := Ideal) FTy.bf16 (m (c, Proc.tc.devRef main_arg7)) bitsLt_bf16_f32 := by
  entry_read
  rfl
theorem emb7 (t : Fin cfg0.N) (r : Fin 512) (e : Fin 512) : (win0_7.blk t).view.emb (ix3 0 r e) = ix3 (bt t) (nt t r) e := by
  blk_ext [idxTok t, bt, nt]
theorem in7_at (c : Dev nD) (t : Fin cfg0.N) (r : Fin 512) (e : Fin 512) : (show FVec Ideal S1x512x512 .bf16 from iblk m c 7 t) (ix3 0 r e)
    = (show FVec Ideal S8x8192x512 .f32 from m (c, Proc.tc.devRef main_arg7)) (ix3 (bt t) (nt t r) e) :=
  (show _ = V m c main_v15 ((win0_7.blk t).view.emb _) by blk_simp [iblk]).trans
    ((congrArg (V m c main_v15) (emb7 t r e)).trans (congrFun (V_7 m c) _))

theorem V_14 (c : Dev nD) : V m c main_v16 = truncf (s := S8x256x1024) (F := Ideal) FTy.bf16 (m (c, Proc.tc.devRef main_arg8)) bitsLt_bf16_f32 := by
  entry_read
  rfl
theorem emb14 (t : Fin cfg0.N) (r : Fin 256) (e : Fin 1024) : (win0_14.blk t).view.emb (ix3 0 r e) = ix3 (bt t) r e := by
  blk_ext [idxTok t, bt]
theorem in14_at (c : Dev nD) (t : Fin cfg0.N) (r : Fin 256) (e : Fin 1024) : (show FVec Ideal S1x256x1024 .bf16 from iblk m c 14 t) (ix3 0 r e)
    = (show FVec Ideal S8x256x1024 .f32 from m (c, Proc.tc.devRef main_arg8)) (ix3 (bt t) r e) :=
  (show _ = V m c main_v16 ((win0_14.blk t).view.emb _) by blk_simp [iblk]).trans
    ((congrArg (V m c main_v16) (emb14 t r e)).trans (congrFun (V_14 m c) _))

theorem V_15 (c : Dev nD) : V m c main_v17 = truncf (s := S8x256x1024) (F := Ideal) FTy.bf16 (m (c, Proc.tc.devRef main_arg9)) bitsLt_bf16_f32 := by
  entry_read
  rfl
theorem emb15 (t : Fin cfg0.N) (r : Fin 256) (e : Fin 1024) : (win0_15.blk t).view.emb (ix3 0 r e) = ix3 (bt t) r e := by
  blk_ext [idxTok t, bt]
theorem in15_at (c : Dev nD) (t : Fin cfg0.N) (r : Fin 256) (e : Fin 1024) : (show FVec Ideal S1x256x1024 .bf16 from iblk m c 15 t) (ix3 0 r e)
    = (show FVec Ideal S8x256x1024 .f32 from m (c, Proc.tc.devRef main_arg9)) (ix3 (bt t) r e) :=
  (show _ = V m c main_v17 ((win0_15.blk t).view.emb _) by blk_simp [iblk]).trans
    ((congrArg (V m c main_v17) (emb15 t r e)).trans (congrFun (V_15 m c) _))

theorem V_10 (c : Dev nD) : V m c main_v20 = truncf (s := S1024x1024) (F := Ideal) FTy.bf16 (m (c, Proc.tc.devRef main_arg12)) bitsLt_bf16_f32 := by
  entry_read
  rfl
theorem emb10 (t : Fin cfg0.N) (r e : Fin 1024) : (win0_10.blk t).view.emb (ix2 r e) = ix2 r e := by
  blk_ext [idxW t]
theorem in10_at (c : Dev nD) (t : Fin cfg0.N) (r e : Fin 1024) : (show FVec Ideal S1024x1024 .bf16 from iblk m c 10 t) (ix2 r e)
    = (show FVec Ideal S1024x1024 .f32 from m (c, Proc.tc.devRef main_arg12)) (ix2 r e) :=
  (show _ = V m c main_v20 ((win0_10.blk t).view.emb _) by blk_simp [iblk]).trans
    ((congrArg (V m c main_v20) (emb10 t r e)).trans (congrFun (V_10 m c) _))

theorem V_13 (c : Dev nD) : V m c main_v23 = truncf (s := S1024x1024) (F := Ideal) FTy.bf16 (m (c, Proc.tc.devRef main_arg15)) bitsLt_bf16_f32 := by
  entry_read
  rfl
theorem emb13 (t : Fin cfg0.N) (r e : Fin 1024) : (win0_13.blk t).view.emb (ix2 r e) = ix2 r e := by
  blk_ext [idxW t]
theorem in13_at (c : Dev nD) (t : Fin cfg0.N) (r e : Fin 1024) : (show FVec Ideal S1024x1024 .bf16 from iblk m c 13 t) (ix2 r e)
    = (show FVec Ideal S1024x1024 .f32 from m (c, Proc.tc.devRef main_arg15)) (ix2 r e) :=
  (show _ = V m c main_v23 ((win0_13.blk t).view.emb _) by blk_simp [iblk]).trans
    ((congrArg (V m c main_v23) (emb13 t r e)).trans (congrFun (V_13 m c) _))

theorem V_16 (c : Dev nD) : V m c main_v24 = truncf (s := S1024x1024) (F := Ideal) FTy.bf16 (m (c, Proc.tc.devRef main_arg16)) bitsLt_bf16_f32 := by
  entry_read
  rfl
theorem emb16 (t : Fin cfg0.N) (r e : Fin 1024) : (win0_16.blk t).view.emb (ix2 r e) = ix2 r e := by
  blk_ext [idxW t]
theorem in16_at (c : Dev nD) (t : Fin cfg0.N) (r e : Fin 1024) : (show FVec Ideal S1024x1024 .bf16 from iblk m c 16 t) (ix2 r e)
    = (show FVec Ideal S1024x1024 .f32 from m (c, Proc.tc.devRef main_arg16)) (ix2 r e) :=
  (show _ = V m c main_v24 ((win0_16.blk t).view.emb _) by blk_simp [iblk]).trans
    ((congrArg (V m c main_v24) (emb16 t r e)).trans (congrFun (V_16 m c) _))

theorem V_8 (c : Dev nD) : V m c main_v18 = broadcastInDim (α := Elt Ideal .f32) S1x512 ![1] bcast_S512_S1x512_1 (m (c, Proc.tc.devRef main_arg10)) := by
  entry_read
  rfl
theorem emb8 (t : Fin cfg0.N) (e : Fin 512) : (win0_8.blk t).view.emb (ix2 0 e) = ix2 0 e := by
  blk_ext [idxW t]
theorem in8_at (c : Dev nD) (t : Fin cfg0.N) (e : Fin 512) : (show FVec Ideal S1x512 .f32 from iblk m c 8 t) (ix2 0 e)
    = (show FVec Ideal S512 .f32 from m (c, Proc.tc.devRef main_arg10)) (ix1 e) :=
  (show _ = V m c main_v18 ((win0_8.blk t).view.emb _) by blk_simp [iblk]).trans
    ((congrArg (V m c main_v18) (emb8 t e)).trans ((congrFun (V_8 m c) _).trans (by pointwise)))

theorem V_9 (c : Dev nD) : V m c main_v19 = broadcastInDim (α := Elt Ideal .f32) S1x512 ![1] bcast_S512_S1x512_1 (m (c, Proc.tc.devRef main_arg11)) := by
  entry_read
  rfl
theorem emb9 (t : Fin cfg0.N) (e : Fin 512) : (win0_9.blk t).view.emb (ix2 0 e) = ix2 0 e := by
  blk_ext [idxW t]
theorem in9_at (c : Dev nD) (t : Fin cfg0.N) (e : Fin 512) : (show FVec Ideal S1x512 .f32 from iblk m c 9 t) (ix2 0 e)
    = (show FVec Ideal S512 .f32 from m (c, Proc.tc.devRef main_arg11)) (ix1 e) :=
  (show _ = V m c main_v19 ((win0_9.blk t).view.emb _) by blk_simp [iblk]).trans
    ((congrArg (V m c main_v19) (emb9 t e)).trans ((congrFun (V_9 m c) _).trans (by pointwise)))

theorem V_11 (c : Dev nD) : V m c main_v21 = broadcastInDim (α := Elt Ideal .f32) S1x1024 ![1] bcast_S1024_S1x1024_1 (m (c, Proc.tc.devRef main_arg13)) := by
  entry_read
  rfl
theorem emb11 (t : Fin cfg0.N) (e : Fin 1024) : (win0_11.blk t).view.emb (ix2 0 e) = ix2 0 e := by
  blk_ext [idxW t]
theorem in11_at (c : Dev nD) (t : Fin cfg0.N) (e : Fin 1024) : (show FVec Ideal S1x1024 .f32 from iblk m c 11 t) (ix2 0 e)
    = (show FVec Ideal S1024 .f32 from m (c, Proc.tc.devRef main_arg13)) (ix1 e) :=
  (show _ = V m c main_v21 ((win0_11.blk t).view.emb _) by blk_simp [iblk]).trans
    ((congrArg (V m c main_v21) (emb11 t e)).trans ((congrFun (V_11 m c) _).trans (by pointwise)))

theorem V_12 (c : Dev nD) : V m c main_v22 = broadcastInDim (α := Elt Ideal .f32) S1x1024 ![1] bcast_S1024_S1x1024_1 (m (c, Proc.tc.devRef main_arg14)) := by
  entry_read
  rfl
theorem emb12 (t : Fin cfg0.N) (e : Fin 1024) : (win0_12.blk t).view.emb (ix2 0 e) = ix2 0 e := by
  blk_ext [idxW t]
theorem in12_at (c : Dev nD) (t : Fin cfg0.N) (e : Fin 1024) : (show FVec Ideal S1x1024 .f32 from iblk m c 12 t) (ix2 0 e)
    = (show FVec Ideal S1024 .f32 from m (c, Proc.tc.devRef main_arg14)) (ix1 e) :=
  (show _ = V m c main_v22 ((win0_12.blk t).view.emb _) by blk_simp [iblk]).trans
    ((congrArg (V m c main_v22) (emb12 t e)).trans ((congrFun (V_12 m c) _).trans (by pointwise)))

theorem V_17 (c : Dev nD) : V m c main_v25 = broadcastInDim (α := Elt Ideal .f32) S1x1024 ![1] bcast_S1024_S1x1024_1 (m (c, Proc.tc.devRef main_arg17)) := by
  entry_read
  rfl
theorem emb17 (t : Fin cfg0.N) (e : Fin 1024) : (win0_17.blk t).view.emb (ix2 0 e) = ix2 0 e := by
  blk_ext [idxW t]
theorem in17_at (c : Dev nD) (t : Fin cfg0.N) (e : Fin 1024) : (show FVec Ideal S1x1024 .f32 from iblk m c 17 t) (ix2 0 e)
    = (show FVec Ideal S1024 .f32 from m (c, Proc.tc.devRef main_arg17)) (ix1 e) :=
  (show _ = V m c main_v25 ((win0_17.blk t).view.emb _) by blk_simp [iblk]).trans
    ((congrArg (V m c main_v25) (emb17 t e)).trans ((congrFun (V_17 m c) _).trans (by pointwise)))

theorem V_18 (c : Dev nD) : V m c main_v26 = broadcastInDim (α := Elt Ideal .f32) S1x1024 ![1] bcast_S1024_S1x1024_1 (m (c, Proc.tc.devRef main_arg18)) := by
  entry_read
  rfl
theorem emb18 (t : Fin cfg0.N) (e : Fin 1024) : (win0_18.blk t).view.emb (ix2 0 e) = ix2 0 e := by
  blk_ext [idxW t]
theorem in18_at (c : Dev nD) (t : Fin cfg0.N) (e : Fin 1024) : (show FVec Ideal S1x1024 .f32 from iblk m c 18 t) (ix2 0 e)
    = (show FVec Ideal S1024 .f32 from m (c, Proc.tc.devRef main_arg18)) (ix1 e) :=
  (show _ = V m c main_v26 ((win0_18.blk t).view.emb _) by blk_simp [iblk]).trans
    ((congrArg (V m c main_v26) (emb18 t e)).trans ((congrFun (V_18 m c) _).trans (by pointwise)))

/-- Where a grid point writes its tile. -/
theorem emb19 (t : Fin cfg0.N) (r : Fin 512) (e : Fin 1024) : (win0_19.blk t).view.emb (ix3 0 r e) = ix3 (bt t) (nt t r) e := by
  blk_ext [idxTok t, bt, nt]

end Cert.MixIdeal.At
-- ==== Proof.MixRow.lean ====
/-
  One token's row through the mixing call, as expressions over the extended reals: three patterns weighted by the softmax of their
  log-sum-exps, the root-mean-square norms, and one head of the attention to the memory; with the two ways of writing each shown equal for
  real scores.
-/
module

public import proofs.«01_k».proof.Proof.Flash
public import proofs.«01_k».proof.Proof.Norm

@[expose] public section

noncomputable section

open Idealize.ShloMosaic

namespace Cert.MixRow

open Cert.Flash Cert.Norm

/-- The values `w` weighted by the softmax of the scores `s`. -/
def soft {N : Nat} (s w : Fin N → EReal) : EReal :=
  ∑ i, Ideal.div (Ideal.exp (s i - Finset.univ.sup s)) (∑ j, Ideal.exp (s j - Finset.univ.sup s)) * w i

/-- The quotient of the weighted sum by the denominator is the softmax-weighted sum. -/
theorem soft_eq {N : Nat} [NeZero N] {s : Fin N → EReal} (hs : ∀ i, IsR (s i)) (w : Fin N → EReal) :
    Ideal.div (∑ i, Ideal.exp (s i - Finset.univ.sup s) * w i) (∑ j, Ideal.exp (s j - Finset.univ.sup s)) = soft s w := by
  obtain ⟨r, hr, he⟩ := den_pos hs Finset.univ_nonempty (sup_isR hs Finset.univ_nonempty)
  unfold soft
  rw [he, div_sum hr]

theorem sup_three (a b c : EReal) : Finset.univ.sup ![a, b, c] = max (max a b) c := by
  rw [show (Finset.univ : Finset (Fin 3)) = {0, 1, 2} from rfl, Finset.sup_insert, Finset.sup_insert, Finset.sup_singleton]
  show max a (max b c) = _
  rw [max_assoc]

/-- Three patterns mixed by the exponentials of their log-sum-exps against the largest. -/
theorem soft_three {a b c : EReal} (ha : IsR a) (hb : IsR b) (hc : IsR c) (u v w : EReal) :
    Ideal.div (Ideal.exp (a - max (max a b) c) * u + Ideal.exp (b - max (max a b) c) * v + Ideal.exp (c - max (max a b) c) * w)
        (Ideal.exp (a - max (max a b) c) + Ideal.exp (b - max (max a b) c) + Ideal.exp (c - max (max a b) c))
      = soft ![a, b, c] ![u, v, w] := by
  have h : ∀ i, IsR ((![a, b, c] : Fin 3 → EReal) i) := fun i => by fin_cases i <;> assumption
  rw [← soft_eq h, Fin.sum_univ_three, Fin.sum_univ_three, sup_three]
  rfl

/-- The root-mean-square norm of a row of 512 numbers with gain `g`. -/
def rms (y g : Fin 512 → EReal) (e : Fin 512) : EReal :=
  y e * Ideal.rsqrt (Ideal.div (∑ x, y x * y x) (Ideal.ofBits .f32 0x44000000#32) + Ideal.ofBits .f32 0x358637BD#32) * g e

/-- A sum over 1024 columns, by halves. -/
theorem sum_halves (f : Fin 1024 → EReal) : ∑ x, f x = ∑ x : Fin 512, f ⟨x.val, by omega⟩ + ∑ x : Fin 512, f ⟨512 + x.val, by omega⟩ :=
  Fin.sum_univ_add (a := 512) (b := 512) f

/-! ## Real numbers stay real -/

theorem isR_div {x y : EReal} (hx : IsR x) {r : ℝ} (hr : r ≠ 0) (hy : y = (r : EReal)) : IsR (Ideal.div x y) := by
  rw [hy, Ideal.div_coe hr]
  exact hx.mul (IsR.coe _)

theorem isR_rsqrt {x : EReal} {r : ℝ} (hr : 0 < r) (hx : x = (r : EReal)) : IsR (Ideal.rsqrt x) := by
  rw [hx, Ideal.rsqrt_coe, if_neg (not_lt.mpr hr.le), if_neg hr.ne']
  exact IsR.coe _

/-- The reciprocal root of a mean of squares with a positive real number added is real. -/
theorem isR_rms_scale {N : Nat} {y : Fin N → EReal} (hy : ∀ i, IsR (y i)) {n e : EReal} {a b : ℝ} (ha : 0 < a) (hb : 0 < b) (hn : n = (a : EReal))
    (he : e = (b : EReal)) : IsR (Ideal.rsqrt (Ideal.div (∑ x, y x * y x) n + e)) := by
  choose z hz using hy
  have h : Ideal.div (∑ x, y x * y x) n + e = (((∑ x, z x * z x) * (1 / a) + b : ℝ) : EReal) := by
    rw [hn, he, Ideal.div_coe ha.ne', EReal.coe_add, EReal.coe_mul, coe_sum]
    simp only [hz, EReal.coe_mul]
  refine isR_rsqrt ?_ h
  have : 0 ≤ ∑ x, z x * z x := Finset.sum_nonneg fun x _ => mul_self_nonneg _
  positivity

/-! The constants are positive real numbers. -/

theorem const_512 : ∃ r : ℝ, 0 < r ∧ Ideal.ofBits .f32 0x44000000#32 = (r : EReal) := by
  refine ⟨_, ?_, by simp [Ideal.ofBits, Ideal.ieee]; rfl⟩
  norm_num

theorem const_1024 : ∃ r : ℝ, 0 < r ∧ Ideal.ofBits .f32 0x44800000#32 = (r : EReal) := by
  refine ⟨_, ?_, by simp [Ideal.ofBits, Ideal.ieee]; rfl⟩
  norm_num

theorem const_eps6 : ∃ r : ℝ, 0 < r ∧ Ideal.ofBits .f32 0x358637BD#32 = (r : EReal) := by
  refine ⟨_, ?_, by simp [Ideal.ofBits, Ideal.ieee]; rfl⟩
  norm_num

theorem const_eps5 : ∃ r : ℝ, 0 < r ∧ Ideal.ofBits .f32 0x3727C5AC#32 = (r : EReal) := by
  refine ⟨_, ?_, by simp [Ideal.ofBits, Ideal.ieee]; rfl⟩
  norm_num

theorem const_alpha : ∃ r : ℝ, 0 < r ∧ Ideal.ofBits .f32 0x3F9837F0#32 = (r : EReal) := by
  refine ⟨_, ?_, by simp [Ideal.ofBits, Ideal.ieee]; rfl⟩
  norm_num

theorem const_sixteenth : ∃ r : ℝ, 0 < r ∧ Ideal.ofBits .f32 0x3D800000#32 = (r : EReal) := by
  refine ⟨_, ?_, by simp [Ideal.ofBits, Ideal.ieee]; rfl⟩
  norm_num

/-! ## Rows with an infinite entry

The squares of such a row sum to `⊤`, whose reciprocal root is zero, so that its norm forgets the row. -/

theorem IsR.of_add {x y : EReal} (h : IsR (x + y)) : IsR x := by
  induction x with
  | bot => obtain ⟨r, hr⟩ := h; simp at hr
  | top =>
    obtain ⟨r, hr⟩ := h
    induction y with
    | bot => simp at hr
    | top => simp at hr
    | coe y => simp at hr
  | coe x => exact IsR.coe x

theorem IsR.of_sub {x y : EReal} (h : IsR (x - y)) : IsR x := by
  rw [sub_eq_add_neg] at h
  exact IsR.of_add h

theorem IsR.of_mul_pos {a x : EReal} {r : ℝ} (hr : 0 < r) (ha : a = (r : EReal)) (h : IsR (a * x)) : IsR x := by
  subst ha
  obtain ⟨z, hz⟩ := h
  induction x with
  | bot => rw [EReal.coe_mul_bot_of_pos hr] at hz; exact absurd hz (by simp)
  | top => rw [EReal.coe_mul_top_of_pos hr] at hz; exact absurd hz (by simp)
  | coe x => exact IsR.coe x

theorem square_nonneg (x : EReal) : 0 ≤ x * x := by
  induction x with
  | bot => simp
  | top => simp
  | coe x => rw [← EReal.coe_mul]; exact_mod_cast mul_self_nonneg x

theorem scale_zero {N : Nat} {y : Fin N → EReal} {i : Fin N} (hy : ¬ IsR (y i)) {n e : EReal} {a b : ℝ} (ha : 0 < a) (hn : n = (a : EReal))
    (he : e = (b : EReal)) : Ideal.rsqrt (Ideal.div (∑ x, y x * y x) n + e) = 0 := by
  have h1 : y i * y i = ⊤ := by
    generalize y i = z at hy
    induction z with
    | bot => simp
    | top => simp
    | coe z => exact absurd (IsR.coe z) hy
  have h2 : ∑ x, y x * y x = ⊤ :=
    top_le_iff.mp (h1 ▸ Finset.single_le_sum (f := fun x => y x * y x) (fun x _ => square_nonneg _) (Finset.mem_univ i))
  rw [h2, hn, he, Ideal.div_coe ha.ne', EReal.top_mul_coe_of_pos (by positivity), EReal.top_add_coe]
  rfl

/-- The layer norm of a row with an infinite entry is its offset. -/
theorem lnorm_flat {y : Fin 1024 → EReal} {i : Fin 1024} (hy : ¬ IsR (y i)) (g b : Fin 1024 → EReal) (e : Fin 1024) : lnorm y g b e = b e := by
  obtain ⟨a, ha, ea⟩ := const_1024
  obtain ⟨c, -, ec⟩ := const_eps5
  have h := scale_zero (y := dev y) (fun h : IsR (dev y i) => hy (IsR.of_sub h)) ha ea ec
  unfold lnorm
  rw [show mean (fun x => dev y x * dev y x) = Ideal.div (∑ x, dev y x * dev y x) (Ideal.ofBits .f32 0x44800000#32) from rfl, h, mul_zero, zero_mul, zero_add]

end Cert.MixRow
-- ==== Proof.MixKernel.lean ====
/-
  The mixing kernel's payloads at an entry: the mixed patterns, the two normed rows through the output projection, the first layer norm and
  the scaled query, one head's attention to the memory, the heads through the last projection, and the closing layer norm.
-/
module

public import proofs.«01_k».proof.Proof.MixRow
public import proofs.«01_k».proof.Proof.Gen.MixIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.At

open Cert.MixIdeal Cert.MixIdeal.Gen Cert.Norm Cert.MixRow Cert.Flash

/-- The word of minus infinity is the bottom. -/
theorem ofBits_bot : Ideal.ofBits .f32 0xFF800000#32 = (⊥ : EReal) := by
  simp [Ideal.ofBits, Ideal.ieee]

/-! ## The patterns and the output projection -/

theorem pay2_at (l1 l2 l3 : FVec Ideal S1x512x512 .f32) (o1 o2 o3 : FVec Ideal S1x512x512 .bf16) (r j : Fin 512)
    (h1 : IsR (l1 (ix3 0 r j))) (h2 : IsR (l2 (ix3 0 r j))) (h3 : IsR (l3 (ix3 0 r j))) :
    k0_pay2 (F := Ideal) l1 l2 l3 o1 o2 o3 (ix2 r j)
      = soft ![l1 (ix3 0 r j), l2 (ix3 0 r j), l3 (ix3 0 r j)] ![o1 (ix3 0 r j), o2 (ix3 0 r j), o3 (ix3 0 r j)] := by
  rw [← soft_three h1 h2 h3]
  pointwise [k0_pay2]

/-- A row's sum of squares, as a column. -/
def squares (y : FVec Ideal S512x512 .f32) : FVec Ideal S512x1 .f32 :=
  shapeCast S512x1 (multiReduction .add [1] S512 (mulf y y) 0x00000000#32 reduces_S512x512_S512 (.inl rfl) rfl) shapeCasts_S512_S512x1

theorem pay4_eq (l1 l2 l3 : FVec Ideal S1x512x512 .f32) (o1 o2 o3 : FVec Ideal S1x512x512 .bf16) :
    k0_pay4 (F := Ideal) l1 l2 l3 o1 o2 o3 = squares (k0_pay2 l1 l2 l3 o1 o2 o3) := rfl

theorem pay5_at (y : FVec Ideal S512x512 .f32) (ga gb : FVec Ideal S1x512 .f32) (ob : FVec Ideal S1x512x512 .bf16) (wa wb : FVec Ideal S512x1024 .bf16)
    (x : FVec Ideal S1x512x1024 .f32) (r : Fin 512) (e : Fin 1024) :
    k0_pay5 (F := Ideal) y (k0_pay3 ga) (squares y) (Scalar.ofBits .f32 0x44000000#32) ob gb wa wb x (ix2 r e)
      = Ideal.ofBits .f32 0x3F9837F0#32 * x (ix3 0 r e)
        + (∑ j : Fin 512, rms (fun j => y (ix2 r j)) (fun j => ga (ix2 0 j)) j * wa (ix2 j e)
          + ∑ j : Fin 512, rms (fun j => ob (ix3 0 r j)) (fun j => gb (ix2 0 j)) j * wb (ix2 j e)) := by
  pointwise [k0_pay5, k0_pay3, squares]
  rfl

/-! ## The first layer norm and the query -/

theorem pay6_at (z : FVec Ideal S512x1024 .f32) (g b : FVec Ideal S1x1024 .f32) (r : Fin 512) (e : Fin 1024) :
    k0_pay6 (F := Ideal) z g b (ix2 r e) = lnorm (fun e => z (ix2 r e)) (fun e => g (ix2 0 e)) (fun e => b (ix2 0 e)) e := by
  pointwise [k0_pay6]
  rfl

/-- The product with the query weights, scaled. -/
def queries (y : FVec Ideal S512x1024 .f32) (w : FVec Ideal S1024x1024 .bf16) : FVec Ideal S512x1024 .bf16 :=
  truncf .bf16 (mulf (matmul dot_S512x1024_S1024x1024_S512x1024_1_0_0_1_n_n none (truncf .bf16 y bitsLt_bf16_f32 : FVec Ideal S512x1024 .bf16)
    (shapeCast S1024x1024 w shapeCasts_S1024x1024_S1024x1024) (constant S512x1024 .f32 0x00000000#32)) (broadcast S512x1024 (Scalar.ofBits .f32 0x3D800000#32)))
    bitsLt_bf16_f32

theorem pay7_eq (z : FVec Ideal S512x1024 .f32) (g b : FVec Ideal S1x1024 .f32) (w : FVec Ideal S1024x1024 .bf16) :
    k0_pay7 (F := Ideal) z g b w = queries (k0_pay6 z g b) w := rfl

theorem queries_at (y : FVec Ideal S512x1024 .f32) (w : FVec Ideal S1024x1024 .bf16) (r : Fin 512) (e : Fin 1024) :
    queries y w (ix2 r e) = (∑ d : Fin 1024, y (ix2 r d) * w (ix2 d e)) * Ideal.ofBits .f32 0x3D800000#32 := by
  pointwise [queries]

/-! ## One head -/

/-- The scores of a head's queries against its memory rows. -/
def scores (q : FVec Ideal S512x256 .bf16) (k : FVec Ideal S1x256x256 .bf16) : FVec Ideal S512x256 .f32 :=
  matmul dot_S512x256_S256x256_S512x256_1_1_0_0_n_n none q (shapeCast S256x256 k shapeCasts_S1x256x256_S256x256) (constant S512x256 .f32 0x00000000#32)

/-- The exponentials of the scores against each row's largest. -/
def expo (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- The values weighted by them, over their sums. -/
def weigh (p : FVec Ideal S512x256 .f32) (v : FVec Ideal S1x256x256 .bf16) : FVec Ideal S512x256 .bf16 :=
  truncf .bf16 (divf (matmul dot_S512x256_S256x256_S512x256_1_0_0_1_n_n none (truncf .bf16 p bitsLt_bf16_f32 : FVec Ideal S512x256 .bf16)
      (shapeCast S256x256 v shapeCasts_S1x256x256_S256x256) (constant S512x256 .f32 0x00000000#32))
    (broadcastTo S512x256 (shapeCast S512x1 (multiReduction .add [1] S512 p 0x00000000#32 reduces_S512x256_S512 (.inl rfl) rfl) shapeCasts_S512_S512x1)
      broadcasts_S512x1_S512x256)) bitsLt_bf16_f32

def attend (q : FVec Ideal S512x256 .bf16) (k v : FVec Ideal S1x256x256 .bf16) : FVec Ideal S512x256 .bf16 := weigh (expo (scores q k)) v

theorem scores_at (q : FVec Ideal S512x256 .bf16) (k : FVec Ideal S1x256x256 .bf16) (r : Fin 512) (i : Fin 256) :
    scores q k (ix2 r i) = ∑ d : Fin 256, q (ix2 r d) * k (ix3 0 i d) := by
  pointwise [scores]

theorem expo_at (s : FVec Ideal S512x256 .f32) (r : Fin 512) (i : Fin 256) :
    expo s (ix2 r i) = Ideal.exp (s (ix2 r i) - Finset.univ.sup fun j : Fin 256 => s (ix2 r j)) := by
  rw [← fold_max_bot, ← ofBits_bot]
  pointwise [expo]

theorem weigh_at (p : FVec Ideal S512x256 .f32) (v : FVec Ideal S1x256x256 .bf16) (r : Fin 512) (l : Fin 256) :
    weigh p v (ix2 r l) = Ideal.div (∑ i : Fin 256, p (ix2 r i) * v (ix3 0 i l)) (∑ i : Fin 256, p (ix2 r i)) := by
  pointwise [weigh]

/-- A head whose scores are real is the softmax-weighted sum of its values. -/
theorem attend_at (q : FVec Ideal S512x256 .bf16) (k v : FVec Ideal S1x256x256 .bf16) (r : Fin 512) (l : Fin 256) {s w : Fin 256 → EReal}
    (hs : ∀ i, ∑ d : Fin 256, q (ix2 r d) * k (ix3 0 i d) = s i) (hr : ∀ i, IsR (s i)) (hw : ∀ i, v (ix3 0 i l) = w i) :
    attend q k v (ix2 r l) = soft s w := by
  have h1 : ∀ i, scores q k (ix2 r i) = s i := fun i => (scores_at q k r i).trans (hs i)
  have h2 : ∀ i, expo (scores q k) (ix2 r i) = Ideal.exp (s i - Finset.univ.sup s) := fun i =>
    (expo_at _ r i).trans (congrArg₂ (fun a b => Ideal.exp (a - b)) (h1 i) (congrArg _ (funext h1)))
  refine (weigh_at _ v r l).trans (Eq.trans ?_ (soft_eq hr w))
  exact congrArg₂ Ideal.div (Finset.sum_congr rfl fun i _ => congrArg₂ (· * ·) (h2 i) (hw i)) (Finset.sum_congr rfl fun i _ => h2 i)

theorem head0_eq (z : FVec Ideal S512x1024 .f32) (g b : FVec Ideal S1x1024 .f32) (w : FVec Ideal S1024x1024 .bf16) (k v : FVec Ideal S1x256x256 .bf16) :
    k0_pay10 (F := Ideal) (k0_pay8 z g b w k) (k0_pay9 z g b w k) v
      = attend (extractStridedSlice S512x256 ![0, 0] (k0_pay7 z g b w) slices_S512x1024_o0_0_S512x256) k v := rfl

theorem head1_eq (q : FVec Ideal S512x1024 .bf16) (k v : FVec Ideal S1x256x256 .bf16) :
    k0_pay11 (F := Ideal) q k v = attend (extractStridedSlice S512x256 ![0, 256] q slices_S512x1024_o0_256_S512x256) k v := rfl

/-! ## The last projection and layer norm -/

/-- The four heads side by side through the projection, on the scaled row. -/
def joined (y : FVec Ideal S512x1024 .f32) (h0 h1 h2 h3 : FVec Ideal S512x256 .bf16) (w : FVec Ideal S1024x1024 .bf16) : FVec Ideal S512x1024 .f32 :=
  addf (mulf (broadcast S512x1024 (Scalar.ofBits .f32 0x3F9837F0#32)) y)
    (matmul dot_S512x1024_S1024x1024_S512x1024_1_0_0_1_n_n none
      (concatenate S512x1024 1 [⟨S512x256, h0⟩, ⟨S512x256, h1⟩, ⟨S512x256, h2⟩, ⟨S512x256, h3⟩]
        concatenates_S512x256_S512x256_S512x256_S512x256_S512x1024_d1 : FVec Ideal S512x1024 .bf16)
      (shapeCast S1024x1024 w shapeCasts_S1024x1024_S1024x1024) (constant S512x1024 .f32 0x00000000#32))

theorem pay15_eq (y : FVec Ideal S512x1024 .f32) (q : FVec Ideal S512x1024 .bf16) (h0 h1 : FVec Ideal S512x256 .bf16) (k2 v2 k3 v3 : FVec Ideal S1x256x256 .bf16)
    (w : FVec Ideal S1024x1024 .bf16) :
    k0_pay15 (F := Ideal) y q h0 h1 (k0_pay13 q k2) (k0_pay14 q k2) v2 k3 v3 w
      = joined y h0 h1 (attend (extractStridedSlice S512x256 ![0, 512] q slices_S512x1024_o0_512_S512x256) k2 v2)
          (attend (extractStridedSlice S512x256 ![0, 768] q slices_S512x1024_o0_768_S512x256) k3 v3) w := rfl

theorem joined_apply (y : FVec Ideal S512x1024 .f32) (h0 h1 h2 h3 : FVec Ideal S512x256 .bf16) (w : FVec Ideal S1024x1024 .bf16) (r : Fin 512)
    (e : Fin 1024) :
    joined y h0 h1 h2 h3 w (ix2 r e) = Ideal.ofBits .f32 0x3F9837F0#32 * y (ix2 r e)
      + ∑ j : Fin 1024, (if h : j.val < 256 then h0 (ix2 r ⟨j.val, h⟩)
          else if h : j.val - 256 < 256 then h1 (ix2 r ⟨j.val - 256, h⟩)
          else if h : j.val - 256 - 256 < 256 then h2 (ix2 r ⟨j.val - 256 - 256, h⟩)
          else h3 (ix2 r ⟨j.val - 256 - 256 - 256, by omega⟩)) * w (ix2 j e) := by
  pointwise [joined]

theorem joined_at (y : FVec Ideal S512x1024 .f32) (h0 h1 h2 h3 : FVec Ideal S512x256 .bf16) (w : FVec Ideal S1024x1024 .bf16) (r : Fin 512) (e : Fin 1024)
    {H : Fin 4 → Fin 256 → EReal} (e0 : ∀ l, h0 (ix2 r l) = H 0 l) (e1 : ∀ l, h1 (ix2 r l) = H 1 l) (e2 : ∀ l, h2 (ix2 r l) = H 2 l)
    (e3 : ∀ l, h3 (ix2 r l) = H 3 l) :
    joined y h0 h1 h2 h3 w (ix2 r e) = Ideal.ofBits .f32 0x3F9837F0#32 * y (ix2 r e)
      + ∑ j : Fin 1024, H ⟨j.val / 256, by omega⟩ ⟨j.val % 256, by omega⟩ * w (ix2 j e) := by
  refine (joined_apply y h0 h1 h2 h3 w r e).trans (congrArg _ (Finset.sum_congr rfl fun j _ => congrArg (· * _) ?_))
  have hj := j.isLt
  by_cases c0 : j.val < 256
  · exact (dif_pos c0).trans ((e0 _).trans (congrArg₂ H (Fin.ext (by show 0 = j.val / 256; omega)) (Fin.ext (by show j.val = j.val % 256; omega))))
  refine (dif_neg c0).trans ?_
  by_cases c1 : j.val - 256 < 256
  · exact (dif_pos c1).trans ((e1 _).trans (congrArg₂ H (Fin.ext (by show 1 = j.val / 256; omega))
      (Fin.ext (by show j.val - 256 = j.val % 256; omega))))
  refine (dif_neg c1).trans ?_
  by_cases c2 : j.val - 256 - 256 < 256
  · exact (dif_pos c2).trans ((e2 _).trans (congrArg₂ H (Fin.ext (by show 2 = j.val / 256; omega))
      (Fin.ext (by show j.val - 256 - 256 = j.val % 256; omega))))
  exact (dif_neg c2).trans ((e3 _).trans (congrArg₂ H (Fin.ext (by show 3 = j.val / 256; omega))
    (Fin.ext (by show j.val - 256 - 256 - 256 = j.val % 256; omega))))

/-- A row's mean, as a column. -/
def means (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

theorem pay18_eq (y : FVec Ideal S512x1024 .f32) (q : FVec Ideal S512x1024 .bf16) (h0 h1 : FVec Ideal S512x256 .bf16) (d : FVec Ideal S512x1 .f32)
    (p : FVec Ideal S512x256 .bf16) (v2 k3 v3 : FVec Ideal S1x256x256 .bf16) (w : FVec Ideal S1024x1024 .bf16) :
    k0_pay18 (F := Ideal) y q h0 h1 d p v2 k3 v3 w = means (k0_pay15 y q h0 h1 d p v2 k3 v3 w) := rfl

theorem pay1_at (z : FVec Ideal S512x1024 .f32) (g b : FVec Ideal S1x1024 .f32) (r : Fin 512) (e : Fin 1024) :
    k0_pay1 (F := Ideal) z (k0_pay16 g) (k0_pay17 b) (means z) (ix3 0 r e)
      = lnorm (fun e => z (ix2 r e)) (fun e => g (ix2 0 e)) (fun e => b (ix2 0 e)) e := by
  pointwise [k0_pay1, k0_pay16, k0_pay17, means]
  rfl

end Cert.MixIdeal.At
-- ==== Proof.MixRef.lean ====
/-
  The reference mixing layer, entry by entry: the three patterns weighted by the softmax of their log-sum-exps, the two norms, the output
  projection with the scaled residual and its layer norm, the four heads' attention to the memory, and the closing layer norm.
-/
module

public import proofs.«01_k».proof.Proof.MixRow
public import proofs.«01_k».proof.Proof.Gen.MixRefIdeal.Read
public import Idealize.ShloMosaic.Lib.Pipeline.ValueKit

@[expose] public section

set_option maxRecDepth 16384

noncomputable section

open Idealize.ShloMosaic Idealize.ShloMosaic.TcCoe Idealize.SL.Sem

namespace Cert.MixRefIdeal.At

open Cert.MixRefIdeal Cert.MixRefIdeal.Gen Cert.MixRefIdeal.Read Cert.Norm Cert.MixRow

variable (x : FVec Ideal S8x8192x1024 .f32) (o1 o2 o3 : FVec Ideal S8x8192x8x64 .f32) (l1 l2 l3 : FVec Ideal S8x8192x8 .f32)
  (ob : FVec Ideal S8x8192x512 .f32) (k v : FVec Ideal S8x256x1024 .f32) (ga gb : FVec Ideal S512 .f32) (wo : FVec Ideal S1024x1024 .f32)
  (g1 b1 : FVec Ideal S1024 .f32) (wq wco : FVec Ideal S1024x1024 .f32) (g2 b2 : FVec Ideal S1024 .f32)

/-- The three patterns' log-sum-exps, and their outputs, at one entry. -/
def lse (n : Fin 8) (s : Fin 8192) (h : Fin 8) : Fin 3 → EReal := ![l1 (ix3 n s h), l2 (ix3 n s h), l3 (ix3 n s h)]
def outs (n : Fin 8) (s : Fin 8192) (h : Fin 8) (e : Fin 64) : Fin 3 → EReal := ![o1 (ix4 n s h e), o2 (ix4 n s h e), o3 (ix4 n s h e)]

/-- The mixed patterns at a joined lane. -/
def mixed (n : Fin 8) (s : Fin 8192) (j : Fin 512) : EReal :=
  soft (lse l1 l2 l3 n s ⟨j.val / 64, by omega⟩) (outs o1 o2 o3 n s ⟨j.val / 64, by omega⟩ ⟨j.val % 64, by omega⟩)

/-- The normed patterns and the normed grouped attention through the output projection, on the scaled input. -/
def proj (n : Fin 8) (s : Fin 8192) (e : Fin 1024) : EReal :=
  Ideal.ofBits .f32 0x3F9837F0#32 * x (ix3 n s e)
    + (∑ j : Fin 512, rms (mixed o1 o2 o3 l1 l2 l3 n s) (fun j => ga (ix1 j)) j * wo (ix2 ⟨j.val, by omega⟩ e)
      + ∑ j : Fin 512, rms (fun j => ob (ix3 n s j)) (fun j => gb (ix1 j)) j * wo (ix2 ⟨512 + j.val, by omega⟩ e))

/-- The row after the first layer norm. -/
def x1 (n : Fin 8) (s : Fin 8192) (e : Fin 1024) : EReal :=
  lnorm (proj x o1 o2 o3 l1 l2 l3 ob ga gb wo n s) (fun e => g1 (ix1 e)) (fun e => b1 (ix1 e)) e

/-- The query, the scaled score against a memory row, and a head's output. -/
def query (n : Fin 8) (s : Fin 8192) (e : Fin 1024) : EReal := ∑ d : Fin 1024, x1 x o1 o2 o3 l1 l2 l3 ob ga gb wo g1 b1 n s d * wq (ix2 d e)

def score (n : Fin 8) (h : Fin 4) (s : Fin 8192) (r : Fin 256) : EReal :=
  (∑ e : Fin 256, query x o1 o2 o3 l1 l2 l3 ob ga gb wo g1 b1 wq n s ⟨h.val * 256 + e.val, by omega⟩ * k (ix3 n r ⟨h.val * 256 + e.val, by omega⟩))
    * Ideal.ofBits .f32 0x3D800000#32

def head (n : Fin 8) (s : Fin 8192) (h : Fin 4) (e : Fin 256) : EReal :=
  soft (score x o1 o2 o3 l1 l2 l3 ob k ga gb wo g1 b1 wq n h s) (fun r => v (ix3 n r ⟨h.val * 256 + e.val, by omega⟩))

/-- The heads through the memory's output projection, on the scaled row. -/
def cross (n : Fin 8) (s : Fin 8192) (e : Fin 1024) : EReal :=
  Ideal.ofBits .f32 0x3F9837F0#32 * x1 x o1 o2 o3 l1 l2 l3 ob ga gb wo g1 b1 n s e
    + ∑ j : Fin 1024, head x o1 o2 o3 l1 l2 l3 ob k v ga gb wo g1 b1 wq n s ⟨j.val / 256, by omega⟩ ⟨j.val % 256, by omega⟩ * wco (ix2 j e)

/-- The word of minus infinity is the bottom. -/
theorem ofBits_bot : Ideal.ofBits .f32 0xFF800000#32 = (⊥ : EReal) := by
  simp [Ideal.ofBits, Ideal.ieee]

theorem v3_at (p : Fin 3) (n : Fin 8) (s : Fin 8192) (h : Fin 8) : val_main_v3 (F := Ideal) l1 l2 l3 (ix4 p n s h) = lse l1 l2 l3 n s h p := by
  fin_cases p <;> pointwise [val_main_v3, val_main_v2, val_main_v1, val_main_v0] <;> rfl

theorem v4_at (n : Fin 8) (s : Fin 8192) (h : Fin 8) : val_main_v4 (F := Ideal) l1 l2 l3 (ix3 n s h) = Finset.univ.sup (lse l1 l2 l3 n s h) := by
  have hy := v3_at l1 l2 l3
  unfold val_main_v4
  generalize val_main_v3 (F := Ideal) l1 l2 l3 = y at hy ⊢
  rw [← Flash.fold_max_bot, ← ofBits_bot]
  pointwise [val_main_cst, hy]

theorem v6_at (n : Fin 8) (s : Fin 8192) (h : Fin 8) : val_main_v6 (F := Ideal) l1 l2 l3 (ix3 n s h) = Finset.univ.sup (lse l1 l2 l3 n s h) := by
  rw [val_main_v6_apply, val_main_v5_apply, val_main_cst_0_apply, v4_at l1 l2 l3 n s h]
  exact (congrArg (max · _) ofBits_bot).trans (max_eq_right bot_le)

theorem v10_at (p : Fin 3) (n : Fin 8) (s : Fin 8192) (h : Fin 8) :
    val_main_v10 (F := Ideal) l1 l2 l3 (ix4 p n s h) = Ideal.exp (lse l1 l2 l3 n s h p - Finset.univ.sup (lse l1 l2 l3 n s h)) := by
  have hM : val_main_v8 (F := Ideal) l1 l2 l3 (ix4 p n s h) = Finset.univ.sup (lse l1 l2 l3 n s h) := by
    rw [val_main_v8_apply, val_main_v7_apply]
    exact (congrArg (val_main_v6 (F := Ideal) l1 l2 l3) (eq_ix3 _)).trans (v6_at l1 l2 l3 n s h)
  rw [val_main_v10_apply, val_main_v9_apply, v3_at, hM]
  rfl

theorem v14_at (p : Fin 3) (n : Fin 8) (s : Fin 8192) (h : Fin 8) :
    val_main_v14 (F := Ideal) l1 l2 l3 (ix4 p n s h) = Ideal.div (Ideal.exp (lse l1 l2 l3 n s h p - Finset.univ.sup (lse l1 l2 l3 n s h)))
      (∑ q, Ideal.exp (lse l1 l2 l3 n s h q - Finset.univ.sup (lse l1 l2 l3 n s h))) := by
  have hy := v10_at l1 l2 l3
  unfold val_main_v14 val_main_v13 val_main_v12 val_main_v11
  generalize val_main_v10 (F := Ideal) l1 l2 l3 = y at hy ⊢
  pointwise [val_main_cst_1]
  simp only [hy]

theorem v18_at (p : Fin 3) (n : Fin 8) (s : Fin 8192) (h : Fin 8) (e : Fin 64) :
    val_main_v18 (F := Ideal) o1 o2 o3 (ix5 p n s h e) = outs o1 o2 o3 n s h e p := by
  fin_cases p <;> pointwise [val_main_v18, val_main_v17, val_main_v16, val_main_v15] <;> rfl

theorem v20_at (n : Fin 8) (s : Fin 8192) (j : Fin 512) : val_main_v20 (F := Ideal) o1 o2 o3 l1 l2 l3 (ix3 n s j) = mixed o1 o2 o3 l1 l2 l3 n s j := by
  have hy := v14_at l1 l2 l3
  have hz := v18_at o1 o2 o3
  unfold val_main_v20 val_main_v19
  generalize val_main_v14 (F := Ideal) l1 l2 l3 = y at hy ⊢
  generalize val_main_v18 (F := Ideal) o1 o2 o3 = z at hz ⊢
  pointwise
  simp only [hy, hz]
  rfl

theorem v46_at (n : Fin 8) (s : Fin 8192) (j : Fin 512) : val_main_v46 (F := Ideal) ob gb (ix3 n s j)
    = rms (fun j => ob (ix3 n s j)) (fun j => gb (ix1 j)) j := by
  pointwise [val_main_v46, val_main_v43, val_main_v42, val_main_v41, val_main_v40, val_main_v38, val_main_v36, val_main_v35, val_main_v34, val_main_cst_5, val_main_v37,
    val_main_cst_6, val_main_v39, val_main_cst_7, val_main_v45, val_main_v44]
  rfl

/-- The patterns' norm is the grouped attention's norm on another row. -/
theorem v33_at (n : Fin 8) (s : Fin 8192) (j : Fin 512) : val_main_v33 (F := Ideal) o1 o2 o3 l1 l2 l3 ga (ix3 n s j)
    = rms (mixed o1 o2 o3 l1 l2 l3 n s) (fun j => ga (ix1 j)) j := by
  have h : val_main_v33 (F := Ideal) o1 o2 o3 l1 l2 l3 ga = val_main_v46 (val_main_v20 (F := Ideal) o1 o2 o3 l1 l2 l3) ga := rfl
  rw [h, v46_at]
  exact congrArg (fun y => rms y _ j) (funext fun i => v20_at o1 o2 o3 l1 l2 l3 n s i)

theorem v48_at (n : Fin 8) (s : Fin 8192) (e : Fin 1024) : val_main_v48 (F := Ideal) o1 o2 o3 l1 l2 l3 ob ga gb wo (ix3 n s e)
    = ∑ j : Fin 512, rms (mixed o1 o2 o3 l1 l2 l3 n s) (fun j => ga (ix1 j)) j * wo (ix2 ⟨j.val, by omega⟩ e)
      + ∑ j : Fin 512, rms (fun j => ob (ix3 n s j)) (fun j => gb (ix1 j)) j * wo (ix2 ⟨512 + j.val, by omega⟩ e) := by
  have hy := v33_at o1 o2 o3 l1 l2 l3 ga
  have hz := v46_at ob gb
  unfold val_main_v48 val_main_v47
  generalize val_main_v33 (F := Ideal) o1 o2 o3 l1 l2 l3 ga = y at hy ⊢
  generalize val_main_v46 (F := Ideal) ob gb = z at hz ⊢
  pointwise
  simp only [hy, hz]

end Cert.MixRefIdeal.At
-- ==== Proof.MixRefScore.lean ====
/-
  The reference mixing layer's first layer norm and its scaled scores against the memory, entry by entry.
-/
module

public import proofs.«01_k».proof.Proof.MixRef
public import proofs.«01_k».proof.Proof.Gen.MixRefIdeal.Read
public import Idealize.ShloMosaic.Lib.Pipeline.ValueKit

@[expose] public section

set_option maxRecDepth 16384

noncomputable section

open Idealize.ShloMosaic Idealize.ShloMosaic.TcCoe Idealize.SL.Sem

namespace Cert.MixRefIdeal.At

open Cert.MixRefIdeal Cert.MixRefIdeal.Gen Cert.MixRefIdeal.Read Cert.Norm Cert.MixRow

variable (x : FVec Ideal S8x8192x1024 .f32) (o1 o2 o3 : FVec Ideal S8x8192x8x64 .f32) (l1 l2 l3 : FVec Ideal S8x8192x8 .f32)
  (ob : FVec Ideal S8x8192x512 .f32) (k v : FVec Ideal S8x256x1024 .f32) (ga gb : FVec Ideal S512 .f32) (wo : FVec Ideal S1024x1024 .f32)
  (g1 b1 : FVec Ideal S1024 .f32) (wq wco : FVec Ideal S1024x1024 .f32) (g2 b2 : FVec Ideal S1024 .f32)

theorem v75_at (n : Fin 8) (s : Fin 8192) (e : Fin 1024) : val_main_v75 (F := Ideal) x o1 o2 o3 l1 l2 l3 ob ga gb wo g1 b1 (ix3 n s e)
    = x1 x o1 o2 o3 l1 l2 l3 ob ga gb wo g1 b1 n s e := by
  have hw : ∀ n s e, val_main_v51 (F := Ideal) x o1 o2 o3 l1 l2 l3 ob ga gb wo (ix3 n s e) = proj x o1 o2 o3 l1 l2 l3 ob ga gb wo n s e := by
    intro n s e
    have hy := v48_at o1 o2 o3 l1 l2 l3 ob ga gb wo
    unfold val_main_v51
    generalize val_main_v48 (F := Ideal) o1 o2 o3 l1 l2 l3 ob ga gb wo = y at hy ⊢
    pointwise [val_main_v50, val_main_v49, val_main_cst_8]
    rw [hy]
    rfl
  unfold val_main_v75 val_main_v72 val_main_v69 val_main_v68 val_main_v67 val_main_v66 val_main_v64 val_main_v63 val_main_v62 val_main_v60 val_main_v59 val_main_v58 val_main_v57 val_main_v56 val_main_v55 val_main_v53 val_main_v52
  unfold x1
  generalize val_main_v51 (F := Ideal) x o1 o2 o3 l1 l2 l3 ob ga gb wo = y at hw ⊢
  generalize proj x o1 o2 o3 l1 l2 l3 ob ga gb wo = w at hw ⊢
  pointwise [val_main_v74, val_main_v73, val_main_v71, val_main_v70, val_main_v65, val_main_cst_13, val_main_v61, val_main_cst_12, val_main_cst_11, val_main_v54, val_main_cst_10, val_main_cst_9]
  simp only [hw]
  rfl

theorem v81_at (n : Fin 8) (h : Fin 4) (s : Fin 8192) (r : Fin 256) : val_main_v81 (F := Ideal) x o1 o2 o3 l1 l2 l3 ob k ga gb wo g1 b1 wq (ix4 n h s r)
    = score x o1 o2 o3 l1 l2 l3 ob k ga gb wo g1 b1 wq n h s r := by
  have hy := v75_at x o1 o2 o3 l1 l2 l3 ob ga gb wo g1 b1
  unfold val_main_v81 val_main_v79 val_main_v77 val_main_v76
  unfold score query
  generalize val_main_v75 (F := Ideal) x o1 o2 o3 l1 l2 l3 ob ga gb wo g1 b1 = y at hy ⊢
  generalize x1 x o1 o2 o3 l1 l2 l3 ob ga gb wo g1 b1 = w at hy ⊢
  pointwise [val_main_v80, val_main_cst_14, val_main_v78]
  simp only [hy]

end Cert.MixRefIdeal.At
-- ==== Proof.MixRefCross.lean ====
/-
  The reference mixing layer's attention to the memory and its result, entry by entry.
-/
module

public import proofs.«01_k».proof.Proof.MixRefScore
public import proofs.«01_k».proof.Proof.Gen.MixRefIdeal.Read
public import Idealize.ShloMosaic.Lib.Pipeline.ValueKit

@[expose] public section

set_option maxRecDepth 16384

noncomputable section

open Idealize.ShloMosaic Idealize.ShloMosaic.TcCoe Idealize.SL.Sem

namespace Cert.MixRefIdeal.At

open Cert.MixRefIdeal Cert.MixRefIdeal.Gen Cert.MixRefIdeal.Read Cert.Norm Cert.MixRow

variable (x : FVec Ideal S8x8192x1024 .f32) (o1 o2 o3 : FVec Ideal S8x8192x8x64 .f32) (l1 l2 l3 : FVec Ideal S8x8192x8 .f32)
  (ob : FVec Ideal S8x8192x512 .f32) (k v : FVec Ideal S8x256x1024 .f32) (ga gb : FVec Ideal S512 .f32) (wo : FVec Ideal S1024x1024 .f32)
  (g1 b1 : FVec Ideal S1024 .f32) (wq wco : FVec Ideal S1024x1024 .f32) (g2 b2 : FVec Ideal S1024 .f32)

theorem v82_at (n : Fin 8) (h : Fin 4) (s : Fin 8192) : val_main_v82 (F := Ideal) x o1 o2 o3 l1 l2 l3 ob k ga gb wo g1 b1 wq (ix3 n h s)
    = Finset.univ.sup (score x o1 o2 o3 l1 l2 l3 ob k ga gb wo g1 b1 wq n h s) := by
  have hy := v81_at x o1 o2 o3 l1 l2 l3 ob k ga gb wo g1 b1 wq
  unfold val_main_v82
  generalize val_main_v81 (F := Ideal) x o1 o2 o3 l1 l2 l3 ob k ga gb wo g1 b1 wq = y at hy ⊢
  rw [← Flash.fold_max_bot, ← ofBits_bot]
  pointwise [val_main_cst_15, hy]

theorem v84_at (n : Fin 8) (h : Fin 4) (s : Fin 8192) : val_main_v84 (F := Ideal) x o1 o2 o3 l1 l2 l3 ob k ga gb wo g1 b1 wq (ix3 n h s)
    = Finset.univ.sup (score x o1 o2 o3 l1 l2 l3 ob k ga gb wo g1 b1 wq n h s) := by
  rw [val_main_v84_apply, val_main_v83_apply, val_main_cst_16_apply, v82_at x o1 o2 o3 l1 l2 l3 ob k ga gb wo g1 b1 wq n h s]
  exact (congrArg (max · _) ofBits_bot).trans (max_eq_right bot_le)

theorem v88_at (n : Fin 8) (h : Fin 4) (s : Fin 8192) (r : Fin 256) : val_main_v88 (F := Ideal) x o1 o2 o3 l1 l2 l3 ob k ga gb wo g1 b1 wq (ix4 n h s r)
    = Ideal.exp (score x o1 o2 o3 l1 l2 l3 ob k ga gb wo g1 b1 wq n h s r - Finset.univ.sup (score x o1 o2 o3 l1 l2 l3 ob k ga gb wo g1 b1 wq n h s)) := by
  have hM : val_main_v86 (F := Ideal) x o1 o2 o3 l1 l2 l3 ob k ga gb wo g1 b1 wq (ix4 n h s r) = Finset.univ.sup (score x o1 o2 o3 l1 l2 l3 ob k ga gb wo g1 b1 wq n h s) := by
    rw [val_main_v86_apply, val_main_v85_apply]
    exact (congrArg (val_main_v84 (F := Ideal) x o1 o2 o3 l1 l2 l3 ob k ga gb wo g1 b1 wq) (eq_ix3 _)).trans (v84_at x o1 o2 o3 l1 l2 l3 ob k ga gb wo g1 b1 wq n h s)
  rw [val_main_v88_apply, val_main_v87_apply, v81_at, hM]
  rfl

theorem v96_at (n : Fin 8) (s : Fin 8192) (j : Fin 1024) : val_main_v96 (F := Ideal) x o1 o2 o3 l1 l2 l3 ob k v ga gb wo g1 b1 wq (ix3 n s j)
    = head x o1 o2 o3 l1 l2 l3 ob k v ga gb wo g1 b1 wq n s ⟨j.val / 256, by omega⟩ ⟨j.val % 256, by omega⟩ := by
  have hy := v88_at x o1 o2 o3 l1 l2 l3 ob k ga gb wo g1 b1 wq
  unfold head
  unfold val_main_v96 val_main_v95 val_main_v94 val_main_v92 val_main_v91 val_main_v90 val_main_v89
  generalize val_main_v88 (F := Ideal) x o1 o2 o3 l1 l2 l3 ob k ga gb wo g1 b1 wq = y at hy ⊢
  generalize score x o1 o2 o3 l1 l2 l3 ob k ga gb wo g1 b1 wq = w at hy ⊢
  pointwise [val_main_v93, val_main_cst_17]
  unfold soft
  refine Finset.sum_congr rfl fun r _ => ?_
  simp only [hy]
  rw [mul_comm]
  refine congrArg₂ (· * ·) rfl (congrArg (fun i => v (ix3 n r i)) (Fin.ext ?_))
  show j.val = j.val / 256 * 256 + j.val % 256
  omega

theorem v100_at (n : Fin 8) (s : Fin 8192) (e : Fin 1024) : val_main_v100 (F := Ideal) x o1 o2 o3 l1 l2 l3 ob k v ga gb wo g1 b1 wq wco (ix3 n s e)
    = cross x o1 o2 o3 l1 l2 l3 ob k v ga gb wo g1 b1 wq wco n s e := by
  have hy := v75_at x o1 o2 o3 l1 l2 l3 ob ga gb wo g1 b1
  have hz := v96_at x o1 o2 o3 l1 l2 l3 ob k v ga gb wo g1 b1 wq
  unfold cross
  unfold val_main_v100 val_main_v99 val_main_v98
  generalize val_main_v75 (F := Ideal) x o1 o2 o3 l1 l2 l3 ob ga gb wo g1 b1 = y at hy ⊢
  generalize val_main_v96 (F := Ideal) x o1 o2 o3 l1 l2 l3 ob k v ga gb wo g1 b1 wq = z at hz ⊢
  pointwise [val_main_v97, val_main_cst_18]
  simp only [hy, hz]

/-- The reference's result: the layer norm of the row with the memory's contribution. -/
theorem v124_at (n : Fin 8) (s : Fin 8192) (e : Fin 1024) : val_main_v124 (F := Ideal) x o1 o2 o3 l1 l2 l3 ob k v ga gb wo g1 b1 wq wco g2 b2 (ix3 n s e)
    = lnorm (cross x o1 o2 o3 l1 l2 l3 ob k v ga gb wo g1 b1 wq wco n s) (fun e => g2 (ix1 e)) (fun e => b2 (ix1 e)) e := by
  have hy := v100_at x o1 o2 o3 l1 l2 l3 ob k v ga gb wo g1 b1 wq wco
  unfold val_main_v124 val_main_v121 val_main_v118 val_main_v117 val_main_v116 val_main_v115 val_main_v113 val_main_v112 val_main_v111 val_main_v109 val_main_v108 val_main_v107 val_main_v106 val_main_v105 val_main_v104 val_main_v102 val_main_v101
  generalize val_main_v100 (F := Ideal) x o1 o2 o3 l1 l2 l3 ob k v ga gb wo g1 b1 wq wco = y at hy ⊢
  generalize cross x o1 o2 o3 l1 l2 l3 ob k v ga gb wo g1 b1 wq wco = w at hy ⊢
  pointwise [val_main_v123, val_main_v122, val_main_v120, val_main_v119, val_main_v114, val_main_cst_23, val_main_v110, val_main_cst_22, val_main_cst_21, val_main_v103, val_main_cst_20, val_main_cst_19]
  simp only [hy]
  rfl

end Cert.MixRefIdeal.At
-- ==== Proof.MixTile.lean ====
/-
  A row of the mixing kernel's tile from blocks that hold the reference's operands: each stage of the row is the reference's stage.
-/
module

public import proofs.«01_k».proof.Proof.MixKernel
public import proofs.«01_k».proof.Proof.MixRefCross

@[expose] public section

set_option maxRecDepth 16384

noncomputable section

open Idealize.ShloMosaic Idealize.ShloMosaic.TcCoe Idealize.SL.Sem
open Idealize.ShloMosaic.Pipeline (Dat)

namespace Cert.MixIdeal.At

open Cert.MixIdeal Cert.MixIdeal.Gen Cert.Norm Cert.MixRow Cert.Flash
open Cert.MixRefIdeal.At (mixed proj x1 query score head cross lse outs)

variable (x : FVec Ideal S8x8192x1024 .f32) (o1 o2 o3 : FVec Ideal S8x8192x8x64 .f32) (l1 l2 l3 : FVec Ideal S8x8192x8 .f32)
  (ob : FVec Ideal S8x8192x512 .f32) (k v : FVec Ideal S8x256x1024 .f32) (ga gb : FVec Ideal S512 .f32) (wo : FVec Ideal S1024x1024 .f32)
  (g1 b1 : FVec Ideal S1024 .f32) (wq wco : FVec Ideal S1024x1024 .f32) (g2 b2 : FVec Ideal S1024 .f32)

/-- Where a token's normalized row, the keys and the query weights are real, so are its scores. -/
theorem score_isR (hk : ∀ i, IsR (k i)) (hwq : ∀ i, IsR (wq i)) (n : Fin 8) (s : Fin 8192)
    (hr : ∀ e, IsR (x1 x o1 o2 o3 l1 l2 l3 ob ga gb wo g1 b1 n s e)) (h : Fin 4) (r : Fin 256) :
    IsR (score x o1 o2 o3 l1 l2 l3 ob k ga gb wo g1 b1 wq n h s r) := by
  obtain ⟨a, -, ea⟩ := const_sixteenth
  exact (IsR.sum _ fun e _ => (IsR.sum _ fun d _ => (hr d).mul (hwq _)).mul (hk _)).mul ⟨a, ea⟩

/-! ## The row up to the output projection -/

variable (n : Fin 8) (s : Fin 8192) (r : Fin 512)

theorem proj_at (x0 : FVec Ideal S1x512x1024 .f32) (x1 x2 x3 : FVec Ideal S1x512x512 .bf16) (x4 x5 x6 : FVec Ideal S1x512x512 .f32)
    (x7 : FVec Ideal S1x512x512 .bf16) (x8 x9 : FVec Ideal S1x512 .f32) (wa wb : FVec Ideal S512x1024 .bf16)
    (e1 : ∀ i, IsR (l1 i)) (e2 : ∀ i, IsR (l2 i)) (e3 : ∀ i, IsR (l3 i))
    (h0 : ∀ e, x0 (ix3 0 r e) = x (ix3 n s e))
    (h1 : ∀ j : Fin 512, x1 (ix3 0 r j) = o1 (ix4 n s ⟨j.val / 64, by omega⟩ ⟨j.val % 64, by omega⟩))
    (h2 : ∀ j : Fin 512, x2 (ix3 0 r j) = o2 (ix4 n s ⟨j.val / 64, by omega⟩ ⟨j.val % 64, by omega⟩))
    (h3 : ∀ j : Fin 512, x3 (ix3 0 r j) = o3 (ix4 n s ⟨j.val / 64, by omega⟩ ⟨j.val % 64, by omega⟩))
    (h4 : ∀ j : Fin 512, x4 (ix3 0 r j) = l1 (ix3 n s ⟨j.val / 64, by omega⟩))
    (h5 : ∀ j : Fin 512, x5 (ix3 0 r j) = l2 (ix3 n s ⟨j.val / 64, by omega⟩))
    (h6 : ∀ j : Fin 512, x6 (ix3 0 r j) = l3 (ix3 n s ⟨j.val / 64, by omega⟩))
    (h7 : ∀ j, x7 (ix3 0 r j) = ob (ix3 n s j)) (h8 : ∀ j, x8 (ix2 0 j) = ga (ix1 j)) (h9 : ∀ j, x9 (ix2 0 j) = gb (ix1 j))
    (ha : ∀ (j : Fin 512) (e : Fin 1024), wa (ix2 j e) = wo (ix2 ⟨j.val, by omega⟩ e))
    (hb : ∀ (j : Fin 512) (e : Fin 1024), wb (ix2 j e) = wo (ix2 ⟨512 + j.val, by omega⟩ e)) (e : Fin 1024) :
    k0_pay5 (F := Ideal) (k0_pay2 x4 x5 x6 x1 x2 x3) (k0_pay3 x8) (k0_pay4 x4 x5 x6 x1 x2 x3) (Scalar.ofBits .f32 0x44000000#32) x7 x9 wa wb x0 (ix2 r e)
      = proj x o1 o2 o3 l1 l2 l3 ob ga gb wo n s e := by
  have hy : (fun j => k0_pay2 (F := Ideal) x4 x5 x6 x1 x2 x3 (ix2 r j)) = mixed o1 o2 o3 l1 l2 l3 n s := funext fun j => by
    refine (pay2_at x4 x5 x6 x1 x2 x3 r j ?_ ?_ ?_).trans ?_
    · rw [h4]; exact e1 _
    · rw [h5]; exact e2 _
    · rw [h6]; exact e3 _
    · rw [h1, h2, h3, h4, h5, h6]
      rfl
  rw [pay4_eq]
  refine (pay5_at _ x8 x9 x7 wa wb x0 r e).trans ?_
  rw [hy, h0, funext h7, funext h8, funext h9]
  simp only [ha, hb]
  rfl

/-! ## The row from there on -/

section Rest

variable (z : FVec Ideal S512x1024 .f32) (x11 x12 : FVec Ideal S1x1024 .f32) (x13 : FVec Ideal S1024x1024 .bf16)
  (hz : ∀ e, z (ix2 r e) = proj x o1 o2 o3 l1 l2 l3 ob ga gb wo n s e) (h11 : ∀ e, x11 (ix2 0 e) = g1 (ix1 e)) (h12 : ∀ e, x12 (ix2 0 e) = b1 (ix1 e))
  (h13 : ∀ d e, x13 (ix2 d e) = wq (ix2 d e))

include hz h11 h12 in
theorem x1_at (e : Fin 1024) : k0_pay6 (F := Ideal) z x11 x12 (ix2 r e) = x1 x o1 o2 o3 l1 l2 l3 ob ga gb wo g1 b1 n s e := by
  refine (pay6_at z x11 x12 r e).trans ?_
  rw [funext hz, funext h11, funext h12]
  rfl

include hz h11 h12 h13 in
theorem query_at (e : Fin 1024) : k0_pay7 (F := Ideal) z x11 x12 x13 (ix2 r e)
    = query x o1 o2 o3 l1 l2 l3 ob ga gb wo g1 b1 wq n s e * Ideal.ofBits .f32 0x3D800000#32 := by
  rw [pay7_eq]
  exact (queries_at _ x13 r e).trans (congrArg (· * _) (Finset.sum_congr rfl fun d _ =>
    congrArg₂ (· * ·) (x1_at x o1 o2 o3 l1 l2 l3 ob ga gb wo g1 b1 n s r z x11 x12 hz h11 h12 d) (h13 d e)))

/-- One head from any queries `q` that are the scaled queries of its columns. -/
theorem head_at (h : Fin 4) (q : FVec Ideal S512x256 .bf16) (kb vb : FVec Ideal S1x256x256 .bf16)
    (hq : ∀ d : Fin 256, q (ix2 r d) = query x o1 o2 o3 l1 l2 l3 ob ga gb wo g1 b1 wq n s ⟨h.val * 256 + d.val, by omega⟩ * Ideal.ofBits .f32 0x3D800000#32)
    (hk : ∀ i d : Fin 256, kb (ix3 0 i d) = k (ix3 n i ⟨h.val * 256 + d.val, by omega⟩))
    (hv : ∀ i d : Fin 256, vb (ix3 0 i d) = v (ix3 n i ⟨h.val * 256 + d.val, by omega⟩))
    (hs : ∀ i, IsR (score x o1 o2 o3 l1 l2 l3 ob k ga gb wo g1 b1 wq n h s i)) (l : Fin 256) :
    attend q kb vb (ix2 r l) = head x o1 o2 o3 l1 l2 l3 ob k v ga gb wo g1 b1 wq n s h l := by
  refine attend_at q kb vb r l (fun i => ?_) hs fun i => hv i l
  obtain ⟨a, ha, ea⟩ := const_sixteenth
  unfold score
  rw [mul_comm _ (Ideal.ofBits .f32 0x3D800000#32), mul_sum_nonneg (by rw [ea]; exact_mod_cast ha.le) (by rw [ea]; exact EReal.coe_ne_top _)]
  refine Finset.sum_congr rfl fun d _ => ?_
  rw [hq, hk, mul_comm (query _ _ _ _ _ _ _ _ _ _ _ _ _ _ _ _ _) (Ideal.ofBits .f32 0x3D800000#32), mul_assoc]

theorem cut_at (q : FVec Ideal S512x1024 .bf16) (d : Fin 256) :
    extractStridedSlice S512x256 ![0, 0] q slices_S512x1024_o0_0_S512x256 (ix2 r d) = q (ix2 r ⟨(0 : Fin 4).val * 256 + d.val, by omega⟩)
    ∧ extractStridedSlice S512x256 ![0, 256] q slices_S512x1024_o0_256_S512x256 (ix2 r d) = q (ix2 r ⟨(1 : Fin 4).val * 256 + d.val, by omega⟩)
    ∧ extractStridedSlice S512x256 ![0, 512] q slices_S512x1024_o0_512_S512x256 (ix2 r d) = q (ix2 r ⟨(2 : Fin 4).val * 256 + d.val, by omega⟩)
    ∧ extractStridedSlice S512x256 ![0, 768] q slices_S512x1024_o0_768_S512x256 (ix2 r d) = q (ix2 r ⟨(3 : Fin 4).val * 256 + d.val, by omega⟩) := by
  refine ⟨?_, ?_, ?_, ?_⟩ <;>
    exact congrArg q (funext fun a => Fin.ext (by
      match a with
      | ⟨0, _⟩ => first | rfl | exact Nat.zero_add _ | exact Nat.add_zero _
      | ⟨1, _⟩ => first | rfl | exact Nat.add_comm _ _ | (show _ + d.val = _; simp)))

include hz h11 h12 h13 in
/-- The row of the tile is the reference's row: by the scores where the normalized row is real, and where it has an infinite entry because
both rows have it, so that the last norm forgets them. -/
theorem row_at (k0 k1 k2 k3 v0 v1 v2 v3 : FVec Ideal S1x256x256 .bf16) (x16 : FVec Ideal S1024x1024 .bf16) (x17 x18 : FVec Ideal S1x1024 .f32)
    (hk : ∀ i, IsR (k i)) (hwq : ∀ i, IsR (wq i))
    (hk0 : ∀ i d : Fin 256, k0 (ix3 0 i d) = k (ix3 n i ⟨(0 : Fin 4).val * 256 + d.val, by omega⟩))
    (hk1 : ∀ i d : Fin 256, k1 (ix3 0 i d) = k (ix3 n i ⟨(1 : Fin 4).val * 256 + d.val, by omega⟩))
    (hk2 : ∀ i d : Fin 256, k2 (ix3 0 i d) = k (ix3 n i ⟨(2 : Fin 4).val * 256 + d.val, by omega⟩))
    (hk3 : ∀ i d : Fin 256, k3 (ix3 0 i d) = k (ix3 n i ⟨(3 : Fin 4).val * 256 + d.val, by omega⟩))
    (hv0 : ∀ i d : Fin 256, v0 (ix3 0 i d) = v (ix3 n i ⟨(0 : Fin 4).val * 256 + d.val, by omega⟩))
    (hv1 : ∀ i d : Fin 256, v1 (ix3 0 i d) = v (ix3 n i ⟨(1 : Fin 4).val * 256 + d.val, by omega⟩))
    (hv2 : ∀ i d : Fin 256, v2 (ix3 0 i d) = v (ix3 n i ⟨(2 : Fin 4).val * 256 + d.val, by omega⟩))
    (hv3 : ∀ i d : Fin 256, v3 (ix3 0 i d) = v (ix3 n i ⟨(3 : Fin 4).val * 256 + d.val, by omega⟩))
    (h16 : ∀ j e, x16 (ix2 j e) = wco (ix2 j e)) (h17 : ∀ e, x17 (ix2 0 e) = g2 (ix1 e)) (h18 : ∀ e, x18 (ix2 0 e) = b2 (ix1 e)) (e : Fin 1024)
    (y : FVec Ideal S512x1024 .f32)
    (hy : y = k0_pay15 (F := Ideal) (k0_pay6 z x11 x12) (k0_pay7 z x11 x12 x13) (k0_pay10 (k0_pay8 z x11 x12 x13 k0) (k0_pay9 z x11 x12 x13 k0) v0)
      (k0_pay11 (k0_pay7 z x11 x12 x13) k1 v1) (k0_pay13 (k0_pay7 z x11 x12 x13) k2) (k0_pay14 (k0_pay7 z x11 x12 x13) k2) v2 k3 v3 x16) :
    k0_pay1 (F := Ideal) y (k0_pay16 x17) (k0_pay17 x18) (means y) (ix3 0 r e)
      = lnorm (cross x o1 o2 o3 l1 l2 l3 ob k v ga gb wo g1 b1 wq wco n s) (fun e => g2 (ix1 e)) (fun e => b2 (ix1 e)) e := by
  refine (pay1_at y x17 x18 r e).trans ?_
  have hx := x1_at x o1 o2 o3 l1 l2 l3 ob ga gb wo g1 b1 n s r z x11 x12 hz h11 h12
  rw [funext h17, funext h18]
  by_cases hr : ∀ e, IsR (x1 x o1 o2 o3 l1 l2 l3 ob ga gb wo g1 b1 n s e)
  case neg =>
    obtain ⟨i, hi⟩ := not_forall.mp hr
    obtain ⟨a, ha, ea⟩ := const_alpha
    refine (lnorm_flat (i := i) (fun h => hi ?_) _ _ e).trans (lnorm_flat (i := i) (fun h => hi (IsR.of_mul_pos ha ea (IsR.of_add h))) (fun e => g2 (ix1 e)) (fun e => b2 (ix1 e)) e).symm
    rw [hy, head0_eq, head1_eq, pay15_eq, joined_apply] at h
    exact hx i ▸ IsR.of_mul_pos ha ea (IsR.of_add h)
  have hs := score_isR x o1 o2 o3 l1 l2 l3 ob k ga gb wo g1 b1 wq hk hwq n s hr
  have hq := query_at x o1 o2 o3 l1 l2 l3 ob ga gb wo g1 b1 wq n s r z x11 x12 x13 hz h11 h12 h13
  have hh := head_at x o1 o2 o3 l1 l2 l3 ob k v ga gb wo g1 b1 wq n s r
  have hc : (fun e => y (ix2 r e)) = cross x o1 o2 o3 l1 l2 l3 ob k v ga gb wo g1 b1 wq wco n s := funext fun e => by
    rw [hy, head0_eq, head1_eq, pay15_eq]
    refine (joined_at _ _ _ _ _ x16 r e
      (fun l => hh 0 _ k0 v0 (fun d => (cut_at r _ d).1.trans (hq _)) hk0 hv0 (hs 0) l)
      (fun l => hh 1 _ k1 v1 (fun d => (cut_at r _ d).2.1.trans (hq _)) hk1 hv1 (hs 1) l)
      (fun l => hh 2 _ k2 v2 (fun d => (cut_at r _ d).2.2.1.trans (hq _)) hk2 hv2 (hs 2) l)
      (fun l => hh 3 _ k3 v3 (fun d => (cut_at r _ d).2.2.2.trans (hq _)) hk3 hv3 (hs 3) l)).trans ?_
    exact congrArg₂ (· + ·) (congrArg _ (hx e))
      (Finset.sum_congr rfl fun j _ => congrArg _ (h16 j e))
  rw [hc]

end Rest

end Cert.MixIdeal.At
-- ==== Proof.MixFinal.lean ====
/-
  The mixing call's result array is the reference's: each grid point's tile, read at its rows, is the reference's last layer norm there.
-/
module

public import proofs.«01_k».proof.Proof.MixHost
public import proofs.«01_k».proof.Proof.MixTile

@[expose] public section

set_option maxRecDepth 16384

noncomputable section

open Idealize.ShloMosaic Idealize.ShloMosaic.TcCoe Idealize.SL.Sem
open Idealize.ShloMosaic.Pipeline (Dat)

namespace Cert.MixIdeal.At

open Cert.MixIdeal Cert.MixIdeal.Gen Cert.Flash
open Cert.MixRefIdeal.At (v124_at)

variable (m : (ℓ : Loc nD τ sig) → Buf (Elt Ideal) ℓ)

/-- A head's columns of a memory block, and a half of the output projection's rows, as the body loads them. -/
theorem block_at (b : FVec Ideal S1x256x1024 .bf16) (o : Nat) (h : ∀ a, (![0, 0, o] : Fin 3 → Nat) a + S1x256x256.size a ≤ S1x256x1024.size a) (i d : Fin 256) :
    b ((Rect.unit (s := S1x256x1024) ![0, 0, o] S1x256x256.size h).idx (ix3 0 i d)) = b (ix3 0 i ⟨o + d.val, by have := h 2; simp at this; omega⟩) :=
  congrArg b (funext fun a => Fin.ext (by
    match a with
    | ⟨0, _⟩ => rfl
    | ⟨1, _⟩ => show 0 + 1 * i.val = i.val; omega
    | ⟨2, _⟩ => show o + 1 * d.val = o + d.val; omega))

/-- Columns equal as numbers are equal entries. -/
theorem col (A : FVec Ideal S8x256x1024 .f32) {n : Fin 8} {i : Fin 256} {p q : Fin 1024} (h : p.val = q.val) :
    A (ix3 n i p) = A (ix3 n i q) :=
  congrArg (fun p => A (ix3 n i p)) (Fin.ext h)

theorem half_at (b : FVec Ideal S1024x1024 .bf16) (o : Nat) (h : ∀ a, (![o, 0] : Fin 2 → Nat) a + S512x1024.size a ≤ S1024x1024.size a) (j : Fin 512) (e : Fin 1024) :
    b ((Rect.unit (s := S1024x1024) ![o, 0] S512x1024.size h).idx (ix2 j e)) = b (ix2 ⟨o + j.val, by have := h 0; simp at this; omega⟩ e) :=
  congrArg b (funext fun a => Fin.ext (by
    match a with
    | ⟨0, _⟩ => show o + 1 * j.val = o + j.val; omega
    | ⟨1, _⟩ => show 0 + 1 * e.val = e.val; omega))

/-- Loads of whole blocks. -/
theorem ld0 {e : EltTy} (X : S1x512x512.Idx → Elt Ideal e) : View.ld X r0_0 = X := View.ld_unit_lit _ X (by decide)
theorem ld1 {e : EltTy} (X : S1x512.Idx → Elt Ideal e) : View.ld X r0_1 = X := View.ld_unit_lit _ X (by decide)
theorem ld4 {e : EltTy} (X : S1x512x1024.Idx → Elt Ideal e) : View.ld X r0_4 = X := View.ld_unit_lit _ X (by decide)
theorem ld5 {e : EltTy} (X : S1x1024.Idx → Elt Ideal e) : View.ld X r0_5 = X := View.ld_unit_lit _ X (by decide)
theorem ld6 {e : EltTy} (X : S1024x1024.Idx → Elt Ideal e) : View.ld X r0_6 = X := View.ld_unit_lit _ X (by decide)

/-- A grid point's rows through the output projection are the reference's. -/
theorem proj_row (c : Dev nD) (t : Fin cfg0.N) (r : Fin 512) (e : Fin 1024)
    (r4 : ∀ i, IsR ((show FVec Ideal S8x8192x8 .f32 from m (c, Proc.tc.devRef main_arg4)) i))
    (r5 : ∀ i, IsR ((show FVec Ideal S8x8192x8 .f32 from m (c, Proc.tc.devRef main_arg5)) i))
    (r6 : ∀ i, IsR ((show FVec Ideal S8x8192x8 .f32 from m (c, Proc.tc.devRef main_arg6)) i)) :
    (k0_pay19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) (ix2 r e) = Cert.MixRefIdeal.At.proj (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg10)) (m (c, Proc.tc.devRef main_arg11)) (m (c, Proc.tc.devRef main_arg12)) (bt t) (nt t r) e := by
  unfold k0_pay19
  rw [ld0, ld0, ld0, ld0, ld0, ld0, ld0, ld1, ld1, ld4]
  exact proj_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg10)) (m (c, Proc.tc.devRef main_arg11)) (m (c, Proc.tc.devRef main_arg12)) (bt t) (nt t r) r _ _ _ _ _ _ _ _ _ _ _ _ r4 r5 r6
    (in0_at m c t r) (in1_at m c t r) (in2_at m c t r) (in3_at m c t r) (in4_at m c t r) (in5_at m c t r) (in6_at m c t r) (in7_at m c t r)
    (in8_at m c t) (in9_at m c t)
    (fun j e => (half_at _ 0 inb_S1024x1024_S512x1024_0_0 j e).trans ((in10_at m c t _ e).trans
      (congrArg (fun p => (show FVec Ideal S1024x1024 .f32 from m (c, Proc.tc.devRef main_arg12)) (ix2 p e)) (Fin.ext (Nat.zero_add _)))))
    (fun j e => (half_at _ 512 inb_S1024x1024_S512x1024_512_0 j e).trans (in10_at m c t _ e)) e

/-- The result array after the run is the reference's result, where the log-sum-exps, the keys and the query weights are real. -/
theorem final (c : Dev nD)
    (r4 : ∀ i, IsR ((show FVec Ideal S8x8192x8 .f32 from m (c, Proc.tc.devRef main_arg4)) i))
    (r5 : ∀ i, IsR ((show FVec Ideal S8x8192x8 .f32 from m (c, Proc.tc.devRef main_arg5)) i))
    (r6 : ∀ i, IsR ((show FVec Ideal S8x8192x8 .f32 from m (c, Proc.tc.devRef main_arg6)) i))
    (r8 : ∀ i, IsR ((show FVec Ideal S8x256x1024 .f32 from m (c, Proc.tc.devRef main_arg8)) i))
    (r15 : ∀ i, IsR ((show FVec Ideal S1024x1024 .f32 from m (c, Proc.tc.devRef main_arg15)) i)) :
    (dats m 0 c).arrAt 19 (cfgs 0).N = Cert.MixRefIdeal.Read.val_main_v124 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) (m (c, Proc.tc.devRef main_arg15)) (m (c, Proc.tc.devRef main_arg16)) (m (c, Proc.tc.devRef main_arg17)) (m (c, Proc.tc.devRef main_arg18)) := by
  refine (dats m 0 c).arrAt_eq_of_covers 19 _ (by decide +kernel) fun t _ y => ?_
  blk_simp
  rw [after0_19]
  frame_out
  obtain ⟨r, l, rfl⟩ : ∃ (r : Fin 512) (l : Fin 1024), y = ix3 0 r l :=
    ⟨y 1, y 2, funext fun a => by fin_cases a <;> first | rfl | exact Subsingleton.elim (α := Fin 1) _ _⟩
  refine Eq.trans ?_ (congrArg _ (emb19 t r l)).symm
  refine Eq.trans ?_ (v124_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) (m (c, Proc.tc.devRef main_arg15)) (m (c, Proc.tc.devRef main_arg16)) (m (c, Proc.tc.devRef main_arg17)) (m (c, Proc.tc.devRef main_arg18)) (bt t) (nt t r) l).symm
  rw [pay18_eq]
  exact row_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) (m (c, Proc.tc.devRef main_arg15)) (m (c, Proc.tc.devRef main_arg16)) (m (c, Proc.tc.devRef main_arg17)) (m (c, Proc.tc.devRef main_arg18)) (bt t) (nt t r) r (k0_pay19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))
    (View.ld (iblk m c 11 t) r0_5) (View.ld (iblk m c 12 t) r0_5) (View.ld (iblk m c 13 t) r0_6) (fun e => proj_row m c t r e r4 r5 r6)
    (fun e => (congrFun (ld5 _) _).trans (in11_at m c t e)) (fun e => (congrFun (ld5 _) _).trans (in12_at m c t e)) (fun d e => (congrFun (ld6 _) _).trans (in13_at m c t d e))
    (View.ld (iblk m c 14 t) r0_7) (View.ld (iblk m c 14 t) r0_8) (View.ld (iblk m c 14 t) r0_9) (View.ld (iblk m c 14 t) r0_10)
    (View.ld (iblk m c 15 t) r0_7) (View.ld (iblk m c 15 t) r0_8) (View.ld (iblk m c 15 t) r0_9) (View.ld (iblk m c 15 t) r0_10)
    (iblk m c 16 t) (iblk m c 17 t) (iblk m c 18 t)
    r8 r15
    (fun i d => (block_at _ 0 inb_S1x256x1024_S1x256x256_0_0_0 i d).trans ((in14_at m c t i _).trans (col _ (by show 0 + d.val = 0 * 256 + d.val; omega))))
    (fun i d => (block_at _ 256 inb_S1x256x1024_S1x256x256_0_0_256 i d).trans ((in14_at m c t i _).trans (col _ (by show 256 + d.val = 1 * 256 + d.val; omega))))
    (fun i d => (block_at _ 512 inb_S1x256x1024_S1x256x256_0_0_512 i d).trans ((in14_at m c t i _).trans (col _ (by show 512 + d.val = 2 * 256 + d.val; omega))))
    (fun i d => (block_at _ 768 inb_S1x256x1024_S1x256x256_0_0_768 i d).trans ((in14_at m c t i _).trans (col _ (by show 768 + d.val = 3 * 256 + d.val; omega))))
    (fun i d => (block_at _ 0 inb_S1x256x1024_S1x256x256_0_0_0 i d).trans ((in15_at m c t i _).trans (col _ (by show 0 + d.val = 0 * 256 + d.val; omega))))
    (fun i d => (block_at _ 256 inb_S1x256x1024_S1x256x256_0_0_256 i d).trans ((in15_at m c t i _).trans (col _ (by show 256 + d.val = 1 * 256 + d.val; omega))))
    (fun i d => (block_at _ 512 inb_S1x256x1024_S1x256x256_0_0_512 i d).trans ((in15_at m c t i _).trans (col _ (by show 512 + d.val = 2 * 256 + d.val; omega))))
    (fun i d => (block_at _ 768 inb_S1x256x1024_S1x256x256_0_0_768 i d).trans ((in15_at m c t i _).trans (col _ (by show 768 + d.val = 3 * 256 + d.val; omega))))
    (in16_at m c t) (in17_at m c t) (in18_at m c t) l _ rfl

end Cert.MixIdeal.At
-- ==== Proof.MixClaim.lean ====
/-
  The mixing call's value claim: with the log-sum-exps, the keys and the query weights finite, the kernel's exact result is the reference's.
-/
module

public import proofs.«01_k».proof.Defs
public import proofs.«01_k».proof.Proof.GqaClaim
public import proofs.«01_k».proof.Proof.MixFinal
public import proofs.«01_k».proof.Proof.Gen.MixRefIdeal.Run
public import proofs.«01_k».proof.Proof.Gen.MixRefIdeal.Read
public import proofs.«01_k».proof.Proof.Gen.Pre_finite_mix

@[expose] public section

set_option maxRecDepth 16384

noncomputable section

open Idealize.ShloMosaic Idealize.ShloMosaic.TcCoe Idealize.SL.Sem

namespace Cert.MixClaim

open Cert.Flash Cert.GqaClaim

theorem algebraic : Cert.algebraic_MixIdeal_MixRefIdeal_pre_finite_mix := by
  intro m g m' g' hpre hagree
  refine ⟨fun c => (Cert.MixIdeal.Gen.dats m 0 c).arrAt 19 (Cert.MixIdeal.cfgs 0).N,
    (θ_run _ _ _).mono (fun r h c => ⟨(h.1 c).1 19, h.2 c⟩) (θ_run_and (Cert.MixIdeal.Gen.run_main m g) (Cert.MixIdeal.Gen.unchanged m g)),
    (θ_run _ _ _).mono (fun r h c => ⟨(h c).1.trans ((Cert.MixRefIdeal.Read.val_main_v124_eq _).trans ?_), (h c).2⟩) (Cert.MixRefIdeal.Value.run m' g')⟩
  obtain ⟨h0, h1, h2, h3, h4, h5, h6, h7, h8, h9, h10, h11, h12, h13, h14, h15, h16, h17, h18⟩ := hagree c
  have hp := hpre c
  show Cert.MixRefIdeal.Read.val_main_v124 (F := Ideal) (m' ((c.tc : Thread MixRefIdeal.nD MixRefIdeal.τ).loc MixRefIdeal.main_arg0)) (m' ((c.tc : Thread MixRefIdeal.nD MixRefIdeal.τ).loc MixRefIdeal.main_arg1)) (m' ((c.tc : Thread MixRefIdeal.nD MixRefIdeal.τ).loc MixRefIdeal.main_arg2)) (m' ((c.tc : Thread MixRefIdeal.nD MixRefIdeal.τ).loc MixRefIdeal.main_arg3)) (m' ((c.tc : Thread MixRefIdeal.nD MixRefIdeal.τ).loc MixRefIdeal.main_arg4)) (m' ((c.tc : Thread MixRefIdeal.nD MixRefIdeal.τ).loc MixRefIdeal.main_arg5)) (m' ((c.tc : Thread MixRefIdeal.nD MixRefIdeal.τ).loc MixRefIdeal.main_arg6)) (m' ((c.tc : Thread MixRefIdeal.nD MixRefIdeal.τ).loc MixRefIdeal.main_arg7)) (m' ((c.tc : Thread MixRefIdeal.nD MixRefIdeal.τ).loc MixRefIdeal.main_arg8)) (m' ((c.tc : Thread MixRefIdeal.nD MixRefIdeal.τ).loc MixRefIdeal.main_arg9)) (m' ((c.tc : Thread MixRefIdeal.nD MixRefIdeal.τ).loc MixRefIdeal.main_arg10)) (m' ((c.tc : Thread MixRefIdeal.nD MixRefIdeal.τ).loc MixRefIdeal.main_arg11)) (m' ((c.tc : Thread MixRefIdeal.nD MixRefIdeal.τ).loc MixRefIdeal.main_arg12)) (m' ((c.tc : Thread MixRefIdeal.nD MixRefIdeal.τ).loc MixRefIdeal.main_arg13)) (m' ((c.tc : Thread MixRefIdeal.nD MixRefIdeal.τ).loc MixRefIdeal.main_arg14)) (m' ((c.tc : Thread MixRefIdeal.nD MixRefIdeal.τ).loc MixRefIdeal.main_arg15)) (m' ((c.tc : Thread MixRefIdeal.nD MixRefIdeal.τ).loc MixRefIdeal.main_arg16)) (m' ((c.tc : Thread MixRefIdeal.nD MixRefIdeal.τ).loc MixRefIdeal.main_arg17)) (m' ((c.tc : Thread MixRefIdeal.nD MixRefIdeal.τ).loc MixRefIdeal.main_arg18)) = _
  rw [h0, h1, h2, h3, h4, h5, h6, h7, h8, h9, h10, h11, h12, h13, h14, h15, h16, h17, h18]
  exact (Cert.MixIdeal.At.final m c
    (fun i => isR_of_mask _ _ _ (fun _ => GqaIdeal.At.ofBits_bot) (fun _ => ofBits_top) hp.1 i)
    (fun i => isR_of_mask _ _ _ (fun _ => GqaIdeal.At.ofBits_bot) (fun _ => ofBits_top) hp.2.1 i)
    (fun i => isR_of_mask _ _ _ (fun _ => GqaIdeal.At.ofBits_bot) (fun _ => ofBits_top) hp.2.2.1 i)
    (fun i => isR_of_mask _ _ _ (fun _ => GqaIdeal.At.ofBits_bot) (fun _ => ofBits_top) hp.2.2.2.1 i)
    (fun i => isR_of_mask _ _ _ (fun _ => GqaIdeal.At.ofBits_bot) (fun _ => ofBits_top) hp.2.2.2.2 i)).symm

end Cert.MixClaim
-- ==== Proof.MemkvClaim.lean ====
/-
  The memory call's value claim: each of its two results is the product of the memory with a weight matrix, at every entry and for every input.
-/
module

public import proofs.«01_k».proof.Defs
public import proofs.«01_k».proof.Proof.Gen.MemkvIdeal.Value
public import proofs.«01_k».proof.Proof.Gen.MemkvRefIdeal.Read
public import proofs.«01_k».proof.Proof.Gen.MemkvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemkvIdeal.At

open Cert.MemkvIdeal Cert.MemkvIdeal.Gen

variable (m : (ℓ : Loc nD τ sig) → Buf (Elt Ideal) ℓ)

/-- The blocks of every window at a grid point. -/
theorem idx : ∀ t : Fin cfg0.N, win0_0.index t = ![t.val, 0, 0] ∧ win0_1.index t = ![0, 0] ∧ win0_2.index t = ![0, 0] ∧ win0_3.index t = ![t.val, 0, 0]
    ∧ win0_4.index t = ![t.val, 0, 0] ∧ t.val < 8 :=
  (by decide +kernel : ∀ t : Fin grid0.N, _)

def bt (t : Fin cfg0.N) : Fin 8 := ⟨t.val, (idx t).2.2.2.2.2⟩

theorem V_m (c : Dev nD) : V m c main_arg0 = m (c, Proc.tc.devRef main_arg0) := by
  entry_read
  rfl
theorem V_k (c : Dev nD) : V m c main_v0 = truncf (s := S1024x1024) (F := Ideal) FTy.bf16 (m (c, Proc.tc.devRef main_arg1)) bitsLt_bf16_f32 := by
  entry_read
  rfl
theorem V_v (c : Dev nD) : V m c main_v1 = truncf (s := S1024x1024) (F := Ideal) FTy.bf16 (m (c, Proc.tc.devRef main_arg2)) bitsLt_bf16_f32 := by
  entry_read
  rfl

theorem emb0 (t : Fin cfg0.N) (r : Fin 256) (d : Fin 1024) : (win0_0.blk t).view.emb (ix3 0 r d) = ix3 (bt t) r d := by
  blk_ext [idx t, bt]
theorem emb1 (t : Fin cfg0.N) (d e : Fin 1024) : (win0_1.blk t).view.emb (ix2 d e) = ix2 d e := by
  blk_ext [idx t]
theorem emb2 (t : Fin cfg0.N) (d e : Fin 1024) : (win0_2.blk t).view.emb (ix2 d e) = ix2 d e := by
  blk_ext [idx t]
theorem emb3 (t : Fin cfg0.N) (r : Fin 256) (d : Fin 1024) : (win0_3.blk t).view.emb (ix3 0 r d) = ix3 (bt t) r d := by
  blk_ext [idx t, bt]
theorem emb4 (t : Fin cfg0.N) (r : Fin 256) (d : Fin 1024) : (win0_4.blk t).view.emb (ix3 0 r d) = ix3 (bt t) r d := by
  blk_ext [idx t, bt]

theorem m_at (c : Dev nD) (t : Fin cfg0.N) (r : Fin 256) (d : Fin 1024) : (show FVec Ideal S1x256x1024 .f32 from iblk m c 0 t) (ix3 0 r d)
    = (show FVec Ideal S8x256x1024 .f32 from m (c, Proc.tc.devRef main_arg0)) (ix3 (bt t) r d) :=
  (show _ = V m c main_arg0 ((win0_0.blk t).view.emb _) by blk_simp [iblk]).trans
    ((congrArg (V m c main_arg0) (emb0 t r d)).trans (congrFun (V_m m c) _))
theorem k_at (c : Dev nD) (t : Fin cfg0.N) (d e : Fin 1024) : (show FVec Ideal S1024x1024 .bf16 from iblk m c 1 t) (ix2 d e)
    = (show FVec Ideal S1024x1024 .f32 from m (c, Proc.tc.devRef main_arg1)) (ix2 d e) :=
  (show _ = V m c main_v0 ((win0_1.blk t).view.emb _) by blk_simp [iblk]).trans
    ((congrArg (V m c main_v0) (emb1 t d e)).trans (congrFun (V_k m c) _))
theorem v_at (c : Dev nD) (t : Fin cfg0.N) (d e : Fin 1024) : (show FVec Ideal S1024x1024 .bf16 from iblk m c 2 t) (ix2 d e)
    = (show FVec Ideal S1024x1024 .f32 from m (c, Proc.tc.devRef main_arg2)) (ix2 d e) :=
  (show _ = V m c main_v1 ((win0_2.blk t).view.emb _) by blk_simp [iblk]).trans
    ((congrArg (V m c main_v1) (emb2 t d e)).trans (congrFun (V_v m c) _))

theorem pay2_at (x : FVec Ideal S1x256x1024 .f32) (w : FVec Ideal S1024x1024 .bf16) (r : Fin 256) (e : Fin 1024) :
    k0_pay2 (F := Ideal) x w (ix3 0 r e) = ∑ d : Fin 1024, x (ix3 0 r d) * w (ix2 d e) := by
  pointwise [k0_pay2, k0_pay1]

/-- The two results' payloads are one. -/
theorem pay3_eq (x : FVec Ideal S1x256x1024 .f32) (w : FVec Ideal S1024x1024 .bf16) : k0_pay3 (F := Ideal) x w = k0_pay2 x w := rfl

theorem ref_at (x : FVec Ideal S8x256x1024 .f32) (w : FVec Ideal S1024x1024 .f32) (n : Fin 8) (r : Fin 256) (e : Fin 1024) :
    Cert.MemkvRefIdeal.Read.val_main_v1 (F := Ideal) x w (ix3 n r e) = ∑ d : Fin 1024, x (ix3 n r d) * w (ix2 d e) := by
  pointwise [Cert.MemkvRefIdeal.Read.val_main_v1, Cert.MemkvRefIdeal.Read.val_main_v0]

theorem final_k (c : Dev nD) : (dats m 0 c).arrAt 3 (cfgs 0).N
    = Cert.MemkvRefIdeal.Read.val_main_v1 (F := Ideal) (m (c, Proc.tc.devRef main_arg0)) (m (c, Proc.tc.devRef main_arg1)) := by
  refine (dats m 0 c).arrAt_eq_of_covers 3 _ (by decide +kernel) fun t _ y => ?_
  blk_simp
  rw [after0_3]
  frame_out
  obtain ⟨r, l, rfl⟩ : ∃ (r : Fin 256) (l : Fin 1024), y = ix3 0 r l :=
    ⟨y 1, y 2, funext fun a => by fin_cases a <;> first | rfl | exact Subsingleton.elim (α := Fin 1) _ _⟩
  refine (pay2_at _ _ r l).trans (Eq.trans ?_ ((ref_at _ _ (bt t) r l).symm.trans (congrArg _ (emb3 t r l).symm)))
  exact Finset.sum_congr rfl fun d _ => congrArg₂ (· * ·) (m_at m c t r d) (k_at m c t d l)

theorem final_v (c : Dev nD) : (dats m 0 c).arrAt 4 (cfgs 0).N
    = Cert.MemkvRefIdeal.Read.val_main_v3 (F := Ideal) (m (c, Proc.tc.devRef main_arg0)) (m (c, Proc.tc.devRef main_arg2)) := by
  refine (dats m 0 c).arrAt_eq_of_covers 4 _ (by decide +kernel) fun t _ y => ?_
  blk_simp
  rw [after0_4]
  frame_out
  obtain ⟨r, l, rfl⟩ : ∃ (r : Fin 256) (l : Fin 1024), y = ix3 0 r l :=
    ⟨y 1, y 2, funext fun a => by fin_cases a <;> first | rfl | exact Subsingleton.elim (α := Fin 1) _ _⟩
  refine (congrFun (pay3_eq _ _) _).trans ((pay2_at _ _ r l).trans (Eq.trans ?_ ((ref_at _ _ (bt t) r l).symm.trans (congrArg _ (emb4 t r l).symm))))
  exact Finset.sum_congr rfl fun d _ => congrArg₂ (· * ·) (m_at m c t r d) (v_at m c t d l)

end Cert.MemkvIdeal.At

namespace Cert.MemkvClaim

theorem algebraic : Cert.algebraic_MemkvIdeal_MemkvRefIdeal := by
  pair_intro
  · run_from Cert.MemkvIdeal.Gen.run_main m g
  · run_from Cert.MemkvRefIdeal.Value.run m' g'
    · exact (Cert.MemkvRefIdeal.Read.val_main_v1_eq _ _).trans (Cert.MemkvIdeal.At.final_k m c).symm
    · exact (Cert.MemkvRefIdeal.Read.val_main_v3_eq _ _).trans (Cert.MemkvIdeal.At.final_v m c).symm

end Cert.MemkvClaim
-- ==== Proof.ProjRow.lean ====
/-
  One row of the projection, in plain terms: a column of the product with the weights, and a column turned with its mate at half a head's distance.
-/
module

public import proofs.«01_k».proof.Defs
public import Idealize.ShloMosaic.Lib.Pipeline.ValueKit

@[expose] public section

set_option maxRecDepth 16384

noncomputable section

open Idealize.ShloMosaic

namespace Cert.ProjRow

/-- A column of a vector times the weights. -/
def col (x : Fin 1024 → EReal) (w : Fin 1024 → Fin 2304 → EReal) (j : ℕ) : EReal :=
  ∑ d : Fin 1024, x d * w d ⟨j % 2304, Nat.mod_lt _ (by decide)⟩

theorem col_of (x : Fin 1024 → EReal) (w : Fin 1024 → Fin 2304 → EReal) (j : ℕ) (k : Fin 2304) (h : k.val = j) :
    ∑ d : Fin 1024, x d * w d k = col x w j := by
  subst h
  exact Finset.sum_congr rfl fun d _ => congrArg (fun z => x d * w d z) (Fin.ext (Nat.mod_eq_of_lt k.isLt).symm)

/-- A column turned by an angle's cosine and sine with its mate `h` columns away: the first `h` of every `2 * h` columns look forward, the rest back. -/
def spin (h : ℕ) (p : ℕ → EReal) (c s : EReal) (j : ℕ) : EReal :=
  if j % (2 * h) < h then p j * c + p (j + h) * -s else p j * c + p (j - h) * s

/-- A turned column depends on its own entry, its mate's and the angle alone. -/
theorem spin_congr {h j j' : ℕ} {p p' : ℕ → EReal} {c c' s s' : EReal} (hj : j % (2 * h) = j' % (2 * h)) (hp : p j = p' j')
    (hf : j % (2 * h) < h → p (j + h) = p' (j' + h)) (hb : ¬j % (2 * h) < h → p (j - h) = p' (j' - h)) (hc : c = c') (hs : s = s') :
    spin h p c s j = spin h p' c' s' j' := by
  subst hc hs
  unfold spin
  rw [← hj]
  by_cases hl : j % (2 * h) < h
  · rw [if_pos hl, if_pos hl, hp, hf hl]
  · rw [if_neg hl, if_neg hl, hp, hb hl]

/-- The turn as two halves of a row, first half then second. -/
theorem spin_halves {h : ℕ} (p : ℕ → EReal) (C S : ℕ → EReal) (e : ℕ) (he : e < 2 * h) :
    (if e < h then p e * C e - p (h + e) * S e else p (h + (e - h)) * C (e - h) + p (e - h) * S (e - h)) = spin h p (C (e % h)) (S (e % h)) e := by
  unfold spin
  rw [Nat.mod_eq_of_lt he]
  by_cases hl : e < h
  · rw [if_pos hl, if_pos hl, Nat.mod_eq_of_lt hl, sub_eq_add_neg, mul_neg, add_comm h]
  · have hm : e % h = e - h := by
      rw [Nat.mod_eq_sub_mod (by omega), Nat.mod_eq_of_lt (by omega)]
    rw [if_neg hl, if_neg hl, hm, show h + (e - h) = e by omega]

/-- A column normalized over its head of 64 by the root of the mean square, and scaled by the head's gains. -/
def nrm (p g : ℕ → EReal) (j : ℕ) : EReal :=
  p j * Ideal.rsqrt (Ideal.div (∑ e : Fin 64, p (64 * (j / 64) + e.val) * p (64 * (j / 64) + e.val)) (Ideal.ofBits FTy.f32 0x42800000#32)
    + Ideal.ofBits FTy.f32 0x358637BD#32) * g (j % 64)

end Cert.ProjRow
-- ==== Proof.ProjRef.lean ====
/-
  The projection reference at an entry.
-/
module

public import proofs.«01_k».proof.Defs
public import proofs.«01_k».proof.Proof.ProjRow
public import proofs.«01_k».proof.Proof.Gen.ProjRefIdeal.Read
public import Idealize.ShloMosaic.Lib.Pipeline.ValueKit

@[expose] public section

set_option maxRecDepth 16384

noncomputable section

open Idealize.ShloMosaic

namespace Cert.ProjRefIdeal.At

open Cert.ProjRefIdeal Cert.ProjRefIdeal.Gen Cert.ProjRefIdeal.Read Cert.ProjRow

/-- Eight heads turned as the reference writes it. -/
def turned (t : FVec Ideal S8x8192x8x64 .f32) (c s : FVec Ideal S8192x32 .f32) : FVec Ideal S8x8192x8x64 .f32 :=
  have a := extractStridedSlice S8x8192x8x32 ![0, 0, 0, 0] t slices_S8x8192x8x64_S8x8192x8x32_0_0_0_0
  have b := extractStridedSlice S8x8192x8x32 ![0, 0, 0, 32] t slices_S8x8192x8x64_S8x8192x8x32_0_0_0_32
  have c' := broadcastInDim S8x8192x8x32 ![0, 1, 2, 3] bcast_S1x8192x1x32_S8x8192x8x32_0_1_2_3 (broadcastInDim S1x8192x1x32 ![1, 2, 3] bcast_S8192x1x32_S1x8192x1x32_1_2_3 (broadcastInDim S8192x1x32 ![0, 2] bcast_S8192x32_S8192x1x32_0_2 c))
  have s' := broadcastInDim S8x8192x8x32 ![0, 1, 2, 3] bcast_S1x8192x1x32_S8x8192x8x32_0_1_2_3 (broadcastInDim S1x8192x1x32 ![1, 2, 3] bcast_S8192x1x32_S1x8192x1x32_1_2_3 (broadcastInDim S8192x1x32 ![0, 2] bcast_S8192x32_S8192x1x32_0_2 s))
  concatenate S8x8192x8x64 3 [⟨S8x8192x8x32, subf (mulf a c') (mulf b s')⟩, ⟨S8x8192x8x32, addf (mulf b c') (mulf a s')⟩] concatenates_S8x8192x8x32_S8x8192x8x32_S8x8192x8x64_d3

theorem v45_eq (x : FVec Ideal S8x8192x1024 .f32) (w : FVec Ideal S1024x2304 .f32) : val_main_v45 (F := Ideal) x w = turned (val_main_v26 (F := Ideal) x w) (val_main_v24 (F := Ideal)) (val_main_v25 (F := Ideal)) := rfl
theorem v67_eq (x : FVec Ideal S8x8192x1024 .f32) (w : FVec Ideal S1024x2304 .f32) : val_main_v67 (F := Ideal) x w = turned (val_main_v48 (F := Ideal) x w) (val_main_v24 (F := Ideal)) (val_main_v25 (F := Ideal)) := rfl

/-- Eight heads' axial halves turned. -/
def half8 (t : FVec Ideal S8x8192x8x32 .f32) (c s : FVec Ideal S8192x16 .f32) : FVec Ideal S8x8192x8x32 .f32 :=
  have a := extractStridedSlice S8x8192x8x16 ![0, 0, 0, 0] t slices_S8x8192x8x32_S8x8192x8x16_0_0_0_0
  have b := extractStridedSlice S8x8192x8x16 ![0, 0, 0, 16] t slices_S8x8192x8x32_S8x8192x8x16_0_0_0_16
  have c' := broadcastInDim S8x8192x8x16 ![0, 1, 2, 3] bcast_S1x8192x1x16_S8x8192x8x16_0_1_2_3 (broadcastInDim S1x8192x1x16 ![1, 2, 3] bcast_S8192x1x16_S1x8192x1x16_1_2_3 (broadcastInDim S8192x1x16 ![0, 2] bcast_S8192x16_S8192x1x16_0_2 c))
  have s' := broadcastInDim S8x8192x8x16 ![0, 1, 2, 3] bcast_S1x8192x1x16_S8x8192x8x16_0_1_2_3 (broadcastInDim S1x8192x1x16 ![1, 2, 3] bcast_S8192x1x16_S1x8192x1x16_1_2_3 (broadcastInDim S8192x1x16 ![0, 2] bcast_S8192x16_S8192x1x16_0_2 s))
  concatenate S8x8192x8x32 3 [⟨S8x8192x8x16, subf (mulf a c') (mulf b s')⟩, ⟨S8x8192x8x16, addf (mulf b c') (mulf a s')⟩] concatenates_S8x8192x8x16_S8x8192x8x16_S8x8192x8x32_d3

/-- Two heads' axial halves turned. -/
def half2 (t : FVec Ideal S8x8192x2x32 .f32) (c s : FVec Ideal S8192x16 .f32) : FVec Ideal S8x8192x2x32 .f32 :=
  have a := extractStridedSlice S8x8192x2x16 ![0, 0, 0, 0] t slices_S8x8192x2x32_S8x8192x2x16_0_0_0_0
  have b := extractStridedSlice S8x8192x2x16 ![0, 0, 0, 16] t slices_S8x8192x2x32_S8x8192x2x16_0_0_0_16
  have c' := broadcastInDim S8x8192x2x16 ![0, 1, 2, 3] bcast_S1x8192x1x16_S8x8192x2x16_0_1_2_3 (broadcastInDim S1x8192x1x16 ![1, 2, 3] bcast_S8192x1x16_S1x8192x1x16_1_2_3 (broadcastInDim S8192x1x16 ![0, 2] bcast_S8192x16_S8192x1x16_0_2 c))
  have s' := broadcastInDim S8x8192x2x16 ![0, 1, 2, 3] bcast_S1x8192x1x16_S8x8192x2x16_0_1_2_3 (broadcastInDim S1x8192x1x16 ![1, 2, 3] bcast_S8192x1x16_S1x8192x1x16_1_2_3 (broadcastInDim S8192x1x16 ![0, 2] bcast_S8192x16_S8192x1x16_0_2 s))
  concatenate S8x8192x2x32 3 [⟨S8x8192x2x16, subf (mulf a c') (mulf b s')⟩, ⟨S8x8192x2x16, addf (mulf b c') (mulf a s')⟩] concatenates_S8x8192x2x16_S8x8192x2x16_S8x8192x2x32_d3

theorem turned_at (t : FVec Ideal S8x8192x8x64 .f32) (c s : FVec Ideal S8192x32 .f32) (n : Fin 8) (r : Fin 8192) (h : Fin 8) (e : Fin 64) :
    turned t c s (ix4 n r h e) = spin 32 (fun k => t (ix4 n r h (Fin.ofNat 64 k))) (c (ix2 r (Fin.ofNat 32 (e.val % 32)))) (s (ix2 r (Fin.ofNat 32 (e.val % 32)))) e.val := by
  refine Eq.trans ?_ (spin_halves (h := 32) (fun k => t (ix4 n r h (Fin.ofNat 64 k))) (fun k => c (ix2 r (Fin.ofNat 32 k))) (fun k => s (ix2 r (Fin.ofNat 32 k))) e.val e.isLt)
  have ht : ∀ (k : ℕ) (hk : k < 64), t (ix4 n r h (Fin.ofNat 64 k)) = t (ix4 n r h ⟨k, hk⟩) := fun k hk => congrArg (fun z => t (ix4 n r h z)) (Fin.ext (Nat.mod_eq_of_lt hk))
  have hz : ∀ (y : FVec Ideal S8192x32 .f32) (k : ℕ) (hk : k < 32), y (ix2 r (Fin.ofNat 32 k)) = y (ix2 r ⟨k, hk⟩) := fun y k hk => congrArg (fun z => y (ix2 r z)) (Fin.ext (Nat.mod_eq_of_lt hk))
  by_cases he : e.val < 32
  · rw [if_pos he, ht _ e.isLt, ht _ (by omega), hz c _ he, hz s _ he]
    pointwise [turned]
    rw [dif_pos he]
  · rw [if_neg he, ht _ (by omega), ht (e.val - 32) (by omega), hz c _ (by omega), hz s _ (by omega)]
    pointwise [turned]
    rw [dif_neg he]

theorem half8_at (t : FVec Ideal S8x8192x8x32 .f32) (c s : FVec Ideal S8192x16 .f32) (n : Fin 8) (r : Fin 8192) (h : Fin 8) (e : Fin 32) :
    half8 t c s (ix4 n r h e) = spin 16 (fun k => t (ix4 n r h (Fin.ofNat 32 k))) (c (ix2 r (Fin.ofNat 16 (e.val % 16)))) (s (ix2 r (Fin.ofNat 16 (e.val % 16)))) e.val := by
  refine Eq.trans ?_ (spin_halves (h := 16) (fun k => t (ix4 n r h (Fin.ofNat 32 k))) (fun k => c (ix2 r (Fin.ofNat 16 k))) (fun k => s (ix2 r (Fin.ofNat 16 k))) e.val e.isLt)
  have ht : ∀ (k : ℕ) (hk : k < 32), t (ix4 n r h (Fin.ofNat 32 k)) = t (ix4 n r h ⟨k, hk⟩) := fun k hk => congrArg (fun z => t (ix4 n r h z)) (Fin.ext (Nat.mod_eq_of_lt hk))
  have hz : ∀ (y : FVec Ideal S8192x16 .f32) (k : ℕ) (hk : k < 16), y (ix2 r (Fin.ofNat 16 k)) = y (ix2 r ⟨k, hk⟩) := fun y k hk => congrArg (fun z => y (ix2 r z)) (Fin.ext (Nat.mod_eq_of_lt hk))
  by_cases he : e.val < 16
  · rw [if_pos he, ht _ e.isLt, ht _ (by omega), hz c _ he, hz s _ he]
    pointwise [half8]
    rw [dif_pos he]
  · rw [if_neg he, ht _ (by omega), ht (e.val - 16) (by omega), hz c _ (by omega), hz s _ (by omega)]
    pointwise [half8]
    rw [dif_neg he]

theorem half2_at (t : FVec Ideal S8x8192x2x32 .f32) (c s : FVec Ideal S8192x16 .f32) (n : Fin 8) (r : Fin 8192) (h : Fin 2) (e : Fin 32) :
    half2 t c s (ix4 n r h e) = spin 16 (fun k => t (ix4 n r h (Fin.ofNat 32 k))) (c (ix2 r (Fin.ofNat 16 (e.val % 16)))) (s (ix2 r (Fin.ofNat 16 (e.val % 16)))) e.val := by
  refine Eq.trans ?_ (spin_halves (h := 16) (fun k => t (ix4 n r h (Fin.ofNat 32 k))) (fun k => c (ix2 r (Fin.ofNat 16 k))) (fun k => s (ix2 r (Fin.ofNat 16 k))) e.val e.isLt)
  have ht : ∀ (k : ℕ) (hk : k < 32), t (ix4 n r h (Fin.ofNat 32 k)) = t (ix4 n r h ⟨k, hk⟩) := fun k hk => congrArg (fun z => t (ix4 n r h z)) (Fin.ext (Nat.mod_eq_of_lt hk))
  have hz : ∀ (y : FVec Ideal S8192x16 .f32) (k : ℕ) (hk : k < 16), y (ix2 r (Fin.ofNat 16 k)) = y (ix2 r ⟨k, hk⟩) := fun y k hk => congrArg (fun z => y (ix2 r z)) (Fin.ext (Nat.mod_eq_of_lt hk))
  by_cases he : e.val < 16
  · rw [if_pos he, ht _ e.isLt, ht _ (by omega), hz c _ he, hz s _ he]
    pointwise [half2]
    rw [dif_pos he]
  · rw [if_neg he, ht _ (by omega), ht (e.val - 16) (by omega), hz c _ (by omega), hz s _ (by omega)]
    pointwise [half2]
    rw [dif_neg he]

/-- Eight heads turned by their row's angle in the first half and by their column's in the second. -/
def axial8 (t : FVec Ideal S8x8192x8x64 .f32) (rc rs cc cs : FVec Ideal S8192x16 .f32) : FVec Ideal S8x8192x8x64 .f32 :=
  concatenate S8x8192x8x64 3 [⟨S8x8192x8x32, half8 (extractStridedSlice S8x8192x8x32 ![0, 0, 0, 0] t slices_S8x8192x8x64_S8x8192x8x32_0_0_0_0) rc rs⟩, ⟨S8x8192x8x32, half8 (extractStridedSlice S8x8192x8x32 ![0, 0, 0, 32] t slices_S8x8192x8x64_S8x8192x8x32_0_0_0_32) cc cs⟩] concatenates_S8x8192x8x32_S8x8192x8x32_S8x8192x8x64_d3

theorem axial8_at (t : FVec Ideal S8x8192x8x64 .f32) (rc rs cc cs : FVec Ideal S8192x16 .f32) (n : Fin 8) (r : Fin 8192) (h : Fin 8) (e : Fin 64) :
    axial8 t rc rs cc cs (ix4 n r h e) = spin 16 (fun k => t (ix4 n r h (Fin.ofNat 64 k)))
      ((if e.val < 32 then rc else cc) (ix2 r (Fin.ofNat 16 (e.val % 16)))) ((if e.val < 32 then rs else cs) (ix2 r (Fin.ofNat 16 (e.val % 16)))) e.val := by
  have hs : ∀ (o : ℕ) (ho : o + 32 ≤ 64) (u : FVec Ideal S8x8192x8x32 .f32) (hu : ∀ k : Fin 32, u (ix4 n r h k) = t (ix4 n r h ⟨o + k.val, by omega⟩)) (k : ℕ) (hk : k < 32) (k' : ℕ) (hk' : k' = o + k),
      u (ix4 n r h (Fin.ofNat 32 k)) = t (ix4 n r h (Fin.ofNat 64 k')) := by
    intro o ho u hu k hk k' hk'
    rw [hu]
    exact congrArg (fun z => t (ix4 n r h z)) (Fin.ext (by show o + k % 32 = k' % 64; omega))
  by_cases he : e.val < 32
  · rw [if_pos he, if_pos he]
    refine Eq.trans (b := half8 (extractStridedSlice S8x8192x8x32 ![0, 0, 0, 0] t slices_S8x8192x8x64_S8x8192x8x32_0_0_0_0) rc rs (ix4 n r h ⟨e.val, he⟩)) ?_ ?_
    · unfold axial8
      generalize half8 (extractStridedSlice S8x8192x8x32 ![0, 0, 0, 0] t slices_S8x8192x8x64_S8x8192x8x32_0_0_0_0) rc rs = u
      generalize half8 (extractStridedSlice S8x8192x8x32 ![0, 0, 0, 32] t slices_S8x8192x8x64_S8x8192x8x32_0_0_0_32) cc cs = v
      pointwise
      rw [dif_pos he]
    · have hu := hs 0 (by omega) (extractStridedSlice S8x8192x8x32 ![0, 0, 0, 0] t slices_S8x8192x8x64_S8x8192x8x32_0_0_0_0) (fun k => by pointwise)
      exact (half8_at _ _ _ n r h ⟨e.val, he⟩).trans (spin_congr rfl (hu _ he _ (by omega)) (fun hf => hu _ (show e.val + 16 < 32 by change e.val % (2 * 16) < 16 at hf; omega) _ (show e.val + 16 = 0 + (e.val + 16) by omega)) (fun hf => hu _ (show e.val - 16 < 32 by omega) _ (show e.val - 16 = 0 + (e.val - 16) by omega)) rfl rfl)
  · rw [if_neg he, if_neg he]
    refine Eq.trans (b := half8 (extractStridedSlice S8x8192x8x32 ![0, 0, 0, 32] t slices_S8x8192x8x64_S8x8192x8x32_0_0_0_32) cc cs (ix4 n r h ⟨e.val - 32, by omega⟩)) ?_ ?_
    · unfold axial8
      generalize half8 (extractStridedSlice S8x8192x8x32 ![0, 0, 0, 0] t slices_S8x8192x8x64_S8x8192x8x32_0_0_0_0) rc rs = u
      generalize half8 (extractStridedSlice S8x8192x8x32 ![0, 0, 0, 32] t slices_S8x8192x8x64_S8x8192x8x32_0_0_0_32) cc cs = v
      pointwise
      rw [dif_neg he]
    · have hu := hs 32 (by omega) (extractStridedSlice S8x8192x8x32 ![0, 0, 0, 32] t slices_S8x8192x8x64_S8x8192x8x32_0_0_0_32) (fun k => by pointwise)
      have hm : (e.val - 32) % 16 = e.val % 16 := by omega
      refine (half8_at _ _ _ n r h ⟨e.val - 32, by omega⟩).trans (spin_congr (j' := e.val) (show (e.val - 32) % (2 * 16) = e.val % (2 * 16) by omega) (hu _ (show e.val - 32 < 32 by omega) _ (show e.val = 32 + (e.val - 32) by omega)) (fun hf => hu _ (show e.val - 32 + 16 < 32 by change (e.val - 32) % (2 * 16) < 16 at hf; omega) _ (show e.val + 16 = 32 + (e.val - 32 + 16) by omega)) (fun hf => hu _ (show e.val - 32 - 16 < 32 by omega) _ (show e.val - 16 = 32 + (e.val - 32 - 16) by change ¬(e.val - 32) % (2 * 16) < 16 at hf; omega)) ?_ ?_)
      · exact congrArg (fun k => cc (ix2 r (Fin.ofNat 16 k))) hm
      · exact congrArg (fun k => cs (ix2 r (Fin.ofNat 16 k))) hm

/-- The same of two heads. -/
def axial2 (t : FVec Ideal S8x8192x2x64 .f32) (rc rs cc cs : FVec Ideal S8192x16 .f32) : FVec Ideal S8x8192x2x64 .f32 :=
  concatenate S8x8192x2x64 3 [⟨S8x8192x2x32, half2 (extractStridedSlice S8x8192x2x32 ![0, 0, 0, 0] t slices_S8x8192x2x64_S8x8192x2x32_0_0_0_0) rc rs⟩, ⟨S8x8192x2x32, half2 (extractStridedSlice S8x8192x2x32 ![0, 0, 0, 32] t slices_S8x8192x2x64_S8x8192x2x32_0_0_0_32) cc cs⟩] concatenates_S8x8192x2x32_S8x8192x2x32_S8x8192x2x64_d3

theorem axial2_at (t : FVec Ideal S8x8192x2x64 .f32) (rc rs cc cs : FVec Ideal S8192x16 .f32) (n : Fin 8) (r : Fin 8192) (h : Fin 2) (e : Fin 64) :
    axial2 t rc rs cc cs (ix4 n r h e) = spin 16 (fun k => t (ix4 n r h (Fin.ofNat 64 k)))
      ((if e.val < 32 then rc else cc) (ix2 r (Fin.ofNat 16 (e.val % 16)))) ((if e.val < 32 then rs else cs) (ix2 r (Fin.ofNat 16 (e.val % 16)))) e.val := by
  have hs : ∀ (o : ℕ) (ho : o + 32 ≤ 64) (u : FVec Ideal S8x8192x2x32 .f32) (hu : ∀ k : Fin 32, u (ix4 n r h k) = t (ix4 n r h ⟨o + k.val, by omega⟩)) (k : ℕ) (hk : k < 32) (k' : ℕ) (hk' : k' = o + k),
      u (ix4 n r h (Fin.ofNat 32 k)) = t (ix4 n r h (Fin.ofNat 64 k')) := by
    intro o ho u hu k hk k' hk'
    rw [hu]
    exact congrArg (fun z => t (ix4 n r h z)) (Fin.ext (by show o + k % 32 = k' % 64; omega))
  by_cases he : e.val < 32
  · rw [if_pos he, if_pos he]
    refine Eq.trans (b := half2 (extractStridedSlice S8x8192x2x32 ![0, 0, 0, 0] t slices_S8x8192x2x64_S8x8192x2x32_0_0_0_0) rc rs (ix4 n r h ⟨e.val, he⟩)) ?_ ?_
    · unfold axial2
      generalize half2 (extractStridedSlice S8x8192x2x32 ![0, 0, 0, 0] t slices_S8x8192x2x64_S8x8192x2x32_0_0_0_0) rc rs = u
      generalize half2 (extractStridedSlice S8x8192x2x32 ![0, 0, 0, 32] t slices_S8x8192x2x64_S8x8192x2x32_0_0_0_32) cc cs = v
      pointwise
      rw [dif_pos he]
    · have hu := hs 0 (by omega) (extractStridedSlice S8x8192x2x32 ![0, 0, 0, 0] t slices_S8x8192x2x64_S8x8192x2x32_0_0_0_0) (fun k => by pointwise)
      exact (half2_at _ _ _ n r h ⟨e.val, he⟩).trans (spin_congr rfl (hu _ he _ (by omega)) (fun hf => hu _ (show e.val + 16 < 32 by change e.val % (2 * 16) < 16 at hf; omega) _ (show e.val + 16 = 0 + (e.val + 16) by omega)) (fun hf => hu _ (show e.val - 16 < 32 by omega) _ (show e.val - 16 = 0 + (e.val - 16) by omega)) rfl rfl)
  · rw [if_neg he, if_neg he]
    refine Eq.trans (b := half2 (extractStridedSlice S8x8192x2x32 ![0, 0, 0, 32] t slices_S8x8192x2x64_S8x8192x2x32_0_0_0_32) cc cs (ix4 n r h ⟨e.val - 32, by omega⟩)) ?_ ?_
    · unfold axial2
      generalize half2 (extractStridedSlice S8x8192x2x32 ![0, 0, 0, 0] t slices_S8x8192x2x64_S8x8192x2x32_0_0_0_0) rc rs = u
      generalize half2 (extractStridedSlice S8x8192x2x32 ![0, 0, 0, 32] t slices_S8x8192x2x64_S8x8192x2x32_0_0_0_32) cc cs = v
      pointwise
      rw [dif_neg he]
    · have hu := hs 32 (by omega) (extractStridedSlice S8x8192x2x32 ![0, 0, 0, 32] t slices_S8x8192x2x64_S8x8192x2x32_0_0_0_32) (fun k => by pointwise)
      have hm : (e.val - 32) % 16 = e.val % 16 := by omega
      refine (half2_at _ _ _ n r h ⟨e.val - 32, by omega⟩).trans (spin_congr (j' := e.val) (show (e.val - 32) % (2 * 16) = e.val % (2 * 16) by omega) (hu _ (show e.val - 32 < 32 by omega) _ (show e.val = 32 + (e.val - 32) by omega)) (fun hf => hu _ (show e.val - 32 + 16 < 32 by change (e.val - 32) % (2 * 16) < 16 at hf; omega) _ (show e.val + 16 = 32 + (e.val - 32 + 16) by omega)) (fun hf => hu _ (show e.val - 32 - 16 < 32 by omega) _ (show e.val - 16 = 32 + (e.val - 32 - 16) by change ¬(e.val - 32) % (2 * 16) < 16 at hf; omega)) ?_ ?_)
      · exact congrArg (fun k => cc (ix2 r (Fin.ofNat 16 k))) hm
      · exact congrArg (fun k => cs (ix2 r (Fin.ofNat 16 k))) hm

/-- Eight heads normalized by the root of their mean square and scaled. -/
def rms8 (t : FVec Ideal S8x8192x8x64 .f32) (g : FVec Ideal S64 .f32) : FVec Ideal S8x8192x8x64 .f32 :=
  have q := Host.reduceAdd (mulf t t) (constant (F := Ideal) S_ .f32 0x00000000#32) reducesTo_S8x8192x8x64_S8x8192x8_d3 h_S_
  have d := Host.divf (broadcastInDim S8x8192x8x1 ![0, 1, 2] bcast_S8x8192x8_S8x8192x8x1_0_1_2 q) (broadcastInDim S8x8192x8x1 ![] bcast_S_S8x8192x8x1 (constant (F := Ideal) S_ .f32 0x42800000#32))
  have i := Host.rsqrt (addf d (broadcastInDim S8x8192x8x1 ![] bcast_S_S8x8192x8x1 (constant (F := Ideal) S_ .f32 0x358637BD#32)))
  mulf (mulf t (broadcastInDim S8x8192x8x64 ![0, 1, 2, 3] bcast_S8x8192x8x1_S8x8192x8x64_0_1_2_3 i)) (broadcastInDim S8x8192x8x64 ![0, 1, 2, 3] bcast_S1x1x1x64_S8x8192x8x64_0_1_2_3 (broadcastInDim S1x1x1x64 ![3] bcast_S64_S1x1x1x64_3 g))

theorem rms8_at (t : FVec Ideal S8x8192x8x64 .f32) (g : FVec Ideal S64 .f32) (n : Fin 8) (r : Fin 8192) (h : Fin 8) (e : Fin 64) :
    rms8 t g (ix4 n r h e) = t (ix4 n r h e) * Ideal.rsqrt (Ideal.div (∑ k : Fin 64, t (ix4 n r h k) * t (ix4 n r h k)) (Ideal.ofBits FTy.f32 0x42800000#32) + Ideal.ofBits FTy.f32 0x358637BD#32) * g (ix1 e) := by
  pointwise [rms8]

/-- The same of two heads. -/
def rms2 (t : FVec Ideal S8x8192x2x64 .f32) (g : FVec Ideal S64 .f32) : FVec Ideal S8x8192x2x64 .f32 :=
  have q := Host.reduceAdd (mulf t t) (constant (F := Ideal) S_ .f32 0x00000000#32) reducesTo_S8x8192x2x64_S8x8192x2_d3 h_S_
  have d := Host.divf (broadcastInDim S8x8192x2x1 ![0, 1, 2] bcast_S8x8192x2_S8x8192x2x1_0_1_2 q) (broadcastInDim S8x8192x2x1 ![] bcast_S_S8x8192x2x1 (constant (F := Ideal) S_ .f32 0x42800000#32))
  have i := Host.rsqrt (addf d (broadcastInDim S8x8192x2x1 ![] bcast_S_S8x8192x2x1 (constant (F := Ideal) S_ .f32 0x358637BD#32)))
  mulf (mulf t (broadcastInDim S8x8192x2x64 ![0, 1, 2, 3] bcast_S8x8192x2x1_S8x8192x2x64_0_1_2_3 i)) (broadcastInDim S8x8192x2x64 ![0, 1, 2, 3] bcast_S1x1x1x64_S8x8192x2x64_0_1_2_3 (broadcastInDim S1x1x1x64 ![3] bcast_S64_S1x1x1x64_3 g))

theorem rms2_at (t : FVec Ideal S8x8192x2x64 .f32) (g : FVec Ideal S64 .f32) (n : Fin 8) (r : Fin 8192) (h : Fin 2) (e : Fin 64) :
    rms2 t g (ix4 n r h e) = t (ix4 n r h e) * Ideal.rsqrt (Ideal.div (∑ k : Fin 64, t (ix4 n r h k) * t (ix4 n r h k)) (Ideal.ofBits FTy.f32 0x42800000#32) + Ideal.ofBits FTy.f32 0x358637BD#32) * g (ix1 e) := by
  pointwise [rms2]

theorem v0_at (x : FVec Ideal S8x8192x1024 .f32) (w : FVec Ideal S1024x2304 .f32) (n : Fin 8) (r : Fin 8192) (j : Fin 2304) :
    val_main_v0 (F := Ideal) x w (ix3 n r j) = col (fun d => x (ix3 n r d)) (fun d k => w (ix2 d k)) j.val := by
  refine Eq.trans ?_ (col_of _ _ _ j rfl)
  pointwise [val_main_v0]

theorem v26_at (x : FVec Ideal S8x8192x1024 .f32) (w : FVec Ideal S1024x2304 .f32) (n : Fin 8) (r : Fin 8192) (h : Fin 8) (e : Fin 64) :
    val_main_v26 (F := Ideal) x w (ix4 n r h e) = col (fun d => x (ix3 n r d)) (fun d k => w (ix2 d k)) (0 + (h.val * 64 + e.val)) := by
  refine Eq.trans ?_ ((v0_at x w n r ⟨0 + (h.val * 64 + e.val), by omega⟩))
  unfold val_main_v26 val_main_v1
  generalize val_main_v0 (F := Ideal) x w = y
  pointwise
theorem v48_at (x : FVec Ideal S8x8192x1024 .f32) (w : FVec Ideal S1024x2304 .f32) (n : Fin 8) (r : Fin 8192) (h : Fin 8) (e : Fin 64) :
    val_main_v48 (F := Ideal) x w (ix4 n r h e) = col (fun d => x (ix3 n r d)) (fun d k => w (ix2 d k)) (512 + (h.val * 64 + e.val)) := by
  refine Eq.trans ?_ ((v0_at x w n r ⟨512 + (h.val * 64 + e.val), by omega⟩))
  unfold val_main_v48 val_main_v2
  generalize val_main_v0 (F := Ideal) x w = y
  pointwise

theorem v265_at (x : FVec Ideal S8x8192x1024 .f32) (w : FVec Ideal S1024x2304 .f32) (n : Fin 8) (r : Fin 8192) (j : Fin 512) :
    val_main_v265 (F := Ideal) x w (ix3 n r j) = val_main_v45 (F := Ideal) x w (ix4 n r ⟨j.val / 64, by omega⟩ ⟨j.val % 64, by omega⟩) * Ideal.ofBits FTy.f32 0x3E000000#32 := by
  unfold val_main_v265 val_main_v264 val_main_v47 val_main_v46 val_main_cst_3
  generalize val_main_v45 (F := Ideal) x w = y
  pointwise
theorem v267_at (x : FVec Ideal S8x8192x1024 .f32) (w : FVec Ideal S1024x2304 .f32) (n : Fin 8) (r : Fin 8192) (j : Fin 512) :
    val_main_v267 (F := Ideal) x w (ix3 n r j) = val_main_v67 (F := Ideal) x w (ix4 n r ⟨j.val / 64, by omega⟩ ⟨j.val % 64, by omega⟩) := by
  unfold val_main_v267 val_main_v266
  generalize val_main_v67 (F := Ideal) x w = y
  pointwise
theorem v268_at (x : FVec Ideal S8x8192x1024 .f32) (w : FVec Ideal S1024x2304 .f32) (n : Fin 8) (r : Fin 8192) (j : Fin 512) :
    val_main_v268 (F := Ideal) x w (ix3 n r j) = col (fun d => x (ix3 n r d)) (fun d k => w (ix2 d k)) (1024 + j.val) := by
  refine Eq.trans ?_ ((v0_at x w n r ⟨1024 + j.val, by omega⟩))
  unfold val_main_v268 val_main_v3
  generalize val_main_v0 (F := Ideal) x w = y
  pointwise

section
variable (x : FVec Ideal S8x8192x1024 .f32) (w : FVec Ideal S1024x2304 .f32) (g k : FVec Ideal S64 .f32)

theorem v68_at (n : Fin 8) (r : Fin 8192) (h : Fin 8) (e : Fin 64) :
    val_main_v68 (F := Ideal) x w (ix4 n r h e) = col (fun d => x (ix3 n r d)) (fun d k => w (ix2 d k)) (1536 + (h.val * 64 + e.val)) := by
  refine Eq.trans ?_ ((v0_at x w n r ⟨1536 + (h.val * 64 + e.val), by omega⟩))
  unfold val_main_v68 val_main_v4
  generalize val_main_v0 (F := Ideal) x w = y
  pointwise
theorem v164_at (n : Fin 8) (r : Fin 8192) (h : Fin 2) (e : Fin 64) :
    val_main_v164 (F := Ideal) x w (ix4 n r h e) = col (fun d => x (ix3 n r d)) (fun d k => w (ix2 d k)) (2048 + (h.val * 64 + e.val)) := by
  refine Eq.trans ?_ ((v0_at x w n r ⟨2048 + (h.val * 64 + e.val), by omega⟩))
  unfold val_main_v164 val_main_v5
  generalize val_main_v0 (F := Ideal) x w = y
  pointwise

theorem v81_eq : val_main_v81 (F := Ideal) x w g = rms8 (val_main_v68 (F := Ideal) x w) g := rfl
theorem v177_eq : val_main_v177 (F := Ideal) x w k = rms2 (val_main_v164 (F := Ideal) x w) k := rfl
theorem v161_eq : val_main_v161 (F := Ideal) x w g = axial8 (val_main_v81 (F := Ideal) x w g) (val_main_v102 (F := Ideal)) (val_main_v103 (F := Ideal)) (val_main_v140 (F := Ideal)) (val_main_v141 (F := Ideal)) := rfl
theorem v257_eq : val_main_v257 (F := Ideal) x w k = axial2 (val_main_v177 (F := Ideal) x w k) (val_main_v102 (F := Ideal)) (val_main_v103 (F := Ideal)) (val_main_v140 (F := Ideal)) (val_main_v141 (F := Ideal)) := rfl

/-- A row's columns. -/
def cols (n : Fin 8) (r : Fin 8192) : ℕ → EReal := col (fun d => x (ix3 n r d)) (fun d k => w (ix2 d k))
/-- The angles' cosines and sines over the rows and columns of the grid, at a lane. -/
def axC (r : Fin 8192) (e : ℕ) : EReal := (if e % 64 < 32 then val_main_v102 (F := Ideal) else val_main_v140 (F := Ideal)) (ix2 r (Fin.ofNat 16 (e % 16)))
def axS (r : Fin 8192) (e : ℕ) : EReal := (if e % 64 < 32 then val_main_v103 (F := Ideal) else val_main_v141 (F := Ideal)) (ix2 r (Fin.ofNat 16 (e % 16)))
/-- The angles' cosines and sines over the positions, at a lane. -/
def poC (r : Fin 8192) (e : ℕ) : EReal := val_main_v24 (F := Ideal) (ix2 r (Fin.ofNat 32 (e % 32)))
def poS (r : Fin 8192) (e : ℕ) : EReal := val_main_v25 (F := Ideal) (ix2 r (Fin.ofNat 32 (e % 32)))

/-- A head's columns turned are the columns turned. -/
theorem spin_head {a : ℕ} (q p : ℕ → EReal) (h e : ℕ) (he : e < 64) (ha : a = 32 ∨ a = 16) (hq : ∀ k, k < 64 → q k = p (h * 64 + k)) (c s : EReal) :
    spin a q c s e = spin a p c s (h * 64 + e) := by
  rcases ha with rfl | rfl
  · exact spin_congr (by omega) (hq e he) (fun hf => (hq _ (by omega)).trans (congrArg p (by omega))) (fun hf => (hq _ (by omega)).trans (congrArg p (by omega))) rfl rfl
  · exact spin_congr (by omega) (hq e he) (fun hf => (hq _ (by omega)).trans (congrArg p (by omega))) (fun hf => (hq _ (by omega)).trans (congrArg p (by omega))) rfl rfl

theorem qa_at (n : Fin 8) (r : Fin 8192) (j : Fin 512) :
    val_main_v265 (F := Ideal) x w (ix3 n r j) = spin 32 (fun i => cols x w n r (0 + i)) (poC r j.val) (poS r j.val) j.val * Ideal.ofBits FTy.f32 0x3E000000#32 := by
  refine (v265_at x w n r j).trans (congrArg (· * _) ?_)
  rw [v45_eq, turned_at]
  refine (spin_head _ (fun i => cols x w n r (0 + i)) (j.val / 64) (j.val % 64) (by omega) (Or.inl rfl) (fun i hi => (v26_at x w n r _ _).trans (congrArg (cols x w n r) ?_)) _ _).trans
    (spin_congr (by omega) (congrArg _ (by omega)) (fun _ => congrArg _ (by omega)) (fun _ => congrArg _ (by omega)) (congrArg (fun i => val_main_v24 (F := Ideal) (ix2 r (Fin.ofNat 32 i))) ?_) (congrArg (fun i => val_main_v25 (F := Ideal) (ix2 r (Fin.ofNat 32 i))) ?_))
  · show 0 + (j.val / 64 * 64 + i % 64) = _
    omega
  · show j.val % 64 % 32 = j.val % 32
    omega
  · show j.val % 64 % 32 = j.val % 32
    omega
theorem ka_at (n : Fin 8) (r : Fin 8192) (j : Fin 512) :
    val_main_v267 (F := Ideal) x w (ix3 n r j) = spin 32 (fun i => cols x w n r (512 + i)) (poC r j.val) (poS r j.val) j.val := by
  refine (v267_at x w n r j).trans ?_
  rw [v67_eq, turned_at]
  refine (spin_head _ (fun i => cols x w n r (512 + i)) (j.val / 64) (j.val % 64) (by omega) (Or.inl rfl) (fun i hi => (v48_at x w n r _ _).trans (congrArg (cols x w n r) ?_)) _ _).trans
    (spin_congr (by omega) (congrArg _ (by omega)) (fun _ => congrArg _ (by omega)) (fun _ => congrArg _ (by omega)) (congrArg (fun i => val_main_v24 (F := Ideal) (ix2 r (Fin.ofNat 32 i))) ?_) (congrArg (fun i => val_main_v25 (F := Ideal) (ix2 r (Fin.ofNat 32 i))) ?_))
  · show 512 + (j.val / 64 * 64 + i % 64) = _
    omega
  · show j.val % 64 % 32 = j.val % 32
    omega
  · show j.val % 64 % 32 = j.val % 32
    omega

/-- A normalized head's entries are the columns normalized. -/
theorem nrm_head (t : Fin 64 → EReal) (p : ℕ → EReal) (g : FVec Ideal S64 .f32) (h : ℕ) (ht : ∀ e : Fin 64, t e = p (h * 64 + e.val)) (e : Fin 64) :
    t e * Ideal.rsqrt (Ideal.div (∑ k : Fin 64, t k * t k) (Ideal.ofBits FTy.f32 0x42800000#32) + Ideal.ofBits FTy.f32 0x358637BD#32) * g (ix1 e)
      = nrm p (fun i => g (ix1 (Fin.ofNat 64 i))) (h * 64 + e.val) := by
  have hd : 64 * ((h * 64 + e.val) / 64) = h * 64 := by omega
  have hm : Fin.ofNat 64 ((h * 64 + e.val) % 64) = e := Fin.ext (by show (h * 64 + e.val) % 64 % 64 = e.val; omega)
  unfold nrm
  simp only [hd, hm, ht]

/-- The normalized query columns, and the key's. -/
def qcols (n : Fin 8) (r : Fin 8192) : ℕ → EReal := nrm (fun i => cols x w n r (1536 + i)) (fun i => g (ix1 (Fin.ofNat 64 i)))
def kcols (n : Fin 8) (r : Fin 8192) : ℕ → EReal := nrm (fun i => cols x w n r (2048 + i)) (fun i => k (ix1 (Fin.ofNat 64 i)))

/-- A query entry: normalized, turned, scaled. -/
def qent (n : Fin 8) (r : Fin 8192) (j : ℕ) : EReal := spin 16 (qcols x w g n r) (axC r j) (axS r j) j * Ideal.ofBits FTy.f32 0x3E000000#32

theorem v163_at (n : Fin 8) (r : Fin 8192) (h : Fin 8) (e : Fin 64) :
    val_main_v163 (F := Ideal) x w g (ix4 n r h e) = qent x w g n r (h.val * 64 + e.val) := by
  refine Eq.trans (b := val_main_v161 (F := Ideal) x w g (ix4 n r h e) * Ideal.ofBits FTy.f32 0x3E000000#32) ?_ (congrArg (· * _) ?_)
  · unfold val_main_v163 val_main_v162 val_main_cst_16
    generalize val_main_v161 (F := Ideal) x w g = y
    pointwise
  · rw [v161_eq, axial8_at, v81_eq]
    refine (spin_head _ (qcols x w g n r) h.val e.val e.isLt (Or.inr rfl) (fun i hi => (rms8_at _ _ n r h _).trans
      ((nrm_head _ (fun i => cols x w n r (1536 + i)) g h.val (fun e => v68_at x w n r h e) _).trans (congrArg (qcols x w g n r) ?_))) _ _).trans
      (spin_congr rfl rfl (fun _ => rfl) (fun _ => rfl) ?_ ?_)
    · show h.val * 64 + i % 64 = _
      omega
    · unfold axC
      rw [show (h.val * 64 + e.val) % 64 = e.val by omega, show (h.val * 64 + e.val) % 16 = e.val % 16 by omega]
    · unfold axS
      rw [show (h.val * 64 + e.val) % 64 = e.val by omega, show (h.val * 64 + e.val) % 16 = e.val % 16 by omega]

theorem kb_at (n : Fin 8) (r : Fin 8192) (j : Fin 128) :
    val_main_v272 (F := Ideal) x w k (ix3 n r j) = spin 16 (kcols x w k n r) (axC r j.val) (axS r j.val) j.val := by
  refine Eq.trans (b := val_main_v257 (F := Ideal) x w k (ix4 n r ⟨j.val / 64, by omega⟩ ⟨j.val % 64, by omega⟩)) ?_ ?_
  · unfold val_main_v272 val_main_v271
    generalize val_main_v257 (F := Ideal) x w k = y
    pointwise
  · rw [v257_eq, axial2_at, v177_eq]
    have hj : j.val / 64 * 64 + j.val % 64 = j.val := by omega
    refine (spin_head _ (kcols x w k n r) (j.val / 64) (j.val % 64) (by omega) (Or.inr rfl) (fun i hi => (rms2_at _ _ n r ⟨j.val / 64, by omega⟩ _).trans
      ((nrm_head _ (fun i => cols x w n r (2048 + i)) k (j.val / 64) (fun e => v164_at x w n r ⟨j.val / 64, by omega⟩ e) _).trans (congrArg (kcols x w k n r) ?_))) _ _).trans
      (spin_congr (congrArg (· % (2 * 16)) hj) (congrArg (kcols x w k n r) hj) (fun _ => congrArg (fun i => kcols x w k n r (i + 16)) hj) (fun _ => congrArg (fun i => kcols x w k n r (i - 16)) hj) ?_ ?_)
    · show j.val / 64 * 64 + i % 64 = _
      omega
    · exact congrArg (fun i => (if j.val % 64 < 32 then val_main_v102 (F := Ideal) else val_main_v140 (F := Ideal)) (ix2 r (Fin.ofNat 16 i))) (show j.val % 64 % 16 = j.val % 16 by omega)
    · exact congrArg (fun i => (if j.val % 64 < 32 then val_main_v103 (F := Ideal) else val_main_v141 (F := Ideal)) (ix2 r (Fin.ofNat 16 i))) (show j.val % 64 % 16 = j.val % 16 by omega)

theorem vb_at (n : Fin 8) (r : Fin 8192) (j : Fin 128) :
    val_main_v273 (F := Ideal) x w (ix3 n r j) = cols x w n r (2176 + j.val) := by
  refine Eq.trans ?_ ((v0_at x w n r ⟨2176 + j.val, by omega⟩))
  unfold val_main_v273 val_main_v6
  generalize val_main_v0 (F := Ideal) x w = y
  pointwise

/-- The queries laid out: a head beside zeros, on the side its key's head lies. -/
theorem qb_at (n : Fin 8) (r : Fin 8192) (j : Fin 1024) :
    val_main_v270 (F := Ideal) x w g (ix3 n r j) = if (j.val < 512 ↔ j.val % 128 < 64) then qent x w g n r (j.val / 128 * 64 + j.val % 64) else 0 := by
  have e : val_main_v270 (F := Ideal) x w g (ix3 n r j) = if (j.val < 512 ↔ j.val % 128 < 64) then val_main_v163 (F := Ideal) x w g (ix4 n r ⟨j.val / 128, by omega⟩ ⟨j.val % 64, by omega⟩) else 0 := by
    unfold val_main_v270 val_main_v269 val_main_v263 val_main_v262 val_main_v261 val_main_v260 val_main_v259 val_main_v258 val_main_cst_30
    generalize val_main_v163 (F := Ideal) x w g = y
    pointwise
    by_cases h : j.val / 128 < 4 <;> by_cases hl : j.val % 128 < 64
    · exact (dif_pos h).trans ((dif_pos hl).trans ((congrArg (fun z => y (ix4 n r ⟨j.val / 128, by omega⟩ z)) (Fin.ext (show j.val % 128 = j.val % 64 by omega))).trans (if_pos (by omega)).symm))
    · exact (dif_pos h).trans ((dif_neg hl).trans (if_neg (by omega)).symm)
    · exact (dif_neg h).trans ((dif_pos hl).trans (if_neg (by omega)).symm)
    · exact (dif_neg h).trans ((dif_neg hl).trans ((congrArg₂ (fun a z => y (ix4 n r a z)) (Fin.ext (show 4 + (j.val / 128 - 4) = j.val / 128 by omega)) (Fin.ext (show j.val % 128 - 64 = j.val % 64 by omega))).trans (if_pos (by omega)).symm))
  rw [e, v163_at]

end

end Cert.ProjRefIdeal.At
-- ==== Proof.ProjHost.lean ====
/-
  The arrays the projection kernel reads, at an entry: the host's tables are the reference's angles laid over a lane pair of heads.
-/
module

public import proofs.«01_k».proof.Defs
public import proofs.«01_k».proof.Proof.ProjRef
public import proofs.«01_k».proof.Proof.Gen.ProjIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.At

open Cert.ProjIdeal Cert.ProjIdeal.Gen Cert.ProjRow
open Cert.ProjRefIdeal.Read (val_main_v24 val_main_v25 val_main_v102 val_main_v103 val_main_v140 val_main_v141)

variable (m : (ℓ : Loc nD τ sig) → Buf (Elt Ideal) ℓ)

/-- A 64-lane table repeated for two heads. -/
def twice (y : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 y shapeCasts_S8192x64_S1x8192x1x64)) shapeCasts_S1x8192x2x64_S8192x128

theorem twice_at (y : FVec Ideal S8192x64 .f32) (r : Fin 8192) (l : Fin 128) : twice y (ix2 r l) = y (ix2 r ⟨l.val % 64, by omega⟩) := by
  pointwise [twice]

def two (a b : FVec Ideal S8192x32 .f32) : FVec Ideal S8192x64 .f32 := concatenate S8192x64 1 [⟨S8192x32, a⟩, ⟨S8192x32, b⟩] concatenates_S8192x32_S8192x32_S8192x64_d1
def four (a b c d : FVec Ideal S8192x16 .f32) : FVec Ideal S8192x64 .f32 := concatenate S8192x64 1 [⟨S8192x16, a⟩, ⟨S8192x16, b⟩, ⟨S8192x16, c⟩, ⟨S8192x16, d⟩] concatenates_S8192x16_S8192x16_S8192x16_S8192x16_S8192x64_d1

theorem two_at (a b : FVec Ideal S8192x32 .f32) (r : Fin 8192) (e : Fin 64) :
    two a b (ix2 r e) = (if e.val < 32 then a else b) (ix2 r (Fin.ofNat 32 (e.val % 32))) := by
  by_cases h : e.val < 32
  · rw [if_pos h]
    pointwise [two]
    exact (dif_pos h).trans (congrArg (fun z => a (ix2 r z)) (Fin.ext (show e.val = e.val % 32 % 32 by omega)))
  · rw [if_neg h]
    pointwise [two]
    exact (dif_neg h).trans (congrArg (fun z => b (ix2 r z)) (Fin.ext (show e.val - 32 = e.val % 32 % 32 by omega)))
theorem four_at (a b c d : FVec Ideal S8192x16 .f32) (r : Fin 8192) (e : Fin 64) :
    four a b c d (ix2 r e) = (if e.val < 32 then (if e.val % 32 < 16 then a else b) else (if e.val % 32 < 16 then c else d)) (ix2 r (Fin.ofNat 16 (e.val % 16))) := by
  pointwise [four]
  by_cases h1 : e.val < 16
  · exact (dif_pos h1).trans ((congrArg (fun z => a (ix2 r z)) (Fin.ext (show e.val = e.val % 16 % 16 by omega))).trans
      (congrFun ((if_pos (by omega)).trans (if_pos (by omega))).symm _))
  · by_cases h2 : e.val - 16 < 16
    · exact (dif_neg h1).trans ((dif_pos h2).trans ((congrArg (fun z => b (ix2 r z)) (Fin.ext (show e.val - 16 = e.val % 16 % 16 by omega))).trans
        (congrFun ((if_pos (by omega)).trans (if_neg (by omega))).symm _)))
    · by_cases h3 : e.val - 16 - 16 < 16
      · exact (dif_neg h1).trans ((dif_neg h2).trans ((dif_pos h3).trans ((congrArg (fun z => c (ix2 r z)) (Fin.ext (show e.val - 16 - 16 = e.val % 16 % 16 by omega))).trans
          (congrFun ((if_neg (by omega)).trans (if_pos (by omega))).symm _))))
      · exact (dif_neg h1).trans ((dif_neg h2).trans ((dif_neg h3).trans ((congrArg (fun z => d (ix2 r z)) (Fin.ext (show e.val - 16 - 16 - 16 = e.val % 16 % 16 by omega))).trans
          (congrFun ((if_neg (by omega)).trans (if_neg (by omega))).symm _))))
theorem V_0 (c : Dev nD) : V m c main_arg0 = m (c, Proc.tc.devRef main_arg0) := by
  entry_read
  rfl
theorem V_1 (c : Dev nD) : V m c main_v92 = truncf (s := S1024x2304) (F := Ideal) FTy.bf16 (m (c, Proc.tc.devRef main_arg1)) bitsLt_bf16_f32 := by
  entry_read
  rfl
theorem V_2 (c : Dev nD) : V m c main_v22 = twice (two (val_main_v24 (F := Ideal)) (val_main_v24 (F := Ideal))) := by
  entry_read
  rfl
theorem V_3 (c : Dev nD) : V m c main_v27 = twice (two (Host.negf (val_main_v25 (F := Ideal))) (val_main_v25 (F := Ideal))) := by
  entry_read
  rfl
theorem V_45 (c : Dev nD) : V m c main_v45 = val_main_v102 (F := Ideal) := by
  entry_read
  rfl
theorem V_46 (c : Dev nD) : V m c main_v46 = val_main_v103 (F := Ideal) := by
  entry_read
  rfl
theorem V_64 (c : Dev nD) : V m c main_v64 = val_main_v140 (F := Ideal) := by
  entry_read
  rfl
theorem V_65 (c : Dev nD) : V m c main_v65 = val_main_v141 (F := Ideal) := by
  entry_read
  rfl
set_option maxHeartbeats 4000000 in
theorem V_4 (c : Dev nD) : V m c main_v69 = twice (four (V m c main_v45) (V m c main_v45) (V m c main_v64) (V m c main_v64)) := by
  entry_read
  rfl
set_option maxHeartbeats 4000000 in
theorem V_5 (c : Dev nD) : V m c main_v75 = twice (four (Host.negf (V m c main_v46)) (V m c main_v46) (Host.negf (V m c main_v65)) (V m c main_v65)) := by
  entry_read
  rfl
/-- A gain repeated for two heads. -/
def gains (g : FVec Ideal S64 .f32) : FVec Ideal S1x128 .f32 :=
  broadcastInDim S1x128 ![1] bcast_S128_S1x128_1 (shapeCast S128 (broadcastInDim S2x64 ![0, 1] bcast_S1x64_S2x64_0_1 (shapeCast S1x64 g shapeCasts_S64_S1x64)) shapeCasts_S2x64_S128)
theorem gains_at (g : FVec Ideal S64 .f32) (l : Fin 128) : gains g (ix2 0 l) = g (ix1 (Fin.ofNat 64 (l.val % 64))) := by
  pointwise [gains]
  exact congrArg (fun z => g (ix1 z)) (Fin.ext (show l.val % 64 = l.val % 64 % 64 by omega))
theorem V_6 (c : Dev nD) : V m c main_v79 = gains (m (c, Proc.tc.devRef main_arg2)) := by
  entry_read
  rfl
theorem V_7 (c : Dev nD) : V m c main_v83 = gains (m (c, Proc.tc.devRef main_arg3)) := by
  entry_read
  rfl

/-- Which head of the pair a lane belongs to. -/
def lanehead : IVec S128 32 :=
  have i := iotaInDim S128 32 0
  have k := constantI S_ 32 64#32
  have kk := broadcastInDim S128 ![] bcast_S_S128 k
  have q := Host.divsi i kk
  select (andi (cmpi .ne (signi i) (broadcastInDim S128 ![] bcast_S_S128 (signi k))) (cmpi .ne (Host.remsi i kk) (broadcastInDim S128 ![] bcast_S_S128 (constantI S_ 32 0#32))))
    (subi q (broadcastInDim S128 ![] bcast_S_S128 (constantI S_ 32 1#32))) q
theorem lanehead_at (l : Fin 128) : lanehead (ix1 l) = BitVec.ofNat 32 (l.val / 64) := by
  revert l
  decide +kernel
def samehead : FVec Ideal S128x128 .bf16 :=
  uitofp .bf16 (cmpi .eq (broadcastInDim S128x128 ![0, 1] bcast_S128x1_S128x128_0_1 (broadcastInDim S128x1 ![0] bcast_S128_S128x1_0 lanehead))
    (broadcastInDim S128x128 ![0, 1] bcast_S1x128_S128x128_0_1 (broadcastInDim S1x128 ![1] bcast_S128_S1x128_1 lanehead)))
theorem samehead_at (a b : Fin 128) : samehead (ix2 a b) = if a.val / 64 = b.val / 64 then 1 else 0 := by
  unfold samehead
  have h : ∀ l : Fin 128, lanehead (ix1 l) = BitVec.ofNat 32 (l.val / 64) := lanehead_at
  generalize lanehead = y at h ⊢
  pointwise
  rw [h, h]
  by_cases he : a.val / 64 = b.val / 64
  · rw [if_pos he, he]
    simp [IntOp.cmpi, FloatOps.uitofp]
  · rw [if_neg he]
    have hn : BitVec.ofNat 32 (a.val / 64) ≠ BitVec.ofNat 32 (b.val / 64) := by
      intro hb
      have := congrArg BitVec.toNat hb
      simp only [BitVec.toNat_ofNat] at this
      omega
    simp [IntOp.cmpi, FloatOps.uitofp, hn]
theorem V_8 (c : Dev nD) : V m c main_v91 = samehead := by
  entry_read
  rfl

end Cert.ProjIdeal.At
-- ==== Proof.ProjTile.lean ====
/-
  The projection kernel's tile at an entry: its matrix products, its masks, its rotations and the turn they make.
-/
module

public import proofs.«01_k».proof.Defs
public import proofs.«01_k».proof.Proof.ProjRow
public import proofs.«01_k».proof.Proof.Flash
public import proofs.«01_k».proof.Proof.Gen.ProjIdeal.Frame
public import Idealize.ShloMosaic.Lib.Pipeline.ValueKit
public import Idealize.ShloMosaic.Lib.KernelVsHost

@[expose] public section

set_option maxRecDepth 16384

noncomputable section

open Idealize.ShloMosaic

namespace Cert.ProjIdeal.At

open Cert.ProjIdeal Cert.ProjIdeal.Gen Cert.ProjRow Cert.Flash

/-- A tile's lanes moved around by `a`. -/
theorem moved_at (a : BitVec 32) (k : ℕ) (ha : a.toNat = k) (hk : k < 128) (t : FVec Ideal S512x128 .f32) (r : Fin 512) (l : Fin 128) :
    dynamicRotate 1 a none t rotates_S512x128_d1 (ix2 r l) = t (ix2 r ⟨(l.val + (128 - k)) % 128, Nat.mod_lt _ (by decide)⟩) := by
  refine dynamicRotate_apply _ _ _ _ _ _ fun b => ?_
  fin_cases b
  · rfl
  · subst ha
    show (l.val + (128 - a.toNat)) % 128 = (l.val + 128 - a.toNat % 128) % 128
    rw [Nat.mod_eq_of_lt hk]
    congr 1
    omega

theorem mask32_at (r : Fin 512) (l : Fin 128) : k0_pay3 (ix2 r l) = if l.val % 64 < 32 then 1#1 else 0#1 := by
  refine Eq.trans (b := k0_pay3 (ix2 0 l)) rfl ?_
  revert l
  decide +kernel
theorem mask16_at (r : Fin 512) (l : Fin 128) : k0_pay4 (ix2 r l) = if l.val % 32 < 16 then 1#1 else 0#1 := by
  refine Eq.trans (b := k0_pay4 (ix2 0 l)) rfl ?_
  revert l
  decide +kernel

/-- A tile turned as the kernel writes it: each lane and its mate, which one of two rotations brings. -/
def ktile (a b : BitVec 32) (mask : IVec S512x128 1) (t ca sa : FVec Ideal S512x128 .f32) : FVec Ideal S512x128 .f32 :=
  addf (mulf t ca) (mulf (select mask (dynamicRotate 1 a none t rotates_S512x128_d1) (dynamicRotate 1 b none t rotates_S512x128_d1)) sa)

theorem ktile_at (a b : BitVec 32) (h : ℕ) (hh : 0 < h) (h128 : h < 128) (ha : a.toNat = 128 - h) (hb : b.toNat = h) (mask : IVec S512x128 1)
    (hm : ∀ (r : Fin 512) (l : Fin 128), mask (ix2 r l) = if l.val % (2 * h) < h then 1#1 else 0#1)
    (t ca sa : FVec Ideal S512x128 .f32) (r : Fin 512) (l : Fin 128) :
    ktile a b mask t ca sa (ix2 r l) = t (ix2 r l) * ca (ix2 r l)
      + (if l.val % (2 * h) < h then t (ix2 r ⟨(l.val + h) % 128, Nat.mod_lt _ (by decide)⟩) else t (ix2 r ⟨(l.val + (128 - h)) % 128, Nat.mod_lt _ (by decide)⟩)) * sa (ix2 r l) := by
  have e : ktile a b mask t ca sa (ix2 r l) = t (ix2 r l) * ca (ix2 r l)
      + (if mask (ix2 r l) = 1#1 then dynamicRotate 1 a none t rotates_S512x128_d1 (ix2 r l) else dynamicRotate 1 b none t rotates_S512x128_d1 (ix2 r l)) * sa (ix2 r l) := rfl
  rw [e, moved_at a _ ha (by omega), moved_at b _ hb h128, hm]
  by_cases hl : l.val % (2 * h) < h
  · rw [if_pos hl, if_pos hl, if_pos rfl]
    exact congrArg (fun z => t (ix2 r l) * ca (ix2 r l) + t (ix2 r z) * sa (ix2 r l)) (Fin.ext (by show (l.val + (128 - (128 - h))) % 128 = (l.val + h) % 128; rw [show 128 - (128 - h) = h by omega]))
  · rw [if_neg hl, if_neg hl, if_neg (by decide)]

/-- A turned tile is the columns turned, when the tables carry the sine negated in the first half of every pair. -/
theorem ktile_spin (a b : BitVec 32) (h : ℕ) (h2 : h = 32 ∨ h = 16) (ha : a.toNat = 128 - h) (hb : b.toNat = h) (mask : IVec S512x128 1)
    (hm : ∀ (r : Fin 512) (l : Fin 128), mask (ix2 r l) = if l.val % (2 * h) < h then 1#1 else 0#1)
    (t ca sa : FVec Ideal S512x128 .f32) (r : Fin 512) (l : Fin 128) (o : ℕ) (ho : o % 128 = 0) (p : ℕ → EReal) (ht : ∀ i : Fin 128, t (ix2 r i) = p (o + i.val))
    (C S : EReal) (hc : ca (ix2 r l) = C) (hs : sa (ix2 r l) = if l.val % (2 * h) < h then -S else S) :
    ktile a b mask t ca sa (ix2 r l) = spin h p C S (o + l.val) := by
  rw [ktile_at a b h (by omega) (by omega) ha hb mask hm, hc, hs, ht]
  have hl := l.isLt
  have hmod : (o + l.val) % (2 * h) = l.val % (2 * h) := by rcases h2 with rfl | rfl <;> omega
  unfold spin
  rw [hmod]
  by_cases hlt : l.val % (2 * h) < h
  · have hn : (l.val + h) % 128 = l.val + h := by rcases h2 with rfl | rfl <;> omega
    rw [if_pos hlt, if_pos hlt, if_pos hlt, ht]
    exact congrArg (fun i => p (o + l.val) * C + p i * -S) (show o + (l.val + h) % 128 = o + l.val + h by omega)
  · have hn : (l.val + (128 - h)) % 128 = l.val - h ∧ h ≤ l.val := by rcases h2 with rfl | rfl <;> omega
    rw [if_neg hlt, if_neg hlt, if_neg hlt, ht]
    exact congrArg (fun i => p (o + l.val) * C + p i * S) (show o + (l.val + (128 - h)) % 128 = o + l.val - h by omega)

/-- The product of a tile of rows with a section of the weights. -/
theorem mm_at (x : FVec Ideal S512x1024 .bf16) (w : FVec Ideal S1024x512 .bf16) (r : Fin 512) (j : Fin 512) :
    k0_pay11 (F := Ideal) x w (ix2 r j) = ∑ d : Fin 1024, x (ix2 r d) * w (ix2 d j) := by
  pointwise [k0_pay11]
theorem mm256_at (x : FVec Ideal S512x1024 .bf16) (w : FVec Ideal S1024x256 .bf16) (r : Fin 512) (j : Fin 256) :
    k0_pay54 (F := Ideal) x w (ix2 r j) = ∑ d : Fin 1024, x (ix2 r d) * w (ix2 d j) := by
  pointwise [k0_pay54]
theorem rows_at (x : FVec Ideal S1x512x1024 .f32) (r : Fin 512) (d : Fin 1024) : k0_pay2 (F := Ideal) x (ix2 r d) = x (ix3 0 r d) := by
  pointwise [k0_pay2]

/-- A row's columns in a tile. -/
def tcols (x : FVec Ideal S1x512x1024 .f32) (w : FVec Ideal S1024x2304 .bf16) (r : Fin 512) : ℕ → EReal := col (fun d => x (ix3 0 r d)) (fun d k => w (ix2 d k))

theorem sec_at (x : FVec Ideal S1x512x1024 .f32) (w : FVec Ideal S1024x2304 .bf16) (o : ℕ) (u : FVec Ideal S1024x512 .bf16)
    (ho : o + 512 ≤ 2304) (hu : ∀ (d : Fin 1024) (j : Fin 512), u (ix2 d j) = w (ix2 d ⟨o + j.val, by omega⟩)) (r : Fin 512) (j : Fin 512) :
    k0_pay11 (F := Ideal) (k0_pay2 (F := Ideal) x) u (ix2 r j) = tcols x w r (o + j.val) := by
  rw [mm_at]
  simp only [rows_at, hu]
  exact col_of (fun d => x (ix3 0 r d)) (fun d k => w (ix2 d k)) (o + j.val) ⟨o + j.val, by omega⟩ rfl
theorem sec256_at (x : FVec Ideal S1x512x1024 .f32) (w : FVec Ideal S1024x2304 .bf16) (o : ℕ) (u : FVec Ideal S1024x256 .bf16)
    (ho : o + 256 ≤ 2304) (hu : ∀ (d : Fin 1024) (j : Fin 256), u (ix2 d j) = w (ix2 d ⟨o + j.val, by omega⟩)) (r : Fin 512) (j : Fin 256) :
    k0_pay54 (F := Ideal) (k0_pay2 (F := Ideal) x) u (ix2 r j) = tcols x w r (o + j.val) := by
  rw [mm256_at]
  simp only [rows_at, hu]
  exact col_of (fun d => x (ix3 0 r d)) (fun d k => w (ix2 d k)) (o + j.val) ⟨o + j.val, by omega⟩ rfl

/-- A load of whole columns of the weights reads them there. -/
theorem ldw_at {n : ℕ} (w : FVec Ideal S1024x2304 .bf16) (o : ℕ) (inb : ∀ a, (![0, o] : Fin 2 → ℕ) a + (![1024, n] : Fin 2 → ℕ) a ≤ S1024x2304.size a) (ho : o + n ≤ 2304) (d : Fin 1024) (j : Fin n) :
    View.ld (Val := Elt Ideal) (e' := .bf16) w (Rect.unit (s := S1024x2304) ![0, o] ![1024, n] inb) (ix2 d j) = w (ix2 d ⟨o + j.val, by omega⟩) :=
  congrArg w (funext fun a => by fin_cases a <;> exact Fin.ext (by simp [ix2, Rect.unit]))

/-- A tile as it is stored: scaled, and laid as one sequence's. -/
def stored (t : FVec Ideal S512x128 .f32) (z : BitVec 32) : FVec Ideal S1x512x128 .bf16 :=
  shapeCast S1x512x128 (truncf .bf16 (mulf t (broadcast S512x128 (Scalar.ofBits (F := Ideal) .f32 z))) bitsLt_bf16_f32) shapeCasts_S512x128_S1x512x128
theorem stored_at (t : FVec Ideal S512x128 .f32) (z : BitVec 32) (r : Fin 512) (l : Fin 128) :
    stored t z (ix3 0 r l) = t (ix2 r l) * Ideal.ofBits FTy.f32 z := by
  pointwise [stored]

/-- A chosen tile as it is stored. -/
def chosen (mask : IVec S512x128 1) (y z : FVec Ideal S512x128 .f32) : FVec Ideal S1x512x128 .bf16 :=
  shapeCast S1x512x128 (truncf .bf16 (select mask y z) bitsLt_bf16_f32) shapeCasts_S512x128_S1x512x128
theorem chosen_at (mask : IVec S512x128 1) (y z : FVec Ideal S512x128 .f32) (r : Fin 512) (l : Fin 128) :
    chosen mask y z (ix3 0 r l) = if mask (ix2 r l) = 1#1 then y (ix2 r l) else z (ix2 r l) := by
  pointwise [chosen]
  rfl

/-- A sum over a pair of heads that one head's indicator cuts is that head's. -/
theorem sum_head (f : Fin 128 → EReal) (a : ℕ) (ha : a < 2) :
    ∑ k : Fin 128, f k * (if k.val / 64 = a then 1 else 0) = ∑ e : Fin 64, f ⟨64 * a + e.val, by omega⟩ := by
  rw [Fin.sum_univ_add (a := 64) (b := 64) (fun k : Fin (64 + 64) => f k * (if k.val / 64 = a then 1 else 0))]
  have h1 : ∀ e : Fin 64, (Fin.castAdd 64 e : Fin (64 + 64)).val / 64 = 0 := fun e => by simp
  have h2 : ∀ e : Fin 64, (Fin.natAdd 64 e : Fin (64 + 64)).val / 64 = 1 := fun e => by simp
  simp only [h1, h2]
  obtain rfl | rfl : a = 0 ∨ a = 1 := by omega
  · simp only [if_pos, mul_one, one_ne_zero, if_false, mul_zero, Finset.sum_const_zero, add_zero]
    exact Finset.sum_congr rfl fun e _ => congrArg f (Fin.ext (by simp))
  · simp only [zero_ne_one, if_false, if_pos, mul_one, mul_zero, Finset.sum_const_zero, zero_add]
    exact Finset.sum_congr rfl fun e _ => congrArg f (Fin.ext (by simp [add_comm]))

/-- A tile normalized as the kernel does: the squares' sums over a head come from two products with the same-head matrix, of the squares and of what rounding left of them. -/
def normed (t : FVec Ideal S512x128 .f32) (gs : FVec Ideal S128x128 .bf16) (g : FVec Ideal S1x128 .f32) : FVec Ideal S512x128 .f32 :=
  have sq := mulf t t
  have hi := truncf .bf16 sq bitsLt_bf16_f32
  have lo := truncf .bf16 (subf sq (extf .f32 hi bitsLt_bf16_f32)) bitsLt_bf16_f32
  have z := constant (F := Ideal) S512x128 .f32 0x00000000#32
  have s := addf (matmul dot_S512x128_S128x128_S512x128_1_0_0_1_n_n none hi gs z) (matmul dot_S512x128_S128x128_S512x128_1_0_0_1_n_n none lo gs z)
  have v := addf (mulf s (broadcast S512x128 (Scalar.ofBits (F := Ideal) .f32 0x3C800000#32))) (broadcast S512x128 (Scalar.ofBits (F := Ideal) .f32 0x358637BD#32))
  mulf (mulf t (rsqrt v)) (broadcastTo S512x128 g broadcasts_S1x128_S512x128)

theorem normed_at (t : FVec Ideal S512x128 .f32) (gs : FVec Ideal S128x128 .bf16) (g : FVec Ideal S1x128 .f32) (r : Fin 512) (l : Fin 128) :
    normed t gs g (ix2 r l) = t (ix2 r l) * Ideal.rsqrt ((∑ k : Fin 128, t (ix2 r k) * t (ix2 r k) * gs (ix2 k l) + ∑ k : Fin 128, (t (ix2 r k) * t (ix2 r k) - t (ix2 r k) * t (ix2 r k)) * gs (ix2 k l))
      * Ideal.ofBits FTy.f32 0x3C800000#32 + Ideal.ofBits FTy.f32 0x358637BD#32) * g (ix2 0 l) := by
  pointwise [normed]

/-- A sixty-fourth of a sum is the sum divided by sixty-four. -/
theorem div64 (s : EReal) : s * Ideal.ofBits FTy.f32 0x3C800000#32 = Ideal.div s (Ideal.ofBits FTy.f32 0x42800000#32) := by
  have h1 : Ideal.ofBits FTy.f32 0x42800000#32 = ((64 : ℝ) : EReal) := by
    simp [Ideal.ofBits, Ideal.ieee]
    rw [← EReal.coe_mul]
    congr 1
    norm_num
  have h2 : Ideal.ofBits FTy.f32 0x3C800000#32 = ((64⁻¹ : ℝ) : EReal) := by
    simp [Ideal.ofBits, Ideal.ieee]
    rw [← EReal.coe_mul]
    congr 1
    norm_num
  rw [h1, h2, Ideal.div_coe (by norm_num), one_div]

/-- With real columns the normalized tile is the columns normalized. -/
theorem normed_nrm (t : FVec Ideal S512x128 .f32) (gs : FVec Ideal S128x128 .bf16) (g : FVec Ideal S1x128 .f32) (r : Fin 512) (o : ℕ) (ho : o % 128 = 0)
    (p q : ℕ → EReal) (ht : ∀ i : Fin 128, t (ix2 r i) = p (o + i.val)) (hp : ∀ i : Fin 128, IsR (t (ix2 r i)))
    (hgs : ∀ a b : Fin 128, gs (ix2 a b) = if a.val / 64 = b.val / 64 then 1 else 0) (hg : ∀ i : Fin 128, g (ix2 0 i) = q (i.val % 64)) (l : Fin 128) :
    normed t gs g (ix2 r l) = nrm p q (o + l.val) := by
  have h0 : ∀ k : Fin 128, t (ix2 r k) * t (ix2 r k) - t (ix2 r k) * t (ix2 r k) = 0 := fun k => by
    obtain ⟨u, hu⟩ := (hp k).mul (hp k)
    rw [hu, ← EReal.coe_sub, sub_self]
    rfl
  have hl := l.isLt
  rw [normed_at]
  simp only [h0, zero_mul, Finset.sum_const_zero, add_zero, hgs]
  rw [sum_head (fun k => t (ix2 r k) * t (ix2 r k)) (l.val / 64) (by omega), div64, hg]
  unfold nrm
  rw [show 64 * ((o + l.val) / 64) = o + 64 * (l.val / 64) by omega, show (o + l.val) % 64 = l.val % 64 by omega]
  simp only [ht, Nat.add_assoc]

end Cert.ProjIdeal.At
-- ==== Proof.ProjKernel.lean ====
/-
  What the projection kernel leaves in each result's block, at every entry.
-/
module

public import proofs.«01_k».proof.Defs
public import proofs.«01_k».proof.Proof.ProjTile

@[expose] public section

set_option maxRecDepth 16384

noncomputable section

open Idealize.ShloMosaic

namespace Cert.ProjIdeal.At

open Cert.ProjIdeal Cert.ProjIdeal.Gen Cert.ProjRow Cert.Flash

/-! ## Turned columns, stored in four pieces -/

/-- A block of turned columns, scaled. -/
def turnedG (P : Fin 512 → ℕ → EReal) (C S : Fin 512 → ℕ → EReal) (z : BitVec 32) : S1x512x512.Idx → EReal :=
  fun y => spin 32 (P (y 1)) (C (y 1) (y 2).val) (S (y 1) (y 2).val) (y 2).val * Ideal.ofBits FTy.f32 z

theorem piece_emb {n : ℕ} (inb : ∀ a, (![0, 0, n] : Fin 3 → ℕ) a + S1x512x128.size a ≤ S1x512x512.size a) (hn : n + 128 ≤ 512) (r : Fin 512) (l : Fin 128) :
    (Rect.unit (s := S1x512x512) ![0, 0, n] S1x512x128.size inb).emb (ix3 0 r l) = ix3 0 r ⟨n + l.val, by omega⟩ :=
  funext fun a => Fin.ext (match a with
    | ⟨0, _⟩ => rfl
    | ⟨1, _⟩ => show 0 + 1 * r.val = r.val by omega
    | ⟨2, _⟩ => show n + 1 * l.val = n + l.val by omega)
theorem wide_emb {n : ℕ} (inb : ∀ a, (![0, 0, n] : Fin 3 → ℕ) a + S1x512x128.size a ≤ S1x512x1024.size a) (hn : n + 128 ≤ 1024) (r : Fin 512) (l : Fin 128) :
    (Rect.unit (s := S1x512x1024) ![0, 0, n] S1x512x128.size inb).emb (ix3 0 r l) = ix3 0 r ⟨n + l.val, by omega⟩ :=
  funext fun a => Fin.ext (match a with
    | ⟨0, _⟩ => rfl
    | ⟨1, _⟩ => show 0 + 1 * r.val = r.val by omega
    | ⟨2, _⟩ => show n + 1 * l.val = n + l.val by omega)

theorem ix_of (x : S1x512x128.Idx) : ∃ (r : Fin 512) (l : Fin 128), x = ix3 0 r l :=
  ⟨x 1, x 2, funext fun a => by fin_cases a <;> first | rfl | exact Subsingleton.elim (α := Fin 1) _ _⟩

theorem turned_piece (P C S : Fin 512 → ℕ → EReal) (M : FVec Ideal S512x512 .f32) (hM : ∀ r j : Fin 512, M (ix2 r j) = P r j.val)
    (ca sa : FVec Ideal S512x128 .f32) (hca : ∀ (r : Fin 512) (l : Fin 128) (o : ℕ), o % 128 = 0 → ca (ix2 r l) = C r (o + l.val))
    (hsa : ∀ (r : Fin 512) (l : Fin 128) (o : ℕ), o % 128 = 0 → sa (ix2 r l) = if l.val % 64 < 32 then -S r (o + l.val) else S r (o + l.val))
    (z : BitVec 32) (o : ℕ) (ho : o % 128 = 0) (ho' : o + 128 ≤ 512) (t : FVec Ideal S512x128 .f32)
    (ht : ∀ (r : Fin 512) (l : Fin 128), t (ix2 r l) = M (ix2 r ⟨o + l.val, by omega⟩))
    (inb : ∀ a, (![0, 0, o] : Fin 3 → ℕ) a + S1x512x128.size a ≤ S1x512x512.size a) (x : S1x512x128.Idx) :
    stored (ktile 96#32 32#32 k0_pay3 t ca sa) z x = turnedG P C S z ((Rect.unit (s := S1x512x512) ![0, 0, o] S1x512x128.size inb).emb x) := by
  obtain ⟨r, l, rfl⟩ := ix_of x
  rw [piece_emb inb ho', stored_at]
  exact congrArg (· * _) (ktile_spin 96#32 32#32 32 (Or.inl rfl) rfl rfl k0_pay3 mask32_at t ca sa r l o ho (P r) (fun i => (ht r i).trans (hM r _)) _ _ (hca r l o ho) (hsa r l o ho))

theorem cut0 (M : FVec Ideal S512x512 .f32) (r : Fin 512) (l : Fin 128) : extractStridedSlice S512x128 ![0, 0] M slices_S512x512_o0_0_S512x128 (ix2 r l) = M (ix2 r ⟨0 + l.val, by omega⟩) := by pointwise
theorem cut1 (M : FVec Ideal S512x512 .f32) (r : Fin 512) (l : Fin 128) : extractStridedSlice S512x128 ![0, 128] M slices_S512x512_o0_128_S512x128 (ix2 r l) = M (ix2 r ⟨128 + l.val, by omega⟩) := by pointwise
theorem cut2 (M : FVec Ideal S512x512 .f32) (r : Fin 512) (l : Fin 128) : extractStridedSlice S512x128 ![0, 256] M slices_S512x512_o0_256_S512x128 (ix2 r l) = M (ix2 r ⟨256 + l.val, by omega⟩) := by pointwise
theorem cut3 (M : FVec Ideal S512x512 .f32) (r : Fin 512) (l : Fin 128) : extractStridedSlice S512x128 ![0, 384] M slices_S512x512_o0_384_S512x128 (ix2 r l) = M (ix2 r ⟨384 + l.val, by omega⟩) := by pointwise

section
variable (x0 : FVec Ideal S1x512x1024 .f32) (x1 : FVec Ideal S1024x2304 .bf16) (x2 x3 x4 x5 : FVec Ideal S512x128 .f32) (x6 x7 : FVec Ideal S1x128 .f32) (x8 : FVec Ideal S128x128 .bf16)

theorem whole0 : View.ld (Val := Elt Ideal) (e' := .f32) x0 r0_0 = x0 := View.ld_unit_lit (Val := Elt Ideal) (e := .f32) _ x0 (by decide)
theorem whole2 : View.ld (Val := Elt Ideal) (e' := .f32) x2 r0_1 = x2 := View.ld_unit_lit (Val := Elt Ideal) (e := .f32) _ x2 (by decide)
theorem whole6 : View.ld (Val := Elt Ideal) (e' := .f32) x6 r0_12 = x6 := View.ld_unit_lit (Val := Elt Ideal) (e := .f32) _ x6 (by decide)
theorem whole8 : View.ld (Val := Elt Ideal) (e' := .bf16) x8 r0_2 = x8 := View.ld_unit_lit (Val := Elt Ideal) (e := .bf16) _ x8 (by decide)

theorem table_at (r : Fin 512) (l : Fin 128) : k0_pay6 (F := Ideal) (View.ld (Val := Elt Ideal) (e' := .f32) x2 r0_1) (ix2 r l) = x2 (ix2 r l) := by
  rw [whole2]
  pointwise [k0_pay6]
theorem gain_at (l : Fin 128) : k0_pay32 (F := Ideal) (View.ld (Val := Elt Ideal) (e' := .f32) x6 r0_12) (ix2 0 l) = x6 (ix2 0 l) := by
  rw [whole6]
  pointwise [k0_pay32]
theorem same_at (a b : Fin 128) : k0_pay10 (F := Ideal) (View.ld (Val := Elt Ideal) (e' := .bf16) x8 r0_2) (ix2 a b) = x8 (ix2 a b) := by
  rw [whole8]
  pointwise [k0_pay10]

theorem sec_rows (o : ℕ) (inb : ∀ a, (![0, o] : Fin 2 → ℕ) a + (![1024, 512] : Fin 2 → ℕ) a ≤ S1024x2304.size a) (ho : o + 512 ≤ 2304) (r j : Fin 512) :
    k0_pay11 (F := Ideal) (k0_pay2 (F := Ideal) (View.ld (Val := Elt Ideal) (e' := .f32) x0 r0_0)) (View.ld (Val := Elt Ideal) (e' := .bf16) x1 (Rect.unit (s := S1024x2304) ![0, o] ![1024, 512] inb)) (ix2 r j)
      = tcols x0 x1 r (o + j.val) := by
  rw [whole0]
  exact sec_at x0 x1 o _ ho (fun d j => ldw_at x1 o inb ho d j) r j

variable (C S : Fin 512 → ℕ → EReal) (hca : ∀ (r : Fin 512) (l : Fin 128) (o : ℕ), o % 128 = 0 → x2 (ix2 r l) = C r (o + l.val))
  (hsa : ∀ (r : Fin 512) (l : Fin 128) (o : ℕ), o % 128 = 0 → x3 (ix2 r l) = if l.val % 64 < 32 then -S r (o + l.val) else S r (o + l.val))
include hca hsa

theorem qa_block (y : S1x512x512.Idx) : out0_9 (F := Ideal) x0 x1 x2 x3 x4 x5 x6 x7 x8 y = turnedG (fun r i => tcols x0 x1 r (0 + i)) C S 0x3E000000#32 y := by
  have H := turned_piece (fun r i => tcols x0 x1 r (0 + i)) C S _ (fun r j => sec_rows x0 x1 0 inb_S1024x2304_S1024x512_0_0 (by omega) r j)
    (k0_pay6 (F := Ideal) (View.ld (Val := Elt Ideal) (e' := .f32) x2 r0_1)) (k0_pay6 (F := Ideal) (View.ld (Val := Elt Ideal) (e' := .f32) x3 r0_1)) (fun r l o ho => (table_at x2 r l).trans (hca r l o ho)) (fun r l o ho => (table_at x3 r l).trans (hsa r l o ho)) 0x3E000000#32
  refine View.canon_apply_of_pieces (Val := Elt Ideal) (e := .bf16) (turnedG (fun r i => tcols x0 x1 r (0 + i)) C S 0x3E000000#32) _ ?_ y (cover0_9 _ _ _ _ y)
  refine List.forall_mem_cons.mpr ⟨fun x => H 384 rfl (by omega) _ (cut3 _) inb_S1x512x512_S1x512x128_0_0_384 x, ?_⟩
  refine List.forall_mem_cons.mpr ⟨fun x => H 256 rfl (by omega) _ (cut2 _) inb_S1x512x512_S1x512x128_0_0_256 x, ?_⟩
  refine List.forall_mem_cons.mpr ⟨fun x => H 128 rfl (by omega) _ (cut1 _) inb_S1x512x512_S1x512x128_0_0_128 x, ?_⟩
  refine List.forall_mem_cons.mpr ⟨fun x => H 0 rfl (by omega) _ (cut0 _) inb_S1x512x512_S1x512x128_0_0_0 x, ?_⟩
  exact fun p hp => absurd hp List.not_mem_nil

theorem ka_block (y : S1x512x512.Idx) : out0_10 (F := Ideal) x0 x1 x2 x3 x4 x5 x6 x7 x8 y = turnedG (fun r i => tcols x0 x1 r (512 + i)) C S 0x3F800000#32 y := by
  have H := turned_piece (fun r i => tcols x0 x1 r (512 + i)) C S _ (fun r j => sec_rows x0 x1 512 inb_S1024x2304_S1024x512_0_512 (by omega) r j)
    (k0_pay6 (F := Ideal) (View.ld (Val := Elt Ideal) (e' := .f32) x2 r0_1)) (k0_pay6 (F := Ideal) (View.ld (Val := Elt Ideal) (e' := .f32) x3 r0_1)) (fun r l o ho => (table_at x2 r l).trans (hca r l o ho)) (fun r l o ho => (table_at x3 r l).trans (hsa r l o ho)) 0x3F800000#32
  refine View.canon_apply_of_pieces (Val := Elt Ideal) (e := .bf16) (turnedG (fun r i => tcols x0 x1 r (512 + i)) C S 0x3F800000#32) _ ?_ y (cover0_9 _ _ _ _ y)
  refine List.forall_mem_cons.mpr ⟨fun x => H 384 rfl (by omega) _ (cut3 _) inb_S1x512x512_S1x512x128_0_0_384 x, ?_⟩
  refine List.forall_mem_cons.mpr ⟨fun x => H 256 rfl (by omega) _ (cut2 _) inb_S1x512x512_S1x512x128_0_0_256 x, ?_⟩
  refine List.forall_mem_cons.mpr ⟨fun x => H 128 rfl (by omega) _ (cut1 _) inb_S1x512x512_S1x512x128_0_0_128 x, ?_⟩
  refine List.forall_mem_cons.mpr ⟨fun x => H 0 rfl (by omega) _ (cut0 _) inb_S1x512x512_S1x512x128_0_0_0 x, ?_⟩
  exact fun p hp => absurd hp List.not_mem_nil

end

end Cert.ProjIdeal.At
-- ==== Proof.ProjKernelB.lean ====
/-
  The projection kernel's untouched values, its normalized keys, and its normalized queries laid out for their pair of key heads.
-/
module

public import proofs.«01_k».proof.Defs
public import proofs.«01_k».proof.Proof.ProjKernel

@[expose] public section

set_option maxRecDepth 16384

noncomputable section

open Idealize.ShloMosaic

namespace Cert.ProjIdeal.At

open Cert.ProjIdeal Cert.ProjIdeal.Gen Cert.ProjRow Cert.Flash

/-! ## Queries in one half of their lanes -/

/-- Each query head in its lanes: the first four heads at the left of a pair, the last four at the right, zeros beside them. -/
def placedG (Q : Fin 512 → ℕ → EReal) : S1x512x1024.Idx → EReal :=
  fun y => if ((y 2).val < 512 ↔ (y 2).val % 128 < 64) then Q (y 1) ((y 2).val / 128 * 64 + (y 2).val % 64) else 0

theorem low_at (r : Fin 512) (l : Fin 128) : k0_pay5 (iota .tc S512x128 32 [1] iota_S512x128_d1_w32) 64#32 (ix2 r l) = if l.val < 64 then 1#1 else 0#1 := by
  refine Eq.trans (b := k0_pay5 (iota .tc S512x128 32 [1] iota_S512x128_d1_w32) 64#32 (ix2 0 l)) rfl ?_
  revert l
  decide +kernel
theorem none_at (r : Fin 512) (l : Fin 128) : k0_pay33 (F := Ideal) (ix2 r l) = 0 := by
  pointwise [k0_pay33]

theorem left_piece (Q : Fin 512 → ℕ → EReal) (low : IVec S512x128 1) (hl : ∀ (r : Fin 512) (l : Fin 128), low (ix2 r l) = if l.val < 64 then 1#1 else 0#1)
    (zs : FVec Ideal S512x128 .f32) (hz : ∀ (r : Fin 512) (l : Fin 128), zs (ix2 r l) = 0) (T : FVec Ideal S512x128 .f32) (n H : ℕ) (hn : n = 128 * H) (hH : H < 4)
    (hT : ∀ (r : Fin 512) (l : Fin 128), l.val < 64 → T (ix2 r l) = Q r (64 * H + l.val))
    (inb : ∀ a, (![0, 0, n] : Fin 3 → ℕ) a + S1x512x128.size a ≤ S1x512x1024.size a) (x : S1x512x128.Idx) :
    chosen low T zs x = placedG Q ((Rect.unit (s := S1x512x1024) ![0, 0, n] S1x512x128.size inb).emb x) := by
  obtain ⟨r, l, rfl⟩ := ix_of x
  rw [wide_emb inb (by omega), chosen_at, hl]
  show _ = if (n + l.val < 512 ↔ (n + l.val) % 128 < 64) then Q r ((n + l.val) / 128 * 64 + (n + l.val) % 64) else 0
  by_cases h : l.val < 64
  · rw [if_pos h, if_pos rfl, if_pos (by omega), hT r l h]
    exact congrArg (Q r) (by omega)
  · rw [if_neg h, if_neg (by decide), if_neg (by omega), hz]

theorem right_piece (Q : Fin 512 → ℕ → EReal) (low : IVec S512x128 1) (hl : ∀ (r : Fin 512) (l : Fin 128), low (ix2 r l) = if l.val < 64 then 1#1 else 0#1)
    (zs : FVec Ideal S512x128 .f32) (hz : ∀ (r : Fin 512) (l : Fin 128), zs (ix2 r l) = 0) (T : FVec Ideal S512x128 .f32) (n H : ℕ) (hn : n = 128 * H) (hH : 4 ≤ H) (hH' : H < 8)
    (hT : ∀ (r : Fin 512) (l : Fin 128), 64 ≤ l.val → T (ix2 r l) = Q r (64 * H + (l.val - 64)))
    (inb : ∀ a, (![0, 0, n] : Fin 3 → ℕ) a + S1x512x128.size a ≤ S1x512x1024.size a) (x : S1x512x128.Idx) :
    chosen low zs T x = placedG Q ((Rect.unit (s := S1x512x1024) ![0, 0, n] S1x512x128.size inb).emb x) := by
  obtain ⟨r, l, rfl⟩ := ix_of x
  rw [wide_emb inb (by omega), chosen_at, hl]
  show _ = if (n + l.val < 512 ↔ (n + l.val) % 128 < 64) then Q r ((n + l.val) / 128 * 64 + (n + l.val) % 64) else 0
  by_cases h : l.val < 64
  · rw [if_pos h, if_pos rfl, if_neg (by omega), hz]
  · rw [if_neg h, if_neg (by decide), if_pos (by omega), hT r l (by omega)]
    exact congrArg (Q r) (by omega)

/-- A tile moved by half its lanes. -/
def halfway (t : FVec Ideal S512x128 .f32) : FVec Ideal S512x128 .f32 := dynamicRotate 1 64#32 none t rotates_S512x128_d1
theorem halfway_at (t : FVec Ideal S512x128 .f32) (r : Fin 512) (l : Fin 128) : halfway t (ix2 r l) = t (ix2 r ⟨(l.val + 64) % 128, Nat.mod_lt _ (by decide)⟩) :=
  moved_at 64#32 64 rfl (by decide) t r l

/-- A tile times one number. -/
def scaled (t : FVec Ideal S512x128 .f32) (z : BitVec 32) : FVec Ideal S512x128 .f32 := mulf t (broadcast S512x128 (Scalar.ofBits (F := Ideal) .f32 z))
theorem scaled_at (t : FVec Ideal S512x128 .f32) (z : BitVec 32) (r : Fin 512) (l : Fin 128) : scaled t z (ix2 r l) = t (ix2 r l) * Ideal.ofBits FTy.f32 z := by
  pointwise [scaled]

/-- A block laid as one sequence's. -/
def laid (t : FVec Ideal S512x512 .f32) : FVec Ideal S1x512x512 .bf16 := shapeCast S1x512x512 (truncf .bf16 t bitsLt_bf16_f32) shapeCasts_S512x512_S1x512x512
theorem laid_at (t : FVec Ideal S512x512 .f32) (r j : Fin 512) : laid t (ix3 0 r j) = t (ix2 r j) := by
  pointwise [laid]
def laid1 (t : FVec Ideal S512x128 .f32) : FVec Ideal S1x512x128 .bf16 := shapeCast S1x512x128 (truncf .bf16 t bitsLt_bf16_f32) shapeCasts_S512x128_S1x512x128
theorem laid1_at (t : FVec Ideal S512x128 .f32) (r : Fin 512) (l : Fin 128) : laid1 t (ix3 0 r l) = t (ix2 r l) := by
  pointwise [laid1]

theorem cutk (M : FVec Ideal S512x256 .f32) (r : Fin 512) (l : Fin 128) : extractStridedSlice S512x128 ![0, 0] M slices_S512x256_o0_0_S512x128 (ix2 r l) = M (ix2 r ⟨0 + l.val, by omega⟩) := by pointwise
theorem cutv (M : FVec Ideal S512x256 .f32) (r : Fin 512) (l : Fin 128) : extractStridedSlice S512x128 ![0, 128] M slices_S512x256_o0_128_S512x128 (ix2 r l) = M (ix2 r ⟨128 + l.val, by omega⟩) := by pointwise

theorem all_emb (inb : ∀ a, (![0, 0, 0] : Fin 3 → ℕ) a + S1x512x128.size a ≤ S1x512x128.size a) (x : S1x512x128.Idx) :
    (Rect.unit (s := S1x512x128) ![0, 0, 0] S1x512x128.size inb).emb x = x :=
  funext fun a => Fin.ext (match a with
    | ⟨0, _⟩ => show 0 + 1 * (x 0).val = (x 0).val by omega
    | ⟨1, _⟩ => show 0 + 1 * (x 1).val = (x 1).val by omega
    | ⟨2, _⟩ => show 0 + 1 * (x 2).val = (x 2).val by omega)
theorem all_emb5 (inb : ∀ a, (![0, 0, 0] : Fin 3 → ℕ) a + S1x512x512.size a ≤ S1x512x512.size a) (x : S1x512x512.Idx) :
    (Rect.unit (s := S1x512x512) ![0, 0, 0] S1x512x512.size inb).emb x = x :=
  funext fun a => Fin.ext (match a with
    | ⟨0, _⟩ => show 0 + 1 * (x 0).val = (x 0).val by omega
    | ⟨1, _⟩ => show 0 + 1 * (x 1).val = (x 1).val by omega
    | ⟨2, _⟩ => show 0 + 1 * (x 2).val = (x 2).val by omega)
theorem ix_of5 (x : S1x512x512.Idx) : ∃ (r j : Fin 512), x = ix3 0 r j :=
  ⟨x 1, x 2, funext fun a => by fin_cases a <;> first | rfl | exact Subsingleton.elim (α := Fin 1) _ _⟩

section
variable (x0 : FVec Ideal S1x512x1024 .f32) (x1 : FVec Ideal S1024x2304 .bf16) (x2 x3 x4 x5 : FVec Ideal S512x128 .f32) (x6 x7 : FVec Ideal S1x128 .f32) (x8 : FVec Ideal S128x128 .bf16)

theorem sec_rows' (inb : ∀ a, (![0, 2048] : Fin 2 → ℕ) a + (![1024, 256] : Fin 2 → ℕ) a ≤ S1024x2304.size a) (r : Fin 512) (j : Fin 256) :
    k0_pay54 (F := Ideal) (k0_pay2 (F := Ideal) (View.ld (Val := Elt Ideal) (e' := .f32) x0 r0_0)) (View.ld (Val := Elt Ideal) (e' := .bf16) x1 (Rect.unit (s := S1024x2304) ![0, 2048] ![1024, 256] inb)) (ix2 r j)
      = tcols x0 x1 r (2048 + j.val) := by
  rw [whole0]
  exact sec256_at x0 x1 2048 _ (by omega) (fun d j => ldw_at x1 2048 inb (by omega) d j) r j

theorem va_block (y : S1x512x512.Idx) : out0_11 (F := Ideal) x0 x1 x2 x3 x4 x5 x6 x7 x8 y = tcols x0 x1 (y 1) (1024 + (y 2).val) := by
  refine View.canon_apply_of_pieces (Val := Elt Ideal) (e := .bf16) (fun y : S1x512x512.Idx => tcols x0 x1 (y 1) (1024 + (y 2).val)) _ ?_ y (cover0_11 _ y)
  refine List.forall_mem_cons.mpr ⟨fun x => ?_, fun p hp => absurd hp List.not_mem_nil⟩
  refine Eq.trans ?_ (congrArg (fun y : S1x512x512.Idx => tcols x0 x1 (y 1) (1024 + (y 2).val)) (all_emb5 inb_S1x512x512_S1x512x512_0_0_0 x)).symm
  obtain ⟨r, j, rfl⟩ := ix_of5 x
  exact (laid_at (k0_pay11 (F := Ideal) (k0_pay2 (F := Ideal) (View.ld (Val := Elt Ideal) (e' := .f32) x0 r0_0)) (View.ld (Val := Elt Ideal) (e' := .bf16) x1 r0_9)) r j).trans
    (sec_rows x0 x1 1024 inb_S1024x2304_S1024x512_0_1024 (by omega) r j)

theorem vb_block (y : S1x512x128.Idx) : out0_14 (F := Ideal) x0 x1 x2 x3 x4 x5 x6 x7 x8 y = tcols x0 x1 (y 1) (2176 + (y 2).val) := by
  refine View.canon_apply_of_pieces (Val := Elt Ideal) (e := .bf16) (fun y : S1x512x128.Idx => tcols x0 x1 (y 1) (2176 + (y 2).val)) _ ?_ y (cover0_14 _ y)
  refine List.forall_mem_cons.mpr ⟨fun x => ?_, fun p hp => absurd hp List.not_mem_nil⟩
  refine Eq.trans ?_ (congrArg (fun y : S1x512x128.Idx => tcols x0 x1 (y 1) (2176 + (y 2).val)) (all_emb inb_S1x512x128_S1x512x128_0_0_0 x)).symm
  obtain ⟨r, l, rfl⟩ := ix_of x
  have H := (cutv _ r l).trans (sec_rows' x0 x1 inb_S1024x2304_S1024x256_0_2048 r ⟨128 + l.val, by omega⟩)
  exact (laid1_at _ r l).trans (H.trans (congrArg (tcols x0 x1 r) (show 2048 + (128 + l.val) = 2176 + l.val by omega)))

variable (C S : Fin 512 → ℕ → EReal) (hca : ∀ (r : Fin 512) (l : Fin 128) (o : ℕ), o % 128 = 0 → x4 (ix2 r l) = C r (o + l.val))
  (hsa : ∀ (r : Fin 512) (l : Fin 128) (o : ℕ), o % 128 = 0 → x5 (ix2 r l) = if l.val % 32 < 16 then -S r (o + l.val) else S r (o + l.val))
  (hgs : ∀ a b : Fin 128, x8 (ix2 a b) = if a.val / 64 = b.val / 64 then 1 else 0)
include hca hsa hgs

/-- A normalized tile, turned. -/
theorem turned_nrm (t : FVec Ideal S512x128 .f32) (g : FVec Ideal S1x128 .f32) (r : Fin 512) (o : ℕ) (ho : o % 128 = 0) (p q : ℕ → EReal)
    (ht : ∀ i : Fin 128, t (ix2 r i) = p (o + i.val)) (hp : ∀ i : Fin 128, IsR (p (o + i.val))) (hg : ∀ i : Fin 128, g (ix2 0 i) = q (i.val % 64)) (l : Fin 128) :
    ktile 112#32 16#32 k0_pay4 (normed t (k0_pay10 (F := Ideal) (View.ld (Val := Elt Ideal) (e' := .bf16) x8 r0_2)) (k0_pay32 (F := Ideal) (View.ld (Val := Elt Ideal) (e' := .f32) g r0_12)))
      (k0_pay6 (F := Ideal) (View.ld (Val := Elt Ideal) (e' := .f32) x4 r0_1)) (k0_pay6 (F := Ideal) (View.ld (Val := Elt Ideal) (e' := .f32) x5 r0_1)) (ix2 r l)
      = spin 16 (nrm p q) (C r (o + l.val)) (S r (o + l.val)) (o + l.val) :=
  ktile_spin 112#32 16#32 16 (Or.inr rfl) rfl rfl k0_pay4 mask16_at _ _ _ r l o ho (nrm p q)
    (fun i => normed_nrm t _ _ r o ho p q ht (fun i => by rw [ht]; exact hp i) (fun a b => (same_at x8 a b).trans (hgs a b)) (fun i => (gain_at g i).trans (hg i)) i)
    _ _ ((table_at x4 r l).trans (hca r l o ho)) ((table_at x5 r l).trans (hsa r l o ho))

theorem kb_block (q : ℕ → EReal) (hg : ∀ i : Fin 128, x7 (ix2 0 i) = q (i.val % 64)) (hp : ∀ (r : Fin 512) (i : ℕ), i < 128 → IsR (tcols x0 x1 r (2048 + i))) (y : S1x512x128.Idx) :
    out0_13 (F := Ideal) x0 x1 x2 x3 x4 x5 x6 x7 x8 y
      = spin 16 (nrm (fun i => tcols x0 x1 (y 1) (2048 + i)) q) (C (y 1) (y 2).val) (S (y 1) (y 2).val) (y 2).val * Ideal.ofBits FTy.f32 0x3F800000#32 := by
  refine View.canon_apply_of_pieces (Val := Elt Ideal) (e := .bf16) (fun y : S1x512x128.Idx => spin 16 (nrm (fun i => tcols x0 x1 (y 1) (2048 + i)) q) (C (y 1) (y 2).val) (S (y 1) (y 2).val) (y 2).val * Ideal.ofBits FTy.f32 0x3F800000#32) _ ?_ y (cover0_13 _ y)
  refine List.forall_mem_cons.mpr ⟨fun x => ?_, fun p hp => absurd hp List.not_mem_nil⟩
  refine Eq.trans ?_ (congrArg (fun y : S1x512x128.Idx => spin 16 (nrm (fun i => tcols x0 x1 (y 1) (2048 + i)) q) (C (y 1) (y 2).val) (S (y 1) (y 2).val) (y 2).val * Ideal.ofBits FTy.f32 0x3F800000#32) (all_emb inb_S1x512x128_S1x512x128_0_0_0 x)).symm
  obtain ⟨r, l, rfl⟩ := ix_of x
  have H := turned_nrm x4 x5 x8 C S hca hsa hgs (extractStridedSlice S512x128 ![0, 0] (k0_pay54 (F := Ideal) (k0_pay2 (F := Ideal) (View.ld (Val := Elt Ideal) (e' := .f32) x0 r0_0)) (View.ld (Val := Elt Ideal) (e' := .bf16) x1 r0_21)) slices_S512x256_o0_0_S512x128)
    x7 r 0 rfl (fun i => tcols x0 x1 r (2048 + i)) q (fun i => (cutk _ r i).trans (sec_rows' x0 x1 inb_S1024x2304_S1024x256_0_2048 r _)) (fun i => hp r _ (by omega)) hg l
  rw [Nat.zero_add] at H
  exact (stored_at _ 0x3F800000#32 r l).trans (congrArg (· * _) H)

/-- One query head's turned, normalized, scaled entries. -/
def qentry (q : ℕ → EReal) (r : Fin 512) (e : ℕ) : EReal := spin 16 (nrm (fun i => tcols x0 x1 r (1536 + i)) q) (C r e) (S r e) e * Ideal.ofBits FTy.f32 0x3E000000#32

/-- A tile of two query heads, as the kernel makes it of its columns. -/
def qtile (t : FVec Ideal S512x128 .f32) : FVec Ideal S512x128 .f32 :=
  scaled (ktile 112#32 16#32 k0_pay4 (normed t (k0_pay10 (F := Ideal) (View.ld (Val := Elt Ideal) (e' := .bf16) x8 r0_2)) (k0_pay32 (F := Ideal) (View.ld (Val := Elt Ideal) (e' := .f32) x6 r0_12)))
      (k0_pay6 (F := Ideal) (View.ld (Val := Elt Ideal) (e' := .f32) x4 r0_1)) (k0_pay6 (F := Ideal) (View.ld (Val := Elt Ideal) (e' := .f32) x5 r0_1))) 0x3E000000#32

theorem qb_block (q : ℕ → EReal) (hg : ∀ i : Fin 128, x6 (ix2 0 i) = q (i.val % 64)) (hp : ∀ (r : Fin 512) (i : ℕ), i < 512 → IsR (tcols x0 x1 r (1536 + i))) (y : S1x512x1024.Idx) :
    out0_12 (F := Ideal) x0 x1 x2 x3 x4 x5 x6 x7 x8 y = placedG (qentry x0 x1 C S q) y := by
  have M := sec_rows x0 x1 1536 inb_S1024x2304_S1024x512_0_1536 (by omega)
  have T : ∀ (o : ℕ) (ho : o % 128 = 0) (ho' : o + 128 ≤ 512) (t : FVec Ideal S512x128 .f32)
      (ht : ∀ (r : Fin 512) (l : Fin 128), t (ix2 r l) = tcols x0 x1 r (1536 + (o + l.val))) (r : Fin 512) (l : Fin 128),
      qtile x4 x5 x6 x8 t (ix2 r l) = qentry x0 x1 C S q r (o + l.val) := fun o ho ho' t ht r l =>
    (scaled_at _ _ r l).trans (congrArg (· * _) (turned_nrm x4 x5 x8 C S hca hsa hgs t x6 r o ho (fun i => tcols x0 x1 r (1536 + i)) q (fun i => ht r i) (fun i => hp r _ (by omega)) hg l))
  have T0 := T 0 rfl (by omega) _ (fun r l => (cut0 _ r l).trans (M r _))
  have T1 := T 128 rfl (by omega) _ (fun r l => (cut1 _ r l).trans (M r _))
  have T2 := T 256 rfl (by omega) _ (fun r l => (cut2 _ r l).trans (M r _))
  have T3 := T 384 rfl (by omega) _ (fun r l => (cut3 _ r l).trans (M r _))
  have L := left_piece (qentry x0 x1 C S q) _ low_at _ none_at
  have R := right_piece (qentry x0 x1 C S q) _ low_at _ none_at
  refine View.canon_apply_of_pieces (Val := Elt Ideal) (e := .bf16) (placedG (qentry x0 x1 C S q)) _ ?_ y (cover0_12 _ _ _ _ _ _ _ _ y)
  refine List.forall_mem_cons.mpr ⟨fun x => R _ 896 7 rfl (by omega) (by omega) (fun r l h => (T3 r l).trans (congrArg _ (by omega))) inb_S1x512x1024_S1x512x128_0_0_896 x, ?_⟩
  refine List.forall_mem_cons.mpr ⟨fun x => R _ 768 6 rfl (by omega) (by omega) (fun r l h => (halfway_at _ r l).trans ((T3 r _).trans (congrArg _ (show 384 + (l.val + 64) % 128 = 64 * 6 + (l.val - 64) by omega)))) inb_S1x512x1024_S1x512x128_0_0_768 x, ?_⟩
  refine List.forall_mem_cons.mpr ⟨fun x => R _ 640 5 rfl (by omega) (by omega) (fun r l h => (T2 r l).trans (congrArg _ (by omega))) inb_S1x512x1024_S1x512x128_0_0_640 x, ?_⟩
  refine List.forall_mem_cons.mpr ⟨fun x => R _ 512 4 rfl (by omega) (by omega) (fun r l h => (halfway_at _ r l).trans ((T2 r _).trans (congrArg _ (show 256 + (l.val + 64) % 128 = 64 * 4 + (l.val - 64) by omega)))) inb_S1x512x1024_S1x512x128_0_0_512 x, ?_⟩
  refine List.forall_mem_cons.mpr ⟨fun x => L _ 384 3 rfl (by omega) (fun r l h => (halfway_at _ r l).trans ((T1 r _).trans (congrArg _ (show 128 + (l.val + 64) % 128 = 64 * 3 + l.val by omega)))) inb_S1x512x1024_S1x512x128_0_0_384 x, ?_⟩
  refine List.forall_mem_cons.mpr ⟨fun x => L _ 256 2 rfl (by omega) (fun r l h => T1 r l) inb_S1x512x1024_S1x512x128_0_0_256 x, ?_⟩
  refine List.forall_mem_cons.mpr ⟨fun x => L _ 128 1 rfl (by omega) (fun r l h => (halfway_at _ r l).trans ((T0 r _).trans (congrArg _ (show 0 + (l.val + 64) % 128 = 64 * 1 + l.val by omega)))) inb_S1x512x1024_S1x512x128_0_0_128 x, ?_⟩
  refine List.forall_mem_cons.mpr ⟨fun x => L _ 0 0 rfl (by omega) (fun r l h => T0 r l) inb_S1x512x1024_S1x512x128_0_0_0 x, ?_⟩
  exact fun p hp => absurd hp List.not_mem_nil

end

end Cert.ProjIdeal.At
-- ==== Proof.ProjFinal.lean ====
/-
  The projection call's six result arrays are the reference's.
-/
module

public import proofs.«01_k».proof.Proof.ProjHost
public import proofs.«01_k».proof.Proof.ProjKernelB

@[expose] public section

set_option maxRecDepth 16384

noncomputable section

open Idealize.ShloMosaic Idealize.ShloMosaic.TcCoe Idealize.SL.Sem
open Idealize.ShloMosaic.Pipeline (Dat)

namespace Cert.ProjIdeal.At

open Cert.ProjIdeal Cert.ProjIdeal.Gen Cert.ProjRow Cert.Flash
open Cert.ProjRefIdeal.Read (val_main_v24 val_main_v25 val_main_v102 val_main_v103 val_main_v140 val_main_v141)
open Cert.ProjRefIdeal.At (cols poC poS axC axS qcols kcols qent)

/-- A word-pattern of one is one. -/
theorem ofBits_one : Ideal.ofBits FTy.f32 0x3F800000#32 = 1 := by
  simp [Ideal.ofBits, Ideal.ieee]
  rw [← EReal.coe_mul, ← EReal.coe_one]
  congr 1
  norm_num

/-! ## Tables over a lane pair -/

theorem pos_cos (r : Fin 8192) (l : Fin 128) (o : ℕ) (ho : o % 128 = 0) :
    twice (two (val_main_v24 (F := Ideal)) (val_main_v24 (F := Ideal))) (ix2 r l) = poC r (o + l.val) := by
  rw [twice_at, two_at, ite_self]
  exact congrArg (fun k => val_main_v24 (F := Ideal) (ix2 r k)) (Fin.ext (show l.val % 64 % 32 % 32 = (o + l.val) % 32 % 32 by omega))
theorem pos_sin (r : Fin 8192) (l : Fin 128) (o : ℕ) (ho : o % 128 = 0) :
    twice (two (Host.negf (val_main_v25 (F := Ideal))) (val_main_v25 (F := Ideal))) (ix2 r l) = if l.val % 64 < 32 then -poS r (o + l.val) else poS r (o + l.val) := by
  rw [twice_at, two_at]
  have hk : Fin.ofNat 32 (l.val % 64 % 32) = Fin.ofNat 32 ((o + l.val) % 32) := Fin.ext (show l.val % 64 % 32 % 32 = (o + l.val) % 32 % 32 by omega)
  show (if l.val % 64 < 32 then Host.negf (val_main_v25 (F := Ideal)) else val_main_v25 (F := Ideal) : FVec Ideal S8192x32 .f32) (ix2 r (Fin.ofNat 32 (l.val % 64 % 32))) = _
  rw [hk]
  unfold poS
  by_cases h : l.val % 64 < 32
  · rw [if_pos h, if_pos h]
    rfl
  · rw [if_neg h, if_neg h]
theorem grid_cos (r : Fin 8192) (l : Fin 128) (o : ℕ) (ho : o % 128 = 0) :
    twice (four (val_main_v102 (F := Ideal)) (val_main_v102 (F := Ideal)) (val_main_v140 (F := Ideal)) (val_main_v140 (F := Ideal))) (ix2 r l) = axC r (o + l.val) := by
  rw [twice_at, four_at, ite_self, ite_self]
  have hk : Fin.ofNat 16 (l.val % 64 % 16) = Fin.ofNat 16 ((o + l.val) % 16) := Fin.ext (show l.val % 64 % 16 % 16 = (o + l.val) % 16 % 16 by omega)
  show (if l.val % 64 < 32 then val_main_v102 (F := Ideal) else val_main_v140 (F := Ideal) : FVec Ideal S8192x16 .f32) (ix2 r (Fin.ofNat 16 (l.val % 64 % 16))) = _
  rw [hk]
  unfold axC
  have hl : (o + l.val) % 64 = l.val % 64 := by omega
  rw [hl]
theorem grid_sin (r : Fin 8192) (l : Fin 128) (o : ℕ) (ho : o % 128 = 0) :
    twice (four (Host.negf (val_main_v103 (F := Ideal))) (val_main_v103 (F := Ideal)) (Host.negf (val_main_v141 (F := Ideal))) (val_main_v141 (F := Ideal))) (ix2 r l)
      = if l.val % 32 < 16 then -axS r (o + l.val) else axS r (o + l.val) := by
  rw [twice_at, four_at]
  have hk : Fin.ofNat 16 (l.val % 64 % 16) = Fin.ofNat 16 ((o + l.val) % 16) := Fin.ext (show l.val % 64 % 16 % 16 = (o + l.val) % 16 % 16 by omega)
  show (if l.val % 64 < 32 then (if l.val % 64 % 32 < 16 then Host.negf (val_main_v103 (F := Ideal)) else val_main_v103 (F := Ideal)) else (if l.val % 64 % 32 < 16 then Host.negf (val_main_v141 (F := Ideal)) else val_main_v141 (F := Ideal)) : FVec Ideal S8192x16 .f32) (ix2 r (Fin.ofNat 16 (l.val % 64 % 16))) = _
  rw [hk]
  unfold axS
  have hl : (o + l.val) % 64 = l.val % 64 := by omega
  have hm : l.val % 64 % 32 = l.val % 32 := by omega
  rw [hl, hm]
  by_cases h : l.val % 64 < 32 <;> by_cases h' : l.val % 32 < 16
  · simp only [if_pos h, if_pos h']
    rfl
  · simp only [if_pos h, if_neg h']
  · simp only [if_neg h, if_pos h']
    rfl
  · simp only [if_neg h, if_neg h']

/-! ## The blocks of a grid point -/

variable (m : (ℓ : Loc nD τ sig) → Buf (Elt Ideal) ℓ)

theorem idx : ∀ t : Fin cfg0.N, win0_0.index t = ![t.val / 16, t.val % 16, 0] ∧ win0_1.index t = ![0, 0] ∧ win0_2.index t = ![t.val % 16, 0] ∧ win0_3.index t = ![t.val % 16, 0]
    ∧ win0_4.index t = ![t.val % 16, 0] ∧ win0_5.index t = ![t.val % 16, 0] ∧ win0_6.index t = ![0, 0] ∧ win0_7.index t = ![0, 0] ∧ win0_8.index t = ![0, 0] ∧ t.val / 16 < 8 :=
  (by decide +kernel : ∀ t : Fin grid0.N, _)
theorem idxOut : ∀ t : Fin cfg0.N, win0_9.index t = ![t.val / 16, t.val % 16, 0] ∧ win0_10.index t = ![t.val / 16, t.val % 16, 0] ∧ win0_11.index t = ![t.val / 16, t.val % 16, 0]
    ∧ win0_12.index t = ![t.val / 16, t.val % 16, 0] ∧ win0_13.index t = ![t.val / 16, t.val % 16, 0] ∧ win0_14.index t = ![t.val / 16, t.val % 16, 0] :=
  (by decide +kernel : ∀ t : Fin grid0.N, _)

/-- The sequence of a grid point, and the token of its tile's row. -/
def bt (t : Fin cfg0.N) : Fin 8 := ⟨t.val / 16, (idx t).2.2.2.2.2.2.2.2.2⟩
def nt (t : Fin cfg0.N) (r : Fin 512) : Fin 8192 := ⟨t.val % 16 * 512 + r.val, by omega⟩

theorem emb0 (t : Fin cfg0.N) (r : Fin 512) (e : Fin 1024) : (win0_0.blk t).view.emb (ix3 0 r e) = ix3 (bt t) (nt t r) e := by
  blk_ext [idx t, bt, nt]
theorem emb1 (t : Fin cfg0.N) (d : Fin 1024) (e : Fin 2304) : (win0_1.blk t).view.emb (ix2 d e) = ix2 d e := by
  blk_ext [idx t]
theorem emb2 (t : Fin cfg0.N) (r : Fin 512) (l : Fin 128) : (win0_2.blk t).view.emb (ix2 r l) = ix2 (nt t r) l := by
  blk_ext [idx t, nt]
theorem emb3 (t : Fin cfg0.N) (r : Fin 512) (l : Fin 128) : (win0_3.blk t).view.emb (ix2 r l) = ix2 (nt t r) l := by
  blk_ext [idx t, nt]
theorem emb4 (t : Fin cfg0.N) (r : Fin 512) (l : Fin 128) : (win0_4.blk t).view.emb (ix2 r l) = ix2 (nt t r) l := by
  blk_ext [idx t, nt]
theorem emb5 (t : Fin cfg0.N) (r : Fin 512) (l : Fin 128) : (win0_5.blk t).view.emb (ix2 r l) = ix2 (nt t r) l := by
  blk_ext [idx t, nt]
theorem emb6 (t : Fin cfg0.N) (l : Fin 128) : (win0_6.blk t).view.emb (ix2 0 l) = ix2 0 l := by
  blk_ext [idx t]
theorem emb7 (t : Fin cfg0.N) (l : Fin 128) : (win0_7.blk t).view.emb (ix2 0 l) = ix2 0 l := by
  blk_ext [idx t]
theorem emb8 (t : Fin cfg0.N) (a b : Fin 128) : (win0_8.blk t).view.emb (ix2 a b) = ix2 a b := by
  blk_ext [idx t]
theorem emb9 (t : Fin cfg0.N) (r : Fin 512) (e : Fin 512) : (win0_9.blk t).view.emb (ix3 0 r e) = ix3 (bt t) (nt t r) e := by
  blk_ext [idxOut t, bt, nt]
theorem emb10 (t : Fin cfg0.N) (r : Fin 512) (e : Fin 512) : (win0_10.blk t).view.emb (ix3 0 r e) = ix3 (bt t) (nt t r) e := by
  blk_ext [idxOut t, bt, nt]
theorem emb11 (t : Fin cfg0.N) (r : Fin 512) (e : Fin 512) : (win0_11.blk t).view.emb (ix3 0 r e) = ix3 (bt t) (nt t r) e := by
  blk_ext [idxOut t, bt, nt]
theorem emb12 (t : Fin cfg0.N) (r : Fin 512) (e : Fin 1024) : (win0_12.blk t).view.emb (ix3 0 r e) = ix3 (bt t) (nt t r) e := by
  blk_ext [idxOut t, bt, nt]
theorem emb13 (t : Fin cfg0.N) (r : Fin 512) (e : Fin 128) : (win0_13.blk t).view.emb (ix3 0 r e) = ix3 (bt t) (nt t r) e := by
  blk_ext [idxOut t, bt, nt]
theorem emb14 (t : Fin cfg0.N) (r : Fin 512) (e : Fin 128) : (win0_14.blk t).view.emb (ix3 0 r e) = ix3 (bt t) (nt t r) e := by
  blk_ext [idxOut t, bt, nt]

/-- The arguments, as arrays. -/
abbrev ax (c : Dev nD) : FVec Ideal S8x8192x1024 .f32 := m (c, Proc.tc.devRef main_arg0)
abbrev aw (c : Dev nD) : FVec Ideal S1024x2304 .f32 := m (c, Proc.tc.devRef main_arg1)
abbrev ag (c : Dev nD) : FVec Ideal S64 .f32 := m (c, Proc.tc.devRef main_arg2)
abbrev ak (c : Dev nD) : FVec Ideal S64 .f32 := m (c, Proc.tc.devRef main_arg3)

theorem in0_at (c : Dev nD) (t : Fin cfg0.N) (r : Fin 512) (e : Fin 1024) : (show FVec Ideal S1x512x1024 .f32 from iblk m c 0 t) (ix3 0 r e) = ax m c (ix3 (bt t) (nt t r) e) :=
  (show _ = V m c main_arg0 ((win0_0.blk t).view.emb _) by blk_simp [iblk]).trans
    ((congrArg (V m c main_arg0) (emb0 t r e)).trans (congrFun (V_0 m c) _))
theorem in1_at (c : Dev nD) (t : Fin cfg0.N) (d : Fin 1024) (e : Fin 2304) : (show FVec Ideal S1024x2304 .bf16 from iblk m c 1 t) (ix2 d e) = aw m c (ix2 d e) :=
  (show _ = V m c main_v92 ((win0_1.blk t).view.emb _) by blk_simp [iblk]).trans
    ((congrArg (V m c main_v92) (emb1 t d e)).trans (congrFun (V_1 m c) _))
theorem in2_at (c : Dev nD) (t : Fin cfg0.N) (r : Fin 512) (l : Fin 128) (o : ℕ) (ho : o % 128 = 0) : (show FVec Ideal S512x128 .f32 from iblk m c 2 t) (ix2 r l) = poC (nt t r) (o + l.val) :=
  (show _ = V m c main_v22 ((win0_2.blk t).view.emb _) by blk_simp [iblk]).trans
    ((congrArg (V m c main_v22) (emb2 t r l)).trans ((congrFun (V_2 m c) _).trans (pos_cos _ l o ho)))
theorem in3_at (c : Dev nD) (t : Fin cfg0.N) (r : Fin 512) (l : Fin 128) (o : ℕ) (ho : o % 128 = 0) : (show FVec Ideal S512x128 .f32 from iblk m c 3 t) (ix2 r l) = if l.val % 64 < 32 then -poS (nt t r) (o + l.val) else poS (nt t r) (o + l.val) :=
  (show _ = V m c main_v27 ((win0_3.blk t).view.emb _) by blk_simp [iblk]).trans
    ((congrArg (V m c main_v27) (emb3 t r l)).trans ((congrFun (V_3 m c) _).trans (pos_sin _ l o ho)))
theorem in4_at (c : Dev nD) (t : Fin cfg0.N) (r : Fin 512) (l : Fin 128) (o : ℕ) (ho : o % 128 = 0) : (show FVec Ideal S512x128 .f32 from iblk m c 4 t) (ix2 r l) = axC (nt t r) (o + l.val) :=
  (show _ = V m c main_v69 ((win0_4.blk t).view.emb _) by blk_simp [iblk]).trans
    ((congrArg (V m c main_v69) (emb4 t r l)).trans ((congrFun (V_4 m c) _).trans (by rw [V_45, V_64]; exact grid_cos _ l o ho)))
theorem in5_at (c : Dev nD) (t : Fin cfg0.N) (r : Fin 512) (l : Fin 128) (o : ℕ) (ho : o % 128 = 0) : (show FVec Ideal S512x128 .f32 from iblk m c 5 t) (ix2 r l) = if l.val % 32 < 16 then -axS (nt t r) (o + l.val) else axS (nt t r) (o + l.val) :=
  (show _ = V m c main_v75 ((win0_5.blk t).view.emb _) by blk_simp [iblk]).trans
    ((congrArg (V m c main_v75) (emb5 t r l)).trans ((congrFun (V_5 m c) _).trans (by rw [V_46, V_65]; exact grid_sin _ l o ho)))
theorem in6_at (c : Dev nD) (t : Fin cfg0.N) (l : Fin 128) : (show FVec Ideal S1x128 .f32 from iblk m c 6 t) (ix2 0 l) = ag m c (ix1 (Fin.ofNat 64 (l.val % 64))) :=
  (show _ = V m c main_v79 ((win0_6.blk t).view.emb _) by blk_simp [iblk]).trans
    ((congrArg (V m c main_v79) (emb6 t l)).trans ((congrFun (V_6 m c) _).trans (gains_at _ l)))
theorem in7_at (c : Dev nD) (t : Fin cfg0.N) (l : Fin 128) : (show FVec Ideal S1x128 .f32 from iblk m c 7 t) (ix2 0 l) = ak m c (ix1 (Fin.ofNat 64 (l.val % 64))) :=
  (show _ = V m c main_v83 ((win0_7.blk t).view.emb _) by blk_simp [iblk]).trans
    ((congrArg (V m c main_v83) (emb7 t l)).trans ((congrFun (V_7 m c) _).trans (gains_at _ l)))
theorem in8_at (c : Dev nD) (t : Fin cfg0.N) (a b : Fin 128) : (show FVec Ideal S128x128 .bf16 from iblk m c 8 t) (ix2 a b) = if a.val / 64 = b.val / 64 then 1 else 0 :=
  (show _ = V m c main_v91 ((win0_8.blk t).view.emb _) by blk_simp [iblk]).trans
    ((congrArg (V m c main_v91) (emb8 t a b)).trans ((congrFun (V_8 m c) _).trans (samehead_at a b)))

theorem tcols_eq (c : Dev nD) (t : Fin cfg0.N) (r : Fin 512) : tcols (iblk m c 0 t) (iblk m c 1 t) r = cols (ax m c) (aw m c) (bt t) (nt t r) :=
  congrArg₂ col (funext fun d => in0_at m c t r d) (funext fun d => funext fun k => in1_at m c t d k)

/-- The columns that are normalized are real, where the input and their weights are. -/
theorem cols_real (x : FVec Ideal S8x8192x1024 .f32) (w : FVec Ideal S1024x2304 .f32) (hx : ∀ i, IsR (x i)) (hw : ∀ (d : Fin 1024) (k : Fin 2304), 1536 ≤ k.val → k.val < 2176 → IsR (w (ix2 d k)))
    (n : Fin 8) (r : Fin 8192) (i : ℕ) (h1 : 1536 ≤ i) (h2 : i < 2176) : IsR (cols x w n r i) := by
  unfold cols col
  exact IsR.sum Finset.univ fun d _ => (hx (ix3 n r d)).mul (hw d ⟨i % 2304, Nat.mod_lt _ (by decide)⟩ (show 1536 ≤ i % 2304 by omega) (show i % 2304 < 2176 by omega))

/-! ## The results -/

theorem final_9 (c : Dev nD) : (dats m 0 c).arrAt 9 (cfgs 0).N = Cert.ProjRefIdeal.Read.val_main_v265 (F := Ideal) (ax m c) (aw m c) := by
  refine (dats m 0 c).arrAt_eq_of_covers 9 _ (by decide +kernel) fun t _ y => ?_
  blk_simp
  rw [after0_9]
  obtain ⟨r, j, rfl⟩ := ix_of5 y
  refine Eq.trans ?_ ((Cert.ProjRefIdeal.At.qa_at (ax m c) (aw m c) (bt t) (nt t r) j).symm.trans (congrArg _ (emb9 t r j).symm))
  refine (qa_block _ _ _ _ _ _ _ _ _ (fun r => poC (nt t r)) (fun r => poS (nt t r)) (in2_at m c t) (in3_at m c t) _).trans ?_
  show spin 32 (fun i => tcols (iblk m c 0 t) (iblk m c 1 t) r (0 + i)) _ _ _ * _ = _
  rw [tcols_eq]
  rfl

theorem final_10 (c : Dev nD) : (dats m 0 c).arrAt 10 (cfgs 0).N = Cert.ProjRefIdeal.Read.val_main_v267 (F := Ideal) (ax m c) (aw m c) := by
  refine (dats m 0 c).arrAt_eq_of_covers 10 _ (by decide +kernel) fun t _ y => ?_
  blk_simp
  rw [after0_10]
  obtain ⟨r, j, rfl⟩ := ix_of5 y
  refine Eq.trans ?_ ((Cert.ProjRefIdeal.At.ka_at (ax m c) (aw m c) (bt t) (nt t r) j).symm.trans (congrArg _ (emb10 t r j).symm))
  refine (ka_block _ _ _ _ _ _ _ _ _ (fun r => poC (nt t r)) (fun r => poS (nt t r)) (in2_at m c t) (in3_at m c t) _).trans ?_
  show spin 32 (fun i => tcols (iblk m c 0 t) (iblk m c 1 t) r (512 + i)) _ _ _ * Ideal.ofBits FTy.f32 0x3F800000#32 = _
  rw [tcols_eq, ofBits_one, mul_one]
  rfl

theorem final_11 (c : Dev nD) : (dats m 0 c).arrAt 11 (cfgs 0).N = Cert.ProjRefIdeal.Read.val_main_v268 (F := Ideal) (ax m c) (aw m c) := by
  refine (dats m 0 c).arrAt_eq_of_covers 11 _ (by decide +kernel) fun t _ y => ?_
  blk_simp
  rw [after0_11]
  obtain ⟨r, j, rfl⟩ := ix_of5 y
  refine Eq.trans ?_ ((Cert.ProjRefIdeal.At.v268_at (ax m c) (aw m c) (bt t) (nt t r) j).symm.trans (congrArg _ (emb11 t r j).symm))
  exact (va_block _ _ _ _ _ _ _ _ _ _).trans (congrFun (tcols_eq m c t r) _)

theorem final_14 (c : Dev nD) : (dats m 0 c).arrAt 14 (cfgs 0).N = Cert.ProjRefIdeal.Read.val_main_v273 (F := Ideal) (ax m c) (aw m c) := by
  refine (dats m 0 c).arrAt_eq_of_covers 14 _ (by decide +kernel) fun t _ y => ?_
  blk_simp
  rw [after0_14]
  obtain ⟨r, j, rfl⟩ := ix_of y
  refine Eq.trans ?_ ((Cert.ProjRefIdeal.At.vb_at (ax m c) (aw m c) (bt t) (nt t r) j).symm.trans (congrArg _ (emb14 t r j).symm))
  exact (vb_block _ _ _ _ _ _ _ _ _ _).trans (congrFun (tcols_eq m c t r) _)

section
variable (c : Dev nD) (hx : ∀ i, IsR (ax m c i)) (hw : ∀ (d : Fin 1024) (k : Fin 2304), 1536 ≤ k.val → k.val < 2176 → IsR (aw m c (ix2 d k)))
include hx hw

theorem final_12 : (dats m 0 c).arrAt 12 (cfgs 0).N = Cert.ProjRefIdeal.Read.val_main_v270 (F := Ideal) (ax m c) (aw m c) (ag m c) := by
  refine (dats m 0 c).arrAt_eq_of_covers 12 _ (by decide +kernel) fun t _ y => ?_
  blk_simp
  rw [after0_12]
  obtain ⟨r, j, rfl⟩ : ∃ (r : Fin 512) (l : Fin 1024), y = ix3 0 r l :=
    ⟨y 1, y 2, funext fun a => by fin_cases a <;> first | rfl | exact Subsingleton.elim (α := Fin 1) _ _⟩
  refine Eq.trans ?_ ((Cert.ProjRefIdeal.At.qb_at (ax m c) (aw m c) (ag m c) (bt t) (nt t r) j).symm.trans (congrArg _ (emb12 t r j).symm))
  refine (qb_block _ _ _ _ _ _ _ _ _ (fun r => axC (nt t r)) (fun r => axS (nt t r)) (in4_at m c t) (in5_at m c t) (in8_at m c t) (fun i => ag m c (ix1 (Fin.ofNat 64 i))) (in6_at m c t)
    (fun r i hi => by rw [tcols_eq]; exact cols_real _ _ hx hw _ _ _ (by omega) (by omega)) _).trans ?_
  have e : qentry (iblk m c 0 t) (iblk m c 1 t) (fun r => axC (nt t r)) (fun r => axS (nt t r)) (fun i => ag m c (ix1 (Fin.ofNat 64 i))) r = qent (ax m c) (aw m c) (ag m c) (bt t) (nt t r) := by
    funext e
    unfold qentry qent qcols
    rw [tcols_eq]
  show (if (j.val < 512 ↔ j.val % 128 < 64) then qentry (iblk m c 0 t) (iblk m c 1 t) (fun r => axC (nt t r)) (fun r => axS (nt t r)) (fun i => ag m c (ix1 (Fin.ofNat 64 i))) r (j.val / 128 * 64 + j.val % 64) else 0) = _
  rw [e]

theorem final_13 : (dats m 0 c).arrAt 13 (cfgs 0).N = Cert.ProjRefIdeal.Read.val_main_v272 (F := Ideal) (ax m c) (aw m c) (ak m c) := by
  refine (dats m 0 c).arrAt_eq_of_covers 13 _ (by decide +kernel) fun t _ y => ?_
  blk_simp
  rw [after0_13]
  obtain ⟨r, j, rfl⟩ := ix_of y
  refine Eq.trans ?_ ((Cert.ProjRefIdeal.At.kb_at (ax m c) (aw m c) (ak m c) (bt t) (nt t r) j).symm.trans (congrArg _ (emb13 t r j).symm))
  refine (kb_block _ _ _ _ _ _ _ _ _ (fun r => axC (nt t r)) (fun r => axS (nt t r)) (in4_at m c t) (in5_at m c t) (in8_at m c t) (fun i => ak m c (ix1 (Fin.ofNat 64 i))) (in7_at m c t)
    (fun r i hi => by rw [tcols_eq]; exact cols_real _ _ hx hw _ _ _ (by omega) (by omega)) _).trans ?_
  show spin 16 (nrm (fun i => tcols (iblk m c 0 t) (iblk m c 1 t) r (2048 + i)) _) _ _ _ * Ideal.ofBits FTy.f32 0x3F800000#32 = _
  rw [tcols_eq, ofBits_one, mul_one]
  rfl

end

end Cert.ProjIdeal.At
-- ==== Proof.ProjClaim.lean ====
/-
  The projection call's value claim: with the input and the normalized columns' weights finite, the kernel's six exact results are the reference's.
-/
module

public import proofs.«01_k».proof.Defs
public import proofs.«01_k».proof.Proof.GqaClaim
public import proofs.«01_k».proof.Proof.ProjFinal
public import proofs.«01_k».proof.Proof.Gen.ProjRefIdeal.Run
public import proofs.«01_k».proof.Proof.Gen.ProjRefIdeal.Read
public import proofs.«01_k».proof.Proof.Gen.Pre_finite_proj

@[expose] public section

set_option maxRecDepth 16384

noncomputable section

open Idealize.ShloMosaic Idealize.ShloMosaic.TcCoe Idealize.SL.Sem

namespace Cert.ProjClaim

open Cert.Flash Cert.GqaClaim

/-- Weights whose cut is real are real where it was cut. -/
theorem cut_real (w : FVec Ideal Cert.Pre_finite_proj.S1024x2304 .f32)
    (h : ∀ i, IsR (extractStridedSlice Cert.Pre_finite_proj.S1024x640 ![0, 1536] w Cert.Pre_finite_proj.Gen.slices_S1024x2304_S1024x640_0_1536 i)) (d : Fin 1024) (k : Fin 2304) (h1 : 1536 ≤ k.val) (h2 : k.val < 2176) :
    IsR (w (ix2 d k)) := by
  have e := h (ix2 d ⟨k.val - 1536, by omega⟩)
  pointwise at e
  have hk : (⟨1536 + (k.val - 1536), by omega⟩ : Fin 2304) = k := Fin.ext (show 1536 + (k.val - 1536) = k.val by omega)
  exact hk ▸ e

theorem algebraic : Cert.algebraic_ProjIdeal_ProjRefIdeal_pre_finite_proj := by
  intro m g m' g' hpre hagree
  refine ⟨fun c => (Cert.ProjIdeal.Gen.dats m 0 c).arrAt 9 (Cert.ProjIdeal.cfgs 0).N, fun c => (Cert.ProjIdeal.Gen.dats m 0 c).arrAt 10 (Cert.ProjIdeal.cfgs 0).N,
    fun c => (Cert.ProjIdeal.Gen.dats m 0 c).arrAt 11 (Cert.ProjIdeal.cfgs 0).N, fun c => (Cert.ProjIdeal.Gen.dats m 0 c).arrAt 12 (Cert.ProjIdeal.cfgs 0).N,
    fun c => (Cert.ProjIdeal.Gen.dats m 0 c).arrAt 13 (Cert.ProjIdeal.cfgs 0).N, fun c => (Cert.ProjIdeal.Gen.dats m 0 c).arrAt 14 (Cert.ProjIdeal.cfgs 0).N,
    Cert.ProjIdeal.Value.run_blocks m g, ?_⟩
  refine (θ_run _ _ _).mono (fun r h c => ?_) (Cert.ProjRefIdeal.Value.run m' g')
  obtain ⟨h0, h1, h2, h3⟩ := hagree c
  have hp := hpre c
  have hx : ∀ i, IsR (Cert.ProjIdeal.At.ax m c i) := fun i => isR_of_mask _ _ _ (fun _ => GqaIdeal.At.ofBits_bot) (fun _ => ofBits_top) hp.1 i
  have hw := cut_real (Cert.ProjIdeal.At.aw m c) (fun i => isR_of_mask _ _ _ (fun _ => GqaIdeal.At.ofBits_bot) (fun _ => ofBits_top) hp.2 i)
  obtain ⟨q0, q1, q2, q3, q4, q5, rest⟩ := h c
  refine ⟨q0.trans ((Cert.ProjRefIdeal.Read.val_main_v265_eq _).trans (Eq.trans ?_ (Cert.ProjIdeal.At.final_9 m c).symm)),
    q1.trans ((Cert.ProjRefIdeal.Read.val_main_v267_eq _).trans (Eq.trans ?_ (Cert.ProjIdeal.At.final_10 m c).symm)),
    q2.trans ((Cert.ProjRefIdeal.Read.val_main_v268_eq _).trans (Eq.trans ?_ (Cert.ProjIdeal.At.final_11 m c).symm)),
    q3.trans ((Cert.ProjRefIdeal.Read.val_main_v270_eq _).trans (Eq.trans ?_ (Cert.ProjIdeal.At.final_12 m c hx hw).symm)),
    q4.trans ((Cert.ProjRefIdeal.Read.val_main_v272_eq _).trans (Eq.trans ?_ (Cert.ProjIdeal.At.final_13 m c hx hw).symm)),
    q5.trans ((Cert.ProjRefIdeal.Read.val_main_v273_eq _).trans (Eq.trans ?_ (Cert.ProjIdeal.At.final_14 m c).symm)), rest⟩
  · exact congrArg₂ (Cert.ProjRefIdeal.Read.val_main_v265 (F := Ideal)) h0 h1
  · exact congrArg₂ (Cert.ProjRefIdeal.Read.val_main_v267 (F := Ideal)) h0 h1
  · exact congrArg₂ (Cert.ProjRefIdeal.Read.val_main_v268 (F := Ideal)) h0 h1
  · exact congr (congrArg₂ (Cert.ProjRefIdeal.Read.val_main_v270 (F := Ideal)) h0 h1) h2
  · exact congr (congrArg₂ (Cert.ProjRefIdeal.Read.val_main_v272 (F := Ideal)) h0 h1) h3
  · exact congrArg₂ (Cert.ProjRefIdeal.Read.val_main_v273 (F := Ideal)) h0 h1

end Cert.ProjClaim
-- ==== Proof.lean ====
module

public import proofs.«01_k».proof.Defs
public import proofs.«01_k».proof.Proof.Gen.Gqa
public import proofs.«01_k».proof.Proof.Gen.Gqa.Skeleton
public import proofs.«01_k».proof.Proof.Gen.Gqa.Loops
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Loops
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.MixRefIdeal
public import proofs.«01_k».proof.Proof.Gen.MemkvRefIdeal
public import proofs.«01_k».proof.Proof.Gen.Pre_finite_mix
public import proofs.«01_k».proof.Proof.Gen.Pre_finite_qk
public import proofs.«01_k».proof.Proof.Gen.Pre_finite_proj
public import Idealize.ShloMosaic.Adequacy
public import Idealize.ShloMosaic.Init
import proofs.«01_k».proof.Proof.Gen.GqaIdeal.Value
import proofs.«01_k».proof.Proof.GqaClaim
import proofs.«01_k».proof.Proof.FfnClaim
import proofs.«01_k».proof.Proof.MixClaim
import proofs.«01_k».proof.Proof.MemkvClaim
import proofs.«01_k».proof.Proof.ProjClaim
import proofs.«01_k».proof.Proof.Gen.GqaRefIdeal.Run
import proofs.«01_k».proof.Proof.Gen.GqaRefIdeal.Read
import proofs.«01_k».proof.Proof.Gen.FfnIdeal.Value
import proofs.«01_k».proof.Proof.Gen.FfnRefIdeal.Run
import proofs.«01_k».proof.Proof.Gen.FfnRefIdeal.Read
import proofs.«01_k».proof.Proof.Gen.MixIdeal.Value
import proofs.«01_k».proof.Proof.Gen.MixRefIdeal.Run
import proofs.«01_k».proof.Proof.Gen.MixRefIdeal.Read
import proofs.«01_k».proof.Proof.Gen.MemkvIdeal.Value
import proofs.«01_k».proof.Proof.Gen.MemkvRefIdeal.Run
import proofs.«01_k».proof.Proof.Gen.MemkvRefIdeal.Read
import proofs.«01_k».proof.Proof.Gen.ProjIdeal.Value
import proofs.«01_k».proof.Proof.Gen.ProjRefIdeal.Run
import proofs.«01_k».proof.Proof.Gen.ProjRefIdeal.Read

@[expose] public section

noncomputable section

namespace Cert.Proof

open Idealize.ShloMosaic Idealize.SL.Sem Cert.Gqa

theorem claim : Cert.Claim := ⟨Cert.Gqa.Gen.facts, Cert.GqaIdeal.Gen.facts, Cert.GqaRefIdeal.Gen.facts, Cert.Ffn.Gen.facts, Cert.FfnIdeal.Gen.facts, Cert.FfnRefIdeal.Gen.facts, Cert.Mix.Gen.facts, Cert.MixIdeal.Gen.facts, Cert.MixRefIdeal.Gen.facts, Cert.Memkv.Gen.facts, Cert.MemkvIdeal.Gen.facts, Cert.MemkvRefIdeal.Gen.facts, Cert.Proj.Gen.facts, Cert.ProjIdeal.Gen.facts, Cert.ProjRefIdeal.Gen.facts, Cert.Pre_finite_qk.Gen.facts, Cert.Pre_finite_mix.Gen.facts, Cert.Pre_finite_proj.Gen.facts, by
  refine ⟨fun m ρ _ => Cert.Gqa.Gen.frame m ρ, fun m ρ _ => Cert.GqaIdeal.Gen.frame m ρ, fun m ρ _ => Cert.GqaIdeal.Gen.frame m ρ, ?_, ?_,
    fun m ρ _ => Cert.Ffn.Gen.frame m ρ, fun m ρ _ => Cert.FfnIdeal.Gen.frame m ρ, ?_,
    fun m ρ _ => Cert.Mix.Gen.frame m ρ, fun m ρ _ => Cert.MixIdeal.Gen.frame m ρ, fun m ρ _ => Cert.MixIdeal.Gen.frame m ρ, ?_, ?_,
    fun m ρ _ => Cert.Memkv.Gen.frame m ρ, fun m ρ _ => Cert.MemkvIdeal.Gen.frame m ρ, ?_,
    fun m ρ _ => Cert.Proj.Gen.frame m ρ, fun m ρ _ => Cert.ProjIdeal.Gen.frame m ρ, fun m ρ _ => Cert.ProjIdeal.Gen.frame m ρ, ?_, ?_,
    trivial, Cert.GqaClaim.algebraic, trivial, Cert.FfnClaim.algebraic, trivial, Cert.MixClaim.algebraic, trivial, Cert.MemkvClaim.algebraic, trivial, Cert.ProjClaim.algebraic⟩
  all_goals intro m g _
  -- a reference runs no semaphore and leaves its arguments as they were
  · exact (θ_run _ _ _).mono (fun r h => ⟨fun c => (h c).2, sem_eq_zero_of_no_sems (by decide) r.2⟩) (Cert.GqaRefIdeal.Value.run m g)
  · exact (θ_run _ _ _).mono (fun r h => ⟨fun c => (h c).2, sem_eq_zero_of_no_sems (by decide) r.2⟩) (Cert.GqaRefIdeal.Value.run m g)
  · exact (θ_run _ _ _).mono (fun r h => ⟨fun c => (h c).2, sem_eq_zero_of_no_sems (by decide) r.2⟩) (Cert.FfnRefIdeal.Value.run m g)
  · exact (θ_run _ _ _).mono (fun r h => ⟨fun c => (h c).2, sem_eq_zero_of_no_sems (by decide) r.2⟩) (Cert.MixRefIdeal.Value.run m g)
  · exact (θ_run _ _ _).mono (fun r h => ⟨fun c => (h c).2, sem_eq_zero_of_no_sems (by decide) r.2⟩) (Cert.MixRefIdeal.Value.run m g)
  · exact (θ_run _ _ _).mono (fun r h => ⟨fun c => (h c).2.2, sem_eq_zero_of_no_sems (by decide) r.2⟩) (Cert.MemkvRefIdeal.Value.run m g)
  · exact (θ_run _ _ _).mono (fun r h => ⟨fun c => (h c).2.2.2.2.2.2, sem_eq_zero_of_no_sems (by decide) r.2⟩) (Cert.ProjRefIdeal.Value.run m g)
  · exact (θ_run _ _ _).mono (fun r h => ⟨fun c => (h c).2.2.2.2.2.2, sem_eq_zero_of_no_sems (by decide) r.2⟩) (Cert.ProjRefIdeal.Value.run m g)⟩

end Cert.Proof

end
